-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Mqkv (m : (ℓ : Loc Cert.Mqkv.nD Cert.Mqkv.τ Cert.Mqkv.sig) → Buf (Elt Bits) ℓ) : Prop :=
  True

def Pre_MqkvIdeal (m : (ℓ : Loc Cert.MqkvIdeal.nD Cert.MqkvIdeal.τ Cert.MqkvIdeal.sig) → Buf (Elt Ideal) ℓ) : Prop :=
  True

def Pre_MqkvRefIdeal (m : (ℓ : Loc Cert.MqkvRefIdeal.nD Cert.MqkvRefIdeal.τ Cert.MqkvRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Aqkv (m : (ℓ : Loc Cert.Aqkv.nD Cert.Aqkv.τ Cert.Aqkv.sig) → Buf (Elt Bits) ℓ) : Prop :=
  True

def Pre_AqkvIdeal (m : (ℓ : Loc Cert.AqkvIdeal.nD Cert.AqkvIdeal.τ Cert.AqkvIdeal.sig) → Buf (Elt Ideal) ℓ) : Prop :=
  True

def Pre_AqkvRefIdeal (m : (ℓ : Loc Cert.AqkvRefIdeal.nD Cert.AqkvRefIdeal.τ Cert.AqkvRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmIdeal_mlstm_finite [hPre_mlstm_finite : Cert.Pre_mlstm_finite.Facts] (m : (ℓ : Loc Cert.MlstmIdeal.nD Cert.MlstmIdeal.τ Cert.MlstmIdeal.sig) → Buf (Elt Ideal) ℓ) : Prop :=
  ∀ c : Dev Cert.MlstmIdeal.nD,
    (Cert.Pre_mlstm_finite.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5)) (m ((c.tc : Thread Cert.MlstmIdeal.nD Cert.MlstmIdeal.τ).loc Cert.MlstmIdeal.main_arg6))) = (fun _ => 1#1)

def Pre_MlstmRefIdeal (m : (ℓ : Loc Cert.MlstmRefIdeal.nD Cert.MlstmRefIdeal.τ Cert.MlstmRefIdeal.sig) → Buf (Elt Ideal) ℓ) : Prop :=
  True

def Pre_MlstmRefIdeal_mlstm_finite [hPre_mlstm_finite : Cert.Pre_mlstm_finite.Facts] (m : (ℓ : Loc Cert.MlstmRefIdeal.nD Cert.MlstmRefIdeal.τ Cert.MlstmRefIdeal.sig) → Buf (Elt Ideal) ℓ) : Prop :=
  ∀ c : Dev Cert.MlstmRefIdeal.nD,
    (Cert.Pre_mlstm_finite.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5)) (m ((c.tc : Thread Cert.MlstmRefIdeal.nD Cert.MlstmRefIdeal.τ).loc Cert.MlstmRefIdeal.main_arg6))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Mqkv [hMqkv : Cert.Mqkv.Facts] : Prop :=
  ∀ (m : (ℓ : Loc Cert.Mqkv.nD Cert.Mqkv.τ Cert.Mqkv.sig) → Buf (Elt Bits) ℓ) (g : Dev Cert.Mqkv.nD → PrngReg), Pre_Mqkv m →
    θ_run (Cert.Mqkv.defs (F := Bits)) (onTc (τ := Cert.Mqkv.τ) (Cert.Mqkv.main (F := Bits))) ⟨m, fun _ => 0, g⟩ (fun r => (∀ c : Dev Cert.Mqkv.nD,
      r.2.mem ((c.tc : Thread Cert.Mqkv.nD Cert.Mqkv.τ).loc Cert.Mqkv.main_arg0) = m ((c.tc : Thread Cert.Mqkv.nD Cert.Mqkv.τ).loc Cert.Mqkv.main_arg0)
      ∧ r.2.mem ((c.tc : Thread Cert.Mqkv.nD Cert.Mqkv.τ).loc Cert.Mqkv.main_arg1) = m ((c.tc : Thread Cert.Mqkv.nD Cert.Mqkv.τ).loc Cert.Mqkv.main_arg1))
      ∧ r.2.sem = fun _ => 0)

def quiescent_MqkvIdeal [hMqkvIdeal : Cert.MqkvIdeal.Facts] : Prop :=
  ∀ (m : (ℓ : Loc Cert.MqkvIdeal.nD Cert.MqkvIdeal.τ Cert.MqkvIdeal.sig) → Buf (Elt Ideal) ℓ) (g : Dev Cert.MqkvIdeal.nD → PrngReg), Pre_MqkvIdeal m →
    θ_run (Cert.MqkvIdeal.defs (F := Ideal)) (onTc (τ := Cert.MqkvIdeal.τ) (Cert.MqkvIdeal.main (F := Ideal))) ⟨m, fun _ => 0, g⟩ (fun r => (∀ c : Dev Cert.MqkvIdeal.nD,
      r.2.mem ((c.tc : Thread Cert.MqkvIdeal.nD Cert.MqkvIdeal.τ).loc Cert.MqkvIdeal.main_arg0) = m ((c.tc : Thread Cert.MqkvIdeal.nD Cert.MqkvIdeal.τ).loc Cert.MqkvIdeal.main_arg0)
      ∧ r.2.mem ((c.tc : Thread Cert.MqkvIdeal.nD Cert.MqkvIdeal.τ).loc Cert.MqkvIdeal.main_arg1) = m ((c.tc : Thread Cert.MqkvIdeal.nD Cert.MqkvIdeal.τ).loc Cert.MqkvIdeal.main_arg1))
      ∧ r.2.sem = fun _ => 0)

def quiescent_MqkvRefIdeal [hMqkvRefIdeal : Cert.MqkvRefIdeal.Facts] : Prop :=
  ∀ (m : (ℓ : Loc Cert.MqkvRefIdeal.nD Cert.MqkvRefIdeal.τ Cert.MqkvRefIdeal.sig) → Buf (Elt Ideal) ℓ) (g : Dev Cert.MqkvRefIdeal.nD → PrngReg), Pre_MqkvRefIdeal m →
    θ_run (Cert.MqkvRefIdeal.defs (F := Ideal)) (onTc (τ := Cert.MqkvRefIdeal.τ) (Cert.MqkvRefIdeal.main (F := Ideal))) ⟨m, fun _ => 0, g⟩ (fun r => (∀ c : Dev Cert.MqkvRefIdeal.nD,
      r.2.mem ((c.tc : Thread Cert.MqkvRefIdeal.nD Cert.MqkvRefIdeal.τ).loc Cert.MqkvRefIdeal.main_arg0) = m ((c.tc : Thread Cert.MqkvRefIdeal.nD Cert.MqkvRefIdeal.τ).loc Cert.MqkvRefIdeal.main_arg0)
      ∧ r.2.mem ((c.tc : Thread Cert.MqkvRefIdeal.nD Cert.MqkvRefIdeal.τ).loc Cert.MqkvRefIdeal.main_arg1) = m ((c.tc : Thread Cert.MqkvRefIdeal.nD Cert.MqkvRefIdeal.τ).loc Cert.MqkvRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Aqkv [hAqkv : Cert.Aqkv.Facts] : Prop :=
  ∀ (m : (ℓ : Loc Cert.Aqkv.nD Cert.Aqkv.τ Cert.Aqkv.sig) → Buf (Elt Bits) ℓ) (g : Dev Cert.Aqkv.nD → PrngReg), Pre_Aqkv m →
    θ_run (Cert.Aqkv.defs (F := Bits)) (onTc (τ := Cert.Aqkv.τ) (Cert.Aqkv.main (F := Bits))) ⟨m, fun _ => 0, g⟩ (fun r => (∀ c : Dev Cert.Aqkv.nD,
      r.2.mem ((c.tc : Thread Cert.Aqkv.nD Cert.Aqkv.τ).loc Cert.Aqkv.main_arg0) = m ((c.tc : Thread Cert.Aqkv.nD Cert.Aqkv.τ).loc Cert.Aqkv.main_arg0)
      ∧ r.2.mem ((c.tc : Thread Cert.Aqkv.nD Cert.Aqkv.τ).loc Cert.Aqkv.main_arg1) = m ((c.tc : Thread Cert.Aqkv.nD Cert.Aqkv.τ).loc Cert.Aqkv.main_arg1))
      ∧ r.2.sem = fun _ => 0)

def quiescent_AqkvIdeal [hAqkvIdeal : Cert.AqkvIdeal.Facts] : Prop :=
  ∀ (m : (ℓ : Loc Cert.AqkvIdeal.nD Cert.AqkvIdeal.τ Cert.AqkvIdeal.sig) → Buf (Elt Ideal) ℓ) (g : Dev Cert.AqkvIdeal.nD → PrngReg), Pre_AqkvIdeal m →
    θ_run (Cert.AqkvIdeal.defs (F := Ideal)) (onTc (τ := Cert.AqkvIdeal.τ) (Cert.AqkvIdeal.main (F := Ideal))) ⟨m, fun _ => 0, g⟩ (fun r => (∀ c : Dev Cert.AqkvIdeal.nD,
      r.2.mem ((c.tc : Thread Cert.AqkvIdeal.nD Cert.AqkvIdeal.τ).loc Cert.AqkvIdeal.main_arg0) = m ((c.tc : Thread Cert.AqkvIdeal.nD Cert.AqkvIdeal.τ).loc Cert.AqkvIdeal.main_arg0)
      ∧ r.2.mem ((c.tc : Thread Cert.AqkvIdeal.nD Cert.AqkvIdeal.τ).loc Cert.AqkvIdeal.main_arg1) = m ((c.tc : Thread Cert.AqkvIdeal.nD Cert.AqkvIdeal.τ).loc Cert.AqkvIdeal.main_arg1))
      ∧ r.2.sem = fun _ => 0)

def quiescent_AqkvRefIdeal [hAqkvRefIdeal : Cert.AqkvRefIdeal.Facts] : Prop :=
  ∀ (m : (ℓ : Loc Cert.AqkvRefIdeal.nD Cert.AqkvRefIdeal.τ Cert.AqkvRefIdeal.sig) → Buf (Elt Ideal) ℓ) (g : Dev Cert.AqkvRefIdeal.nD → PrngReg), Pre_AqkvRefIdeal m →
    θ_run (Cert.AqkvRefIdeal.defs (F := Ideal)) (onTc (τ := Cert.AqkvRefIdeal.τ) (Cert.AqkvRefIdeal.main (F := Ideal))) ⟨m, fun _ => 0, g⟩ (fun r => (∀ c : Dev Cert.AqkvRefIdeal.nD,
      r.2.mem ((c.tc : Thread Cert.AqkvRefIdeal.nD Cert.AqkvRefIdeal.τ).loc Cert.AqkvRefIdeal.main_arg0) = m ((c.tc : Thread Cert.AqkvRefIdeal.nD Cert.AqkvRefIdeal.τ).loc Cert.AqkvRefIdeal.main_arg0)
      ∧ r.2.mem ((c.tc : Thread Cert.AqkvRefIdeal.nD Cert.AqkvRefIdeal.τ).loc Cert.AqkvRefIdeal.main_arg1) = m ((c.tc : Thread Cert.AqkvRefIdeal.nD Cert.AqkvRefIdeal.τ).loc Cert.AqkvRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4)
      ∧ r.2.mem ((c.tc : Thread Cert.Mlstm.nD Cert.Mlstm.τ).loc Cert.Mlstm.main_arg5) = m ((c.tc : Thread Cert.Mlstm.nD Cert.Mlstm.τ).loc Cert.Mlstm.main_arg5)
      ∧ r.2.mem ((c.tc : Thread Cert.Mlstm.nD Cert.Mlstm.τ).loc Cert.Mlstm.main_arg6) = m ((c.tc : Thread Cert.Mlstm.nD Cert.Mlstm.τ).loc Cert.Mlstm.main_arg6))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
      ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6))
      ∧ r.2.sem = fun _ => 0)

def quiescent_MlstmIdeal_pre_mlstm_finite [hMlstmIdeal : Cert.MlstmIdeal.Facts] [hPre_mlstm_finite : Cert.Pre_mlstm_finite.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal_mlstm_finite m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
      ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
      ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5)
      ∧ r.2.mem ((c.tc : Thread Cert.MlstmRefIdeal.nD Cert.MlstmRefIdeal.τ).loc Cert.MlstmRefIdeal.main_arg6) = m ((c.tc : Thread Cert.MlstmRefIdeal.nD Cert.MlstmRefIdeal.τ).loc Cert.MlstmRefIdeal.main_arg6))
      ∧ r.2.sem = fun _ => 0)

def quiescent_MlstmRefIdeal_pre_mlstm_finite [hMlstmRefIdeal : Cert.MlstmRefIdeal.Facts] [hPre_mlstm_finite : Cert.Pre_mlstm_finite.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal_mlstm_finite m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
      ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5)
      ∧ r.2.mem ((c.tc : Thread Cert.MlstmRefIdeal.nD Cert.MlstmRefIdeal.τ).loc Cert.MlstmRefIdeal.main_arg6) = m ((c.tc : Thread Cert.MlstmRefIdeal.nD Cert.MlstmRefIdeal.τ).loc Cert.MlstmRefIdeal.main_arg6))
      ∧ r.2.sem = fun _ => 0)

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v41)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v41) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v51) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Mqkv_MqkvIdeal : Prop :=
  True

def algebraic_MqkvIdeal_MqkvRefIdeal [hMqkvIdeal : Cert.MqkvIdeal.Facts] [hMqkvRefIdeal : Cert.MqkvRefIdeal.Facts] : Prop :=
  ∀ (m : (ℓ : Loc Cert.MqkvIdeal.nD Cert.MqkvIdeal.τ Cert.MqkvIdeal.sig) → Buf (Elt Ideal) ℓ) (g : Dev Cert.MqkvIdeal.nD → PrngReg)
    (m' : (ℓ : Loc Cert.MqkvRefIdeal.nD Cert.MqkvRefIdeal.τ Cert.MqkvRefIdeal.sig) → Buf (Elt Ideal) ℓ) (g' : Dev Cert.MqkvRefIdeal.nD → PrngReg), Pre_MqkvIdeal m →
    (∀ c : Dev Cert.MqkvIdeal.nD,
      m' ((c.tc : Thread Cert.MqkvRefIdeal.nD Cert.MqkvRefIdeal.τ).loc Cert.MqkvRefIdeal.main_arg0) = m ((c.tc : Thread Cert.MqkvIdeal.nD Cert.MqkvIdeal.τ).loc Cert.MqkvIdeal.main_arg0)
      ∧ m' ((c.tc : Thread Cert.MqkvRefIdeal.nD Cert.MqkvRefIdeal.τ).loc Cert.MqkvRefIdeal.main_arg1) = m ((c.tc : Thread Cert.MqkvIdeal.nD Cert.MqkvIdeal.τ).loc Cert.MqkvIdeal.main_arg1)) →
    ∃ (v0 : (c : Dev Cert.MqkvIdeal.nD) → Buf (Elt Ideal) ((c.tc : Thread Cert.MqkvIdeal.nD Cert.MqkvIdeal.τ).loc Cert.MqkvIdeal.main_v11)),
      θ_run (Cert.MqkvIdeal.defs (F := Ideal)) (onTc (τ := Cert.MqkvIdeal.τ) (Cert.MqkvIdeal.main (F := Ideal))) ⟨m, fun _ => 0, g⟩ (fun r => ∀ c : Dev Cert.MqkvIdeal.nD,
          r.2.mem ((c.tc : Thread Cert.MqkvIdeal.nD Cert.MqkvIdeal.τ).loc Cert.MqkvIdeal.main_v11) = v0 c
          ∧ r.2.mem ((c.tc : Thread Cert.MqkvIdeal.nD Cert.MqkvIdeal.τ).loc Cert.MqkvIdeal.main_arg0) = m ((c.tc : Thread Cert.MqkvIdeal.nD Cert.MqkvIdeal.τ).loc Cert.MqkvIdeal.main_arg0)
          ∧ r.2.mem ((c.tc : Thread Cert.MqkvIdeal.nD Cert.MqkvIdeal.τ).loc Cert.MqkvIdeal.main_arg1) = m ((c.tc : Thread Cert.MqkvIdeal.nD Cert.MqkvIdeal.τ).loc Cert.MqkvIdeal.main_arg1))
      ∧ θ_run (Cert.MqkvRefIdeal.defs (F := Ideal)) (onTc (τ := Cert.MqkvRefIdeal.τ) (Cert.MqkvRefIdeal.main (F := Ideal))) ⟨m', fun _ => 0, g'⟩ (fun r => ∀ c : Dev Cert.MqkvRefIdeal.nD,
          r.2.mem ((c.tc : Thread Cert.MqkvRefIdeal.nD Cert.MqkvRefIdeal.τ).loc Cert.MqkvRefIdeal.main_v15) = v0 c
          ∧ r.2.mem ((c.tc : Thread Cert.MqkvRefIdeal.nD Cert.MqkvRefIdeal.τ).loc Cert.MqkvRefIdeal.main_arg0) = m' ((c.tc : Thread Cert.MqkvRefIdeal.nD Cert.MqkvRefIdeal.τ).loc Cert.MqkvRefIdeal.main_arg0)
          ∧ r.2.mem ((c.tc : Thread Cert.MqkvRefIdeal.nD Cert.MqkvRefIdeal.τ).loc Cert.MqkvRefIdeal.main_arg1) = m' ((c.tc : Thread Cert.MqkvRefIdeal.nD Cert.MqkvRefIdeal.τ).loc Cert.MqkvRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v6)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v6) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v31) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Aqkv_AqkvIdeal : Prop :=
  True

def algebraic_AqkvIdeal_AqkvRefIdeal [hAqkvIdeal : Cert.AqkvIdeal.Facts] [hAqkvRefIdeal : Cert.AqkvRefIdeal.Facts] : Prop :=
  ∀ (m : (ℓ : Loc Cert.AqkvIdeal.nD Cert.AqkvIdeal.τ Cert.AqkvIdeal.sig) → Buf (Elt Ideal) ℓ) (g : Dev Cert.AqkvIdeal.nD → PrngReg)
    (m' : (ℓ : Loc Cert.AqkvRefIdeal.nD Cert.AqkvRefIdeal.τ Cert.AqkvRefIdeal.sig) → Buf (Elt Ideal) ℓ) (g' : Dev Cert.AqkvRefIdeal.nD → PrngReg), Pre_AqkvIdeal m →
    (∀ c : Dev Cert.AqkvIdeal.nD,
      m' ((c.tc : Thread Cert.AqkvRefIdeal.nD Cert.AqkvRefIdeal.τ).loc Cert.AqkvRefIdeal.main_arg0) = m ((c.tc : Thread Cert.AqkvIdeal.nD Cert.AqkvIdeal.τ).loc Cert.AqkvIdeal.main_arg0)
      ∧ m' ((c.tc : Thread Cert.AqkvRefIdeal.nD Cert.AqkvRefIdeal.τ).loc Cert.AqkvRefIdeal.main_arg1) = m ((c.tc : Thread Cert.AqkvIdeal.nD Cert.AqkvIdeal.τ).loc Cert.AqkvIdeal.main_arg1)) →
    ∃ (v0 : (c : Dev Cert.AqkvIdeal.nD) → Buf (Elt Ideal) ((c.tc : Thread Cert.AqkvIdeal.nD Cert.AqkvIdeal.τ).loc Cert.AqkvIdeal.main_v6_0)) (v1 : (c : Dev Cert.AqkvIdeal.nD) → Buf (Elt Ideal) ((c.tc : Thread Cert.AqkvIdeal.nD Cert.AqkvIdeal.τ).loc Cert.AqkvIdeal.main_v6_1)),
      θ_run (Cert.AqkvIdeal.defs (F := Ideal)) (onTc (τ := Cert.AqkvIdeal.τ) (Cert.AqkvIdeal.main (F := Ideal))) ⟨m, fun _ => 0, g⟩ (fun r => ∀ c : Dev Cert.AqkvIdeal.nD,
          r.2.mem ((c.tc : Thread Cert.AqkvIdeal.nD Cert.AqkvIdeal.τ).loc Cert.AqkvIdeal.main_v6_0) = v0 c
          ∧ r.2.mem ((c.tc : Thread Cert.AqkvIdeal.nD Cert.AqkvIdeal.τ).loc Cert.AqkvIdeal.main_v6_1) = v1 c
          ∧ r.2.mem ((c.tc : Thread Cert.AqkvIdeal.nD Cert.AqkvIdeal.τ).loc Cert.AqkvIdeal.main_arg0) = m ((c.tc : Thread Cert.AqkvIdeal.nD Cert.AqkvIdeal.τ).loc Cert.AqkvIdeal.main_arg0)
          ∧ r.2.mem ((c.tc : Thread Cert.AqkvIdeal.nD Cert.AqkvIdeal.τ).loc Cert.AqkvIdeal.main_arg1) = m ((c.tc : Thread Cert.AqkvIdeal.nD Cert.AqkvIdeal.τ).loc Cert.AqkvIdeal.main_arg1))
      ∧ θ_run (Cert.AqkvRefIdeal.defs (F := Ideal)) (onTc (τ := Cert.AqkvRefIdeal.τ) (Cert.AqkvRefIdeal.main (F := Ideal))) ⟨m', fun _ => 0, g'⟩ (fun r => ∀ c : Dev Cert.AqkvRefIdeal.nD,
          r.2.mem ((c.tc : Thread Cert.AqkvRefIdeal.nD Cert.AqkvRefIdeal.τ).loc Cert.AqkvRefIdeal.main_v13) = v0 c
          ∧ r.2.mem ((c.tc : Thread Cert.AqkvRefIdeal.nD Cert.AqkvRefIdeal.τ).loc Cert.AqkvRefIdeal.main_v12) = v1 c
          ∧ r.2.mem ((c.tc : Thread Cert.AqkvRefIdeal.nD Cert.AqkvRefIdeal.τ).loc Cert.AqkvRefIdeal.main_arg0) = m' ((c.tc : Thread Cert.AqkvRefIdeal.nD Cert.AqkvRefIdeal.τ).loc Cert.AqkvRefIdeal.main_arg0)
          ∧ r.2.mem ((c.tc : Thread Cert.AqkvRefIdeal.nD Cert.AqkvRefIdeal.τ).loc Cert.AqkvRefIdeal.main_arg1) = m' ((c.tc : Thread Cert.AqkvRefIdeal.nD Cert.AqkvRefIdeal.τ).loc Cert.AqkvRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v38) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_Mlstm_MlstmIdeal : Prop :=
  True

def algebraic_MlstmIdeal_MlstmRefIdeal_pre_mlstm_finite [hMlstmIdeal : Cert.MlstmIdeal.Facts] [hMlstmRefIdeal : Cert.MlstmRefIdeal.Facts] [hPre_mlstm_finite : Cert.Pre_mlstm_finite.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal_mlstm_finite m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)
      ∧ m' ((c.tc : Thread Cert.MlstmRefIdeal.nD Cert.MlstmRefIdeal.τ).loc Cert.MlstmRefIdeal.main_arg2) = m ((c.tc : Thread Cert.MlstmIdeal.nD Cert.MlstmIdeal.τ).loc Cert.MlstmIdeal.main_arg2)
      ∧ m' ((c.tc : Thread Cert.MlstmRefIdeal.nD Cert.MlstmRefIdeal.τ).loc Cert.MlstmRefIdeal.main_arg3) = m ((c.tc : Thread Cert.MlstmIdeal.nD Cert.MlstmIdeal.τ).loc Cert.MlstmIdeal.main_arg3)
      ∧ m' ((c.tc : Thread Cert.MlstmRefIdeal.nD Cert.MlstmRefIdeal.τ).loc Cert.MlstmRefIdeal.main_arg4) = m ((c.tc : Thread Cert.MlstmIdeal.nD Cert.MlstmIdeal.τ).loc Cert.MlstmIdeal.main_arg4)
      ∧ m' ((c.tc : Thread Cert.MlstmRefIdeal.nD Cert.MlstmRefIdeal.τ).loc Cert.MlstmRefIdeal.main_arg5) = m ((c.tc : Thread Cert.MlstmIdeal.nD Cert.MlstmIdeal.τ).loc Cert.MlstmIdeal.main_arg5)
      ∧ m' ((c.tc : Thread Cert.MlstmRefIdeal.nD Cert.MlstmRefIdeal.τ).loc Cert.MlstmRefIdeal.main_arg6) = m ((c.tc : Thread Cert.MlstmIdeal.nD Cert.MlstmIdeal.τ).loc Cert.MlstmIdeal.main_arg6)) →
    ∃ (v0 : (c : Dev Cert.MlstmIdeal.nD) → Buf (Elt Ideal) ((c.tc : Thread Cert.MlstmIdeal.nD Cert.MlstmIdeal.τ).loc Cert.MlstmIdeal.main_v4_0)) (v1 : (c : Dev Cert.MlstmIdeal.nD) → Buf (Elt Ideal) ((c.tc : Thread Cert.MlstmIdeal.nD Cert.MlstmIdeal.τ).loc Cert.MlstmIdeal.main_v4_1)) (v2 : (c : Dev Cert.MlstmIdeal.nD) → Buf (Elt Ideal) ((c.tc : Thread Cert.MlstmIdeal.nD Cert.MlstmIdeal.τ).loc Cert.MlstmIdeal.main_v4_2)) (v3 : (c : Dev Cert.MlstmIdeal.nD) → Buf (Elt Ideal) ((c.tc : Thread Cert.MlstmIdeal.nD Cert.MlstmIdeal.τ).loc Cert.MlstmIdeal.main_v4_3)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v4_0) = v0 c
          ∧ r.2.mem ((c.tc : Thread Cert.MlstmIdeal.nD Cert.MlstmIdeal.τ).loc Cert.MlstmIdeal.main_v4_1) = v1 c
          ∧ r.2.mem ((c.tc : Thread Cert.MlstmIdeal.nD Cert.MlstmIdeal.τ).loc Cert.MlstmIdeal.main_v4_2) = v2 c
          ∧ r.2.mem ((c.tc : Thread Cert.MlstmIdeal.nD Cert.MlstmIdeal.τ).loc Cert.MlstmIdeal.main_v4_3) = v3 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
          ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
          ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
          ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v112) = v0 c
          ∧ r.2.mem ((c.tc : Thread Cert.MlstmRefIdeal.nD Cert.MlstmRefIdeal.τ).loc Cert.MlstmRefIdeal.main_v80) = v1 c
          ∧ r.2.mem ((c.tc : Thread Cert.MlstmRefIdeal.nD Cert.MlstmRefIdeal.τ).loc Cert.MlstmRefIdeal.main_v113) = v2 c
          ∧ r.2.mem ((c.tc : Thread Cert.MlstmRefIdeal.nD Cert.MlstmRefIdeal.τ).loc Cert.MlstmRefIdeal.main_v114) = v3 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1)
          ∧ r.2.mem ((c.tc : Thread Cert.MlstmRefIdeal.nD Cert.MlstmRefIdeal.τ).loc Cert.MlstmRefIdeal.main_arg2) = m' ((c.tc : Thread Cert.MlstmRefIdeal.nD Cert.MlstmRefIdeal.τ).loc Cert.MlstmRefIdeal.main_arg2)
          ∧ r.2.mem ((c.tc : Thread Cert.MlstmRefIdeal.nD Cert.MlstmRefIdeal.τ).loc Cert.MlstmRefIdeal.main_arg3) = m' ((c.tc : Thread Cert.MlstmRefIdeal.nD Cert.MlstmRefIdeal.τ).loc Cert.MlstmRefIdeal.main_arg3)
          ∧ r.2.mem ((c.tc : Thread Cert.MlstmRefIdeal.nD Cert.MlstmRefIdeal.τ).loc Cert.MlstmRefIdeal.main_arg4) = m' ((c.tc : Thread Cert.MlstmRefIdeal.nD Cert.MlstmRefIdeal.τ).loc Cert.MlstmRefIdeal.main_arg4)
          ∧ r.2.mem ((c.tc : Thread Cert.MlstmRefIdeal.nD Cert.MlstmRefIdeal.τ).loc Cert.MlstmRefIdeal.main_arg5) = m' ((c.tc : Thread Cert.MlstmRefIdeal.nD Cert.MlstmRefIdeal.τ).loc Cert.MlstmRefIdeal.main_arg5)
          ∧ r.2.mem ((c.tc : Thread Cert.MlstmRefIdeal.nD Cert.MlstmRefIdeal.τ).loc Cert.MlstmRefIdeal.main_arg6) = m' ((c.tc : Thread Cert.MlstmRefIdeal.nD Cert.MlstmRefIdeal.τ).loc Cert.MlstmRefIdeal.main_arg6))

def Claim : Prop :=
  ∃ (hAttn : Cert.Attn.Facts) (hAttnIdeal : Cert.AttnIdeal.Facts) (hAttnRefIdeal : Cert.AttnRefIdeal.Facts) (hMqkv : Cert.Mqkv.Facts) (hMqkvIdeal : Cert.MqkvIdeal.Facts) (hMqkvRefIdeal : Cert.MqkvRefIdeal.Facts) (hGates : Cert.Gates.Facts) (hGatesIdeal : Cert.GatesIdeal.Facts) (hGatesRefIdeal : Cert.GatesRefIdeal.Facts) (hAqkv : Cert.Aqkv.Facts) (hAqkvIdeal : Cert.AqkvIdeal.Facts) (hAqkvRefIdeal : Cert.AqkvRefIdeal.Facts) (hMix : Cert.Mix.Facts) (hMixIdeal : Cert.MixIdeal.Facts) (hMixRefIdeal : Cert.MixRefIdeal.Facts) (hMlstm : Cert.Mlstm.Facts) (hMlstmIdeal : Cert.MlstmIdeal.Facts) (hMlstmRefIdeal : Cert.MlstmRefIdeal.Facts) (hPre_attn_finite : Cert.Pre_attn_finite.Facts) (hPre_mlstm_finite : Cert.Pre_mlstm_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Mqkv (hMqkv := hMqkv)
    ∧ quiescent_MqkvIdeal (hMqkvIdeal := hMqkvIdeal)
    ∧ quiescent_MqkvRefIdeal (hMqkvRefIdeal := hMqkvRefIdeal)
    ∧ quiescent_Gates (hGates := hGates)
    ∧ quiescent_GatesIdeal (hGatesIdeal := hGatesIdeal)
    ∧ quiescent_GatesRefIdeal (hGatesRefIdeal := hGatesRefIdeal)
    ∧ quiescent_Aqkv (hAqkv := hAqkv)
    ∧ quiescent_AqkvIdeal (hAqkvIdeal := hAqkvIdeal)
    ∧ quiescent_AqkvRefIdeal (hAqkvRefIdeal := hAqkvRefIdeal)
    ∧ quiescent_Mix (hMix := hMix)
    ∧ quiescent_MixIdeal (hMixIdeal := hMixIdeal)
    ∧ quiescent_MixRefIdeal (hMixRefIdeal := hMixRefIdeal)
    ∧ quiescent_Mlstm (hMlstm := hMlstm)
    ∧ quiescent_MlstmIdeal (hMlstmIdeal := hMlstmIdeal)
    ∧ quiescent_MlstmIdeal_pre_mlstm_finite (hMlstmIdeal := hMlstmIdeal) (hPre_mlstm_finite := hPre_mlstm_finite)
    ∧ quiescent_MlstmRefIdeal (hMlstmRefIdeal := hMlstmRefIdeal)
    ∧ quiescent_MlstmRefIdeal_pre_mlstm_finite (hMlstmRefIdeal := hMlstmRefIdeal) (hPre_mlstm_finite := hPre_mlstm_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Mqkv_MqkvIdeal
    ∧ algebraic_MqkvIdeal_MqkvRefIdeal (hMqkvIdeal := hMqkvIdeal) (hMqkvRefIdeal := hMqkvRefIdeal)
    ∧ preserves_Gates_GatesIdeal
    ∧ algebraic_GatesIdeal_GatesRefIdeal (hGatesIdeal := hGatesIdeal) (hGatesRefIdeal := hGatesRefIdeal)
    ∧ preserves_Aqkv_AqkvIdeal
    ∧ algebraic_AqkvIdeal_AqkvRefIdeal (hAqkvIdeal := hAqkvIdeal) (hAqkvRefIdeal := hAqkvRefIdeal)
    ∧ preserves_Mix_MixIdeal
    ∧ algebraic_MixIdeal_MixRefIdeal (hMixIdeal := hMixIdeal) (hMixRefIdeal := hMixRefIdeal)
    ∧ preserves_Mlstm_MlstmIdeal
    ∧ algebraic_MlstmIdeal_MlstmRefIdeal_pre_mlstm_finite (hMlstmIdeal := hMlstmIdeal) (hMlstmRefIdeal := hMlstmRefIdeal) (hPre_mlstm_finite := hPre_mlstm_finite)
-- ==== Pre_attn_finite.lean ====
abbrev S16x4096x512 : Shape := ⟨3, ![16, 4096, 512]⟩
abbrev S8x257 : Shape := ⟨2, ![8, 257]⟩
abbrev S_ : Shape := ⟨0, ![]⟩

class Facts : Prop where
  bitsLt_bf16_f32 : FTy.bits .bf16 < FTy.bits .f32
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S16x4096x512 .bf16) (main_arg1 : FVec F S16x4096x512 .bf16) (main_arg2 : FVec F S16x4096x512 .bf16) (main_arg3 : FVec F S8x257 .f32) : IVec S_ 1 :=
  let main_v0 : FVec F S16x4096x512 .f32 := (extf .f32 · bitsLt_bf16_f32) main_arg0
  let main_v1 : FVec F S16x4096x512 .f32 := Host.absf main_v0
  let main_cst : FVec F S_ .f32 := constant S_ .f32 0x7F800000#32
  let main_v2 : FVec F S16x4096x512 .f32 := broadcastInDim S16x4096x512 ![] bcast_S_S16x4096x512 main_cst
  let main_v3 : IVec S16x4096x512 1 := cmpf .olt main_v1 main_v2
  let main_c : IVec S_ 1 := constantI S_ 1 1#1
  let main_v4 : IVec S_ 1 := (fun x v => Host.reduce IntOp.andi x v reducesTo_S16x4096x512_S_d0_1_2 h_S_) main_v3 main_c
  let main_v5 : FVec F S16x4096x512 .f32 := (extf .f32 · bitsLt_bf16_f32) main_arg1
  let main_v6 : FVec F S16x4096x512 .f32 := Host.absf main_v5
  let main_cst_0 : FVec F S_ .f32 := constant S_ .f32 0x7F800000#32
  let main_v7 : FVec F S16x4096x512 .f32 := broadcastInDim S16x4096x512 ![] bcast_S_S16x4096x512 main_cst_0
  let main_v8 : IVec S16x4096x512 1 := cmpf .olt main_v6 main_v7
  let main_c_1 : IVec S_ 1 := constantI S_ 1 1#1
  let main_v9 : IVec S_ 1 := (fun x v => Host.reduce IntOp.andi x v reducesTo_S16x4096x512_S_d0_1_2 h_S_) main_v8 main_c_1
  let main_v10 : IVec S_ 1 := andi main_v4 main_v9
  let main_v11 : FVec F S8x257 .f32 := Host.absf main_arg3
  let main_cst_2 : FVec F S_ .f32 := constant S_ .f32 0x7F800000#32
  let main_v12 : FVec F S8x257 .f32 := broadcastInDim S8x257 ![] bcast_S_S8x257 main_cst_2
  let main_v13 : IVec S8x257 1 := cmpf .olt main_v11 main_v12
  let main_c_3 : IVec S_ 1 := constantI S_ 1 1#1
  let main_v14 : IVec S_ 1 := (fun x v => Host.reduce IntOp.andi x v reducesTo_S8x257_S_d0_1 h_S_) main_v13 main_c_3
  let main_v15 : IVec S_ 1 := andi main_v10 main_v14
  main_v15
-- ==== Pre_mlstm_finite.lean ====
abbrev S16x64x3072 : Shape := ⟨3, ![16, 64, 3072]⟩
abbrev S16x64x128 : Shape := ⟨3, ![16, 64, 128]⟩
abbrev S4x256 : Shape := ⟨2, ![4, 256]⟩
abbrev S16x4x256x256 : Shape := ⟨4, ![16, 4, 256, 256]⟩
abbrev S16x4x256 : Shape := ⟨3, ![16, 4, 256]⟩
abbrev S16x4 : Shape := ⟨2, ![16, 4]⟩
abbrev S_ : Shape := ⟨0, ![]⟩

class Facts : Prop where
  bcast_S_S16x64x128 : S_.BroadcastsInDim S16x64x128 (![] : Fin 0 → Fin S16x64x128.rank)
  reducesTo_S16x64x128_S_d0_1_2 : S16x64x128.ReducesTo [0, 1, 2] S_
  h_S_ : 0 < S_.numel
  bcast_S_S16x4 : S_.BroadcastsInDim S16x4 (![] : Fin 0 → Fin S16x4.rank)
  reducesTo_S16x4_S_d0_1 : S16x4.ReducesTo [0, 1] S_

variable [Facts]

def fn {F : FTy → Type} [FloatOps F] (main_arg0 : FVec F S16x64x3072 .bf16) (main_arg1 : FVec F S16x64x128 .f32) (main_arg2 : FVec F S16x64x3072 .bf16) (main_arg3 : FVec F S4x256 .f32) (main_arg4 : FVec F S16x4x256x256 .f32) (main_arg5 : FVec F S16x4x256 .f32) (main_arg6 : FVec F S16x4 .f32) : IVec S_ 1 :=
  let main_v0 : FVec F S16x64x128 .f32 := Host.absf main_arg1
  let main_cst : FVec F S_ .f32 := constant S_ .f32 0x7F800000#32
  let main_v1 : FVec F S16x64x128 .f32 := broadcastInDim S16x64x128 ![] bcast_S_S16x64x128 main_cst
  let main_v2 : IVec S16x64x128 1 := cmpf .olt main_v0 main_v1
  let main_c : IVec S_ 1 := constantI S_ 1 1#1
  let main_v3 : IVec S_ 1 := (fun x v => Host.reduce IntOp.andi x v reducesTo_S16x64x128_S_d0_1_2 h_S_) main_v2 main_c
  let main_v4 : FVec F S16x4 .f32 := Host.absf main_arg6
  let main_cst_0 : FVec F S_ .f32 := constant S_ .f32 0x7F800000#32
  let main_v5 : FVec F S16x4 .f32 := broadcastInDim S16x4 ![] bcast_S_S16x4 main_cst_0
  let main_v6 : IVec S16x4 1 := cmpf .olt main_v4 main_v5
  let main_c_1 : IVec S_ 1 := constantI S_ 1 1#1
  let main_v7 : IVec S_ 1 := (fun x v => Host.reduce IntOp.andi x v reducesTo_S16x4_S_d0_1 h_S_) main_v6 main_c_1
  let main_v8 : IVec S_ 1 := andi main_v3 main_v7
  main_v8
-- ==== Attn.lean ====
abbrev S16x4096x512 : Shape := ⟨3, ![16, 4096, 512]⟩
abbrev S8x257 : Shape := ⟨2, ![8, 257]⟩
abbrev S_ : Shape := ⟨0, ![]⟩
abbrev S16x512x512 : Shape := ⟨3, ![16, 512, 512]⟩
abbrev S16x4608x512 : Shape := ⟨3, ![16, 4608, 512]⟩
abbrev S128 : Shape := ⟨1, ![128]⟩
abbrev S128x1 : Shape := ⟨2, ![128, 1]⟩
abbrev S640 : Shape := ⟨1, ![640]⟩
abbrev S1x640 : Shape := ⟨2, ![1, 640]⟩
abbrev S768 : Shape := ⟨1, ![768]⟩
abbrev S768x1 : Shape := ⟨2, ![768, 1]⟩
abbrev S8x768 : Shape := ⟨2, ![8, 768]⟩
abbrev S1x8x1x768 : Shape := ⟨4, ![1, 8, 1, 768]⟩
abbrev S1x8x128x768 : Shape := ⟨4, ![1, 8, 128, 768]⟩
abbrev S8x98304 : Shape := ⟨2, ![8, 98304]⟩
abbrev S8x98176 : Shape := ⟨2, ![8, 98176]⟩
abbrev S8x128x767 : Shape := ⟨3, ![8, 128, 767]⟩
abbrev S8x128x640 : Shape := ⟨3, ![8, 128, 640]⟩
abbrev S128x640 : Shape := ⟨2, ![128, 640]⟩
abbrev S1x128x640 : Shape := ⟨3, ![1, 128, 640]⟩
abbrev S1x128x512 : Shape := ⟨3, ![1, 128, 512]⟩
abbrev S1x4608x512 : Shape := ⟨3, ![1, 4608, 512]⟩
abbrev S1x640x512 : Shape := ⟨3, ![1, 640, 512]⟩
abbrev S640x512 : Shape := ⟨2, ![640, 512]⟩
abbrev S1x128 : Shape := ⟨2, ![1, 128]⟩
abbrev S1x128x128 : Shape := ⟨3, ![1, 128, 128]⟩
abbrev S128x128 : Shape := ⟨2, ![128, 128]⟩
abbrev S640x128 : Shape := ⟨2, ![640, 128]⟩

abbrev nBuf : Space → Nat
  | .hbm => 98
  | .vmem => 9
  | .smem => 0
  | _ => 0

abbrev bufTy : (tb : Table) → Fin (tcTables nBuf tb) → BufTy
  | .hbm, ⟨0, _⟩ => ⟨S16x4096x512, .bf16⟩
  | .hbm, ⟨1, _⟩ => ⟨S16x4096x512, .bf16⟩
  | .hbm, ⟨2, _⟩ => ⟨S16x4096x512, .bf16⟩
  | .hbm, ⟨3, _⟩ => ⟨S8x257, .f32⟩
  | .hbm, ⟨4, _⟩ => ⟨S_, .bf16⟩
  | .hbm, ⟨5, _⟩ => ⟨S16x512x512, .bf16⟩
  | .hbm, ⟨6, _⟩ => ⟨S16x4608x512, .bf16⟩
  | .hbm, ⟨7, _⟩ => ⟨S16x4608x512, .bf16⟩
  | .hbm, ⟨8, _⟩ => ⟨S128, .i32⟩
  | .hbm, ⟨9, _⟩ => ⟨S128x1, .i32⟩
  | .hbm, ⟨10, _⟩ => ⟨S640, .i32⟩
  | .hbm, ⟨11, _⟩ => ⟨S1x640, .i32⟩
  | .hbm, ⟨12, _⟩ => ⟨S768, .i32⟩
  | .hbm, ⟨13, _⟩ => ⟨S_, .i32⟩
  | .hbm, ⟨14, _⟩ => ⟨S768, .i32⟩
  | .hbm, ⟨15, _⟩ => ⟨S768, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S768, .i32⟩
  | .hbm, ⟨20, _⟩ => ⟨S768, .i32⟩
  | .hbm, ⟨21, _⟩ => ⟨S_, .i32⟩
  | .hbm, ⟨22, _⟩ => ⟨S768, .i32⟩
  | .hbm, ⟨23, _⟩ => ⟨S768, .i32⟩
  | .hbm, ⟨24, _⟩ => ⟨S_, .i32⟩
  | .hbm, ⟨25, _⟩ => ⟨S768, .i32⟩
  | .hbm, ⟨26, _⟩ => ⟨S768, .i32⟩
  | .hbm, ⟨27, _⟩ => ⟨S_, .i32⟩
  | .hbm, ⟨28, _⟩ => ⟨S768, .i32⟩
  | .hbm, ⟨29, _⟩ => ⟨S768, .i1⟩
  | .hbm, ⟨30, _⟩ => ⟨S_, .i32⟩
  | .hbm, ⟨31, _⟩ => ⟨S768, .i32⟩
  | .hbm, ⟨32, _⟩ => ⟨S768, .i32⟩
  | .hbm, ⟨33, _⟩ => ⟨S768, .i32⟩
  | .hbm, ⟨34, _⟩ => ⟨S768x1, .i32⟩
  | .hbm, ⟨35, _⟩ => ⟨S8x768, .f32⟩
  | .hbm, ⟨36, _⟩ => ⟨S1x8x1x768, .f32⟩
  | .hbm, ⟨37, _⟩ => ⟨S1x8x128x768, .f32⟩
  | .hbm, ⟨38, _⟩ => ⟨S8x98304, .f32⟩
  | .hbm, ⟨39, _⟩ => ⟨S8x98176, .f32⟩
  | .hbm, ⟨40, _⟩ => ⟨S8x128x767, .f32⟩
  | .hbm, ⟨41, _⟩ => ⟨S8x128x640, .f32⟩
  | .hbm, ⟨42, _⟩ => ⟨S_, .i32⟩
  | .hbm, ⟨43, _⟩ => ⟨S_, .i32⟩
  | .hbm, ⟨44, _⟩ => ⟨S128x1, .i32⟩
  | .hbm, ⟨45, _⟩ => ⟨S128x1, .i32⟩
  | .hbm, ⟨46, _⟩ => ⟨S128x1, .i32⟩
  | .hbm, ⟨47, _⟩ => ⟨S_, .i32⟩
  | .hbm, ⟨48, _⟩ => ⟨S128x1, .i32⟩
  | .hbm, ⟨49, _⟩ => ⟨S128x1, .i1⟩
  | .hbm, ⟨50, _⟩ => ⟨S128x1, .i32⟩
  | .hbm, ⟨51, _⟩ => ⟨S128x1, .i32⟩
  | .hbm, ⟨52, _⟩ => ⟨S_, .i32⟩
  | .hbm, ⟨53, _⟩ => ⟨S128x1, .i32⟩
  | .hbm, ⟨54, _⟩ => ⟨S128x1, .i1⟩
  | .hbm, ⟨55, _⟩ => ⟨S128x1, .i1⟩
  | .hbm, ⟨56, _⟩ => ⟨S_, .i32⟩
  | .hbm, ⟨57, _⟩ => ⟨S128x1, .i32⟩
  | .hbm, ⟨58, _⟩ => ⟨S128x1, .i32⟩
  | .hbm, ⟨59, _⟩ => ⟨S128x1, .i32⟩
  | .hbm, ⟨60, _⟩ => ⟨S_, .i32⟩
  | .hbm, ⟨61, _⟩ => ⟨S_, .i32⟩
  | .hbm, ⟨62, _⟩ => ⟨S1x640, .i32⟩
  | .hbm, ⟨63, _⟩ => ⟨S1x640, .i32⟩
  | .hbm, ⟨64, _⟩ => ⟨S1x640, .i32⟩
  | .hbm, ⟨65, _⟩ => ⟨S_, .i32⟩
  | .hbm, ⟨66, _⟩ => ⟨S1x640, .i32⟩
  | .hbm, ⟨67, _⟩ => ⟨S1x640, .i1⟩
  | .hbm, ⟨68, _⟩ => ⟨S1x640, .i32⟩
  | .hbm, ⟨69, _⟩ => ⟨S1x640, .i32⟩
  | .hbm, ⟨70, _⟩ => ⟨S_, .i32⟩
  | .hbm, ⟨71, _⟩ => ⟨S1x640, .i32⟩
  | .hbm, ⟨72, _⟩ => ⟨S1x640, .i1⟩
  | .hbm, ⟨73, _⟩ => ⟨S1x640, .i1⟩
  | .hbm, ⟨74, _⟩ => ⟨S_, .i32⟩
  | .hbm, ⟨75, _⟩ => ⟨S1x640, .i32⟩
  | .hbm, ⟨76, _⟩ => ⟨S1x640, .i32⟩
  | .hbm, ⟨77, _⟩ => ⟨S1x640, .i32⟩
  | .hbm, ⟨78, _⟩ => ⟨S_, .i32⟩
  | .hbm, ⟨79, _⟩ => ⟨S1x640, .i32⟩
  | .hbm, ⟨80, _⟩ => ⟨S1x640, .i32⟩
  | .hbm, ⟨81, _⟩ => ⟨S128x640, .i32⟩
  | .hbm, ⟨82, _⟩ => ⟨S128x640, .i32⟩
  | .hbm, ⟨83, _⟩ => ⟨S128x640, .i1⟩
  | .hbm, ⟨84, _⟩ => ⟨S_, .i32⟩
  | .hbm, ⟨85, _⟩ => ⟨S128x1, .i32⟩
  | .hbm, ⟨86, _⟩ => ⟨S128x1, .i32⟩
  | .hbm, ⟨87, _⟩ => ⟨S128x640, .i32⟩
  | .hbm, ⟨88, _⟩ => ⟨S128x640, .i32⟩
  | .hbm, ⟨89, _⟩ => ⟨S128x640, .i1⟩
  | .hbm, ⟨90, _⟩ => ⟨S128x640, .i1⟩
  | .hbm, ⟨91, _⟩ => ⟨S1x128x640, .i1⟩
  | .hbm, ⟨92, _⟩ => ⟨S_, .f32⟩
  | .hbm, ⟨93, _⟩ => ⟨S_, .f32⟩
  | .hbm, ⟨94, _⟩ => ⟨S8x128x640, .i1⟩
  | .hbm, ⟨95, _⟩ => ⟨S8x128x640, .f32⟩
  | .hbm, ⟨96, _⟩ => ⟨S8x128x640, .f32⟩
  | .hbm, ⟨97, _⟩ => ⟨S16x4096x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x4608x512, .bf16⟩
  | .local _ .vmem, ⟨3, _⟩ => ⟨S1x4608x512, .bf16⟩
  | .local _ .vmem, ⟨4, _⟩ => ⟨S1x4608x512, .bf16⟩
  | .local _ .vmem, ⟨5, _⟩ => ⟨S1x4608x512, .bf16⟩
  | .local _ .vmem, ⟨6, _⟩ => ⟨S8x128x640, .f32⟩
  | .local _ .vmem, ⟨7, _⟩ => ⟨S1x128x512, .bf16⟩
  | .local _ .vmem, ⟨8, _⟩ => ⟨S1x128x512, .bf16⟩
  | _, _ => ⟨S16x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v26 : Ref sig .tc := ⟨.hbm, 59, rfl⟩
abbrev main_c_6 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_c : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_0 : Ref sig .tc := ⟨.hbm, 74, rfl⟩
abbrev main_call2_v12 : Ref sig .tc := ⟨.hbm, 75, rfl⟩
abbrev main_call2_v13 : Ref sig .tc := ⟨.hbm, 76, rfl⟩
abbrev main_v27 : Ref sig .tc := ⟨.hbm, 77, rfl⟩
abbrev main_c_7 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_c_8 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_cst_9 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v40 : Ref sig .tc := ⟨.hbm, 96, rfl⟩
abbrev main_v41 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 32], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 3 → Nat :=
  let c0 : Index := 0#32
  let arg1 : BitVec 32 := BitVec.ofNat 32 (i 1).val
  let c128_i32 : BitVec 32 := 128#32
  let v0 : BitVec 32 := Scalar.muli arg1 c128_i32
  let v1 : BitVec 32 := v0
  let v2 : Index := Scalar.indexCast v1
  let c0_0 : Index := 0#32
  ![0, v2.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4608x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4608x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x128x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnRefIdeal.lean ====
abbrev S16x4096x512 : Shape := ⟨3, ![16, 4096, 512]⟩
abbrev S8x257 : Shape := ⟨2, ![8, 257]⟩
abbrev S4096 : Shape := ⟨1, ![4096]⟩
abbrev S4096x1 : Shape := ⟨2, ![4096, 1]⟩
abbrev S1x4096 : Shape := ⟨2, ![1, 4096]⟩
abbrev S_ : Shape := ⟨0, ![]⟩
abbrev S4096x4096 : Shape := ⟨2, ![4096, 4096]⟩
abbrev S4096x4096x1 : Shape := ⟨3, ![4096, 4096, 1]⟩
abbrev S8x4096x4096 : Shape := ⟨3, ![8, 4096, 4096]⟩
abbrev S16x4096x8x64 : Shape := ⟨4, ![16, 4096, 8, 64]⟩
abbrev S16x8x4096x4096 : Shape := ⟨4, ![16, 8, 4096, 4096]⟩
abbrev S1x8x4096x4096 : Shape := ⟨4, ![1, 8, 4096, 4096]⟩
abbrev S1x1x4096x4096 : Shape := ⟨4, ![1, 1, 4096, 4096]⟩
abbrev S16x8x4096 : Shape := ⟨3, ![16, 8, 4096]⟩
abbrev S16x8x4096x1 : Shape := ⟨4, ![16, 8, 4096, 1]⟩
abbrev S16x8x64x4096 : Shape := ⟨4, ![16, 8, 64, 4096]⟩

abbrev nBuf : Space → Nat
  | .hbm => 76
  | .vmem => 0
  | .smem => 0
  | _ => 0

abbrev bufTy : (tb : Table) → Fin (tcTables nBuf tb) → BufTy
  | .hbm, ⟨0, _⟩ => ⟨S16x4096x512, .bf16⟩
  | .hbm, ⟨1, _⟩ => ⟨S16x4096x512, .bf16⟩
  | .hbm, ⟨2, _⟩ => ⟨S16x4096x512, .bf16⟩
  | .hbm, ⟨3, _⟩ => ⟨S8x257, .f32⟩
  | .hbm, ⟨4, _⟩ => ⟨S4096, .i32⟩
  | .hbm, ⟨5, _⟩ => ⟨S4096x1, .i32⟩
  | .hbm, ⟨6, _⟩ => ⟨S1x4096, .i32⟩
  | .hbm, ⟨7, _⟩ => ⟨S_, .i32⟩
  | .hbm, ⟨8, _⟩ => ⟨S4096x1, .i32⟩
  | .hbm, ⟨9, _⟩ => ⟨S4096x1, .i32⟩
  | .hbm, ⟨10, _⟩ => ⟨S_, .i32⟩
  | .hbm, ⟨11, _⟩ => ⟨S1x4096, .i32⟩
  | .hbm, ⟨12, _⟩ => ⟨S1x4096, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .i32⟩
  | .hbm, ⟨17, _⟩ => ⟨S4096x1, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S4096x4096, .i1⟩
  | .hbm, ⟨23, _⟩ => ⟨S4096x4096, .i32⟩
  | .hbm, ⟨24, _⟩ => ⟨S4096x4096, .i32⟩
  | .hbm, ⟨25, _⟩ => ⟨S4096x4096, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S4096x4096, .i32⟩
  | .hbm, ⟨30, _⟩ => ⟨S4096x4096, .i32⟩
  | .hbm, ⟨31, _⟩ => ⟨S_, .i32⟩
  | .hbm, ⟨32, _⟩ => ⟨S4096x4096, .i32⟩
  | .hbm, ⟨33, _⟩ => ⟨S4096x4096, .i32⟩
  | .hbm, ⟨34, _⟩ => ⟨S_, .i32⟩
  | .hbm, ⟨35, _⟩ => ⟨S4096x4096, .i32⟩
  | .hbm, ⟨36, _⟩ => ⟨S4096x4096, .i32⟩
  | .hbm, ⟨37, _⟩ => ⟨S4096x4096x1, .i32⟩
  | .hbm, ⟨38, _⟩ => ⟨S8x4096x4096, .f32⟩
  | .hbm, ⟨39, _⟩ => ⟨S16x4096x512, .f32⟩
  | .hbm, ⟨40, _⟩ => ⟨S16x4096x8x64, .f32⟩
  | .hbm, ⟨41, _⟩ => ⟨S16x4096x512, .f32⟩
  | .hbm, ⟨42, _⟩ => ⟨S16x4096x8x64, .f32⟩
  | .hbm, ⟨43, _⟩ => ⟨S16x8x4096x4096, .f32⟩
  | .hbm, ⟨44, _⟩ => ⟨S_, .f32⟩
  | .hbm, ⟨45, _⟩ => ⟨S16x8x4096x4096, .f32⟩
  | .hbm, ⟨46, _⟩ => ⟨S16x8x4096x4096, .f32⟩
  | .hbm, ⟨47, _⟩ => ⟨S1x8x4096x4096, .f32⟩
  | .hbm, ⟨48, _⟩ => ⟨S16x8x4096x4096, .f32⟩
  | .hbm, ⟨49, _⟩ => ⟨S16x8x4096x4096, .f32⟩
  | .hbm, ⟨50, _⟩ => ⟨S1x1x4096x4096, .i1⟩
  | .hbm, ⟨51, _⟩ => ⟨S_, .f32⟩
  | .hbm, ⟨52, _⟩ => ⟨S_, .f32⟩
  | .hbm, ⟨53, _⟩ => ⟨S16x8x4096x4096, .i1⟩
  | .hbm, ⟨54, _⟩ => ⟨S16x8x4096x4096, .f32⟩
  | .hbm, ⟨55, _⟩ => ⟨S16x8x4096x4096, .f32⟩
  | .hbm, ⟨56, _⟩ => ⟨S_, .f32⟩
  | .hbm, ⟨57, _⟩ => ⟨S16x8x4096, .f32⟩
  | .hbm, ⟨58, _⟩ => ⟨S_, .f32⟩
  | .hbm, ⟨59, _⟩ => ⟨S16x8x4096, .f32⟩
  | .hbm, ⟨60, _⟩ => ⟨S16x8x4096, .f32⟩
  | .hbm, ⟨61, _⟩ => ⟨S16x8x4096x1, .f32⟩
  | .hbm, ⟨62, _⟩ => ⟨S16x8x4096x4096, .f32⟩
  | .hbm, ⟨63, _⟩ => ⟨S16x8x4096x4096, .f32⟩
  | .hbm, ⟨64, _⟩ => ⟨S16x8x4096x4096, .f32⟩
  | .hbm, ⟨65, _⟩ => ⟨S_, .f32⟩
  | .hbm, ⟨66, _⟩ => ⟨S16x8x4096, .f32⟩
  | .hbm, ⟨67, _⟩ => ⟨S16x8x4096x1, .f32⟩
  | .hbm, ⟨68, _⟩ => ⟨S16x8x4096x4096, .f32⟩
  | .hbm, ⟨69, _⟩ => ⟨S16x8x4096x4096, .f32⟩
  | .hbm, ⟨70, _⟩ => ⟨S16x4096x512, .f32⟩
  | .hbm, ⟨71, _⟩ => ⟨S16x4096x8x64, .f32⟩
  | .hbm, ⟨72, _⟩ => ⟨S16x8x64x4096, .f32⟩
  | .hbm, ⟨73, _⟩ => ⟨S16x4096x8x64, .f32⟩
  | .hbm, ⟨74, _⟩ => ⟨S16x4096x512, .f32⟩
  | .hbm, ⟨75, _⟩ => ⟨S16x4096x512, .bf16⟩
  | _, _ => ⟨S16x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_c_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_call1_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]
-- ==== Mqkv.lean ====
abbrev S65536x1024 : Shape := ⟨2, ![65536, 1024]⟩
abbrev S1024x7688 : Shape := ⟨2, ![1024, 7688]⟩
abbrev S1024x1024 : Shape := ⟨2, ![1024, 1024]⟩
abbrev S1024x3072 : Shape := ⟨2, ![1024, 3072]⟩
abbrev S_ : Shape := ⟨0, ![]⟩
abbrev S1x1024 : Shape := ⟨2, ![1, 1024]⟩
abbrev S1x3072 : Shape := ⟨2, ![1, 3072]⟩
abbrev S65536x3072 : Shape := ⟨2, ![65536, 3072]⟩

abbrev nBuf : Space → Nat
  | .hbm => 18
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024x7688, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x3072, .f32⟩
  | .hbm, ⟨6, _⟩ => ⟨S1024x3072, .bf16⟩
  | .hbm, ⟨7, _⟩ => ⟨S_, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x3072, .f32⟩
  | .hbm, ⟨17, _⟩ => ⟨S65536x3072, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MqkvRefIdeal.lean ====
abbrev S65536x1024 : Shape := ⟨2, ![65536, 1024]⟩
abbrev S1024x7688 : Shape := ⟨2, ![1024, 7688]⟩
abbrev S65536x7688 : Shape := ⟨2, ![65536, 7688]⟩
abbrev S65536x4 : Shape := ⟨2, ![65536, 4]⟩
abbrev S65536x512 : Shape := ⟨2, ![65536, 512]⟩
abbrev S_ : Shape := ⟨0, ![]⟩
abbrev S65536x3072 : Shape := ⟨2, ![65536, 3072]⟩

abbrev nBuf : Space → Nat
  | .hbm => 19
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x7688, .f32⟩
  | .hbm, ⟨2, _⟩ => ⟨S65536x7688, .f32⟩
  | .hbm, ⟨3, _⟩ => ⟨S65536x1024, .f32⟩
  | .hbm, ⟨4, _⟩ => ⟨S65536x1024, .f32⟩
  | .hbm, ⟨5, _⟩ => ⟨S65536x1024, .f32⟩
  | .hbm, ⟨6, _⟩ => ⟨S65536x4, .f32⟩
  | .hbm, ⟨7, _⟩ => ⟨S65536x4, .f32⟩
  | .hbm, ⟨8, _⟩ => ⟨S65536x1024, .f32⟩
  | .hbm, ⟨9, _⟩ => ⟨S65536x512, .f32⟩
  | .hbm, ⟨10, _⟩ => ⟨S65536x512, .f32⟩
  | .hbm, ⟨11, _⟩ => ⟨S65536x512, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536x1024, .f32⟩
  | .hbm, ⟨16, _⟩ => ⟨S65536x1024, .f32⟩
  | .hbm, ⟨17, _⟩ => ⟨S65536x3072, .f32⟩
  | .hbm, ⟨18, _⟩ => ⟨S65536x3072, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Gates.lean ====
abbrev S65536x1024 : Shape := ⟨2, ![65536, 1024]⟩
abbrev S1024x7688 : Shape := ⟨2, ![1024, 7688]⟩
abbrev S1024x1024 : Shape := ⟨2, ![1024, 1024]⟩
abbrev S1024x3072 : Shape := ⟨2, ![1024, 3072]⟩
abbrev S_ : Shape := ⟨0, ![]⟩
abbrev S1x3072 : Shape := ⟨2, ![1, 3072]⟩
abbrev S65536x3072 : Shape := ⟨2, ![65536, 3072]⟩
abbrev S1x1024 : Shape := ⟨2, ![1, 1024]⟩

abbrev nBuf : Space → Nat
  | .hbm => 10
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024x7688, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x3072, .f32⟩
  | .hbm, ⟨6, _⟩ => ⟨S1024x3072, .bf16⟩
  | .hbm, ⟨7, _⟩ => ⟨S_, .f32⟩
  | .hbm, ⟨8, _⟩ => ⟨S1x3072, .f32⟩
  | .hbm, ⟨9, _⟩ => ⟨S65536x3072, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesRefIdeal.lean ====
abbrev S65536x1024 : Shape := ⟨2, ![65536, 1024]⟩
abbrev S1024x7688 : Shape := ⟨2, ![1024, 7688]⟩
abbrev S65536x7688 : Shape := ⟨2, ![65536, 7688]⟩
abbrev S65536x4 : Shape := ⟨2, ![65536, 4]⟩
abbrev S65536x512 : Shape := ⟨2, ![65536, 512]⟩
abbrev S_ : Shape := ⟨0, ![]⟩
abbrev S65536x3072 : Shape := ⟨2, ![65536, 3072]⟩

abbrev nBuf : Space → Nat
  | .hbm => 40
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x7688, .f32⟩
  | .hbm, ⟨2, _⟩ => ⟨S65536x7688, .f32⟩
  | .hbm, ⟨3, _⟩ => ⟨S65536x1024, .f32⟩
  | .hbm, ⟨4, _⟩ => ⟨S65536x1024, .f32⟩
  | .hbm, ⟨5, _⟩ => ⟨S65536x1024, .f32⟩
  | .hbm, ⟨6, _⟩ => ⟨S65536x4, .f32⟩
  | .hbm, ⟨7, _⟩ => ⟨S65536x4, .f32⟩
  | .hbm, ⟨8, _⟩ => ⟨S65536x1024, .f32⟩
  | .hbm, ⟨9, _⟩ => ⟨S65536x512, .f32⟩
  | .hbm, ⟨10, _⟩ => ⟨S65536x512, .f32⟩
  | .hbm, ⟨11, _⟩ => ⟨S65536x512, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S_, .f32⟩
  | .hbm, ⟨17, _⟩ => ⟨S65536x1024, .f32⟩
  | .hbm, ⟨18, _⟩ => ⟨S65536x1024, .f32⟩
  | .hbm, ⟨19, _⟩ => ⟨S_, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536x1024, .f32⟩
  | .hbm, ⟨34, _⟩ => ⟨S65536x1024, .f32⟩
  | .hbm, ⟨35, _⟩ => ⟨S_, .f32⟩
  | .hbm, ⟨36, _⟩ => ⟨S65536x1024, .f32⟩
  | .hbm, ⟨37, _⟩ => ⟨S65536x1024, .f32⟩
  | .hbm, ⟨38, _⟩ => ⟨S65536x3072, .f32⟩
  | .hbm, ⟨39, _⟩ => ⟨S65536x3072, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Aqkv.lean ====
abbrev S65536x1024 : Shape := ⟨2, ![65536, 1024]⟩
abbrev S1024x7688 : Shape := ⟨2, ![1024, 7688]⟩
abbrev S1024x512 : Shape := ⟨2, ![1024, 512]⟩
abbrev S1024x1536 : Shape := ⟨2, ![1024, 1536]⟩
abbrev S_ : Shape := ⟨0, ![]⟩
abbrev S1x1536 : Shape := ⟨2, ![1, 1536]⟩
abbrev S65536x1536 : Shape := ⟨2, ![65536, 1536]⟩
abbrev S1024x1024 : Shape := ⟨2, ![1024, 1024]⟩
abbrev S1x512 : Shape := ⟨2, ![1, 512]⟩

abbrev nBuf : Space → Nat
  | .hbm => 11
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1024x7688, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x1536, .f32⟩
  | .hbm, ⟨6, _⟩ => ⟨S1024x1536, .bf16⟩
  | .hbm, ⟨7, _⟩ => ⟨S_, .f32⟩
  | .hbm, ⟨8, _⟩ => ⟨S1x1536, .f32⟩
  | .hbm, ⟨9, _⟩ => ⟨S65536x1536, .bf16⟩
  | .hbm, ⟨10, _⟩ => ⟨S65536x1536, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AqkvRefIdeal.lean ====
abbrev S65536x1024 : Shape := ⟨2, ![65536, 1024]⟩
abbrev S1024x7688 : Shape := ⟨2, ![1024, 7688]⟩
abbrev S65536x7688 : Shape := ⟨2, ![65536, 7688]⟩
abbrev S65536x4 : Shape := ⟨2, ![65536, 4]⟩
abbrev S65536x512 : Shape := ⟨2, ![65536, 512]⟩
abbrev S65536x1536 : Shape := ⟨2, ![65536, 1536]⟩

abbrev nBuf : Space → Nat
  | .hbm => 16
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x7688, .f32⟩
  | .hbm, ⟨2, _⟩ => ⟨S65536x7688, .f32⟩
  | .hbm, ⟨3, _⟩ => ⟨S65536x1024, .f32⟩
  | .hbm, ⟨4, _⟩ => ⟨S65536x1024, .f32⟩
  | .hbm, ⟨5, _⟩ => ⟨S65536x1024, .f32⟩
  | .hbm, ⟨6, _⟩ => ⟨S65536x4, .f32⟩
  | .hbm, ⟨7, _⟩ => ⟨S65536x4, .f32⟩
  | .hbm, ⟨8, _⟩ => ⟨S65536x1024, .f32⟩
  | .hbm, ⟨9, _⟩ => ⟨S65536x512, .f32⟩
  | .hbm, ⟨10, _⟩ => ⟨S65536x512, .f32⟩
  | .hbm, ⟨11, _⟩ => ⟨S65536x512, .f32⟩
  | .hbm, ⟨12, _⟩ => ⟨S65536x1024, .f32⟩
  | .hbm, ⟨13, _⟩ => ⟨S65536x1024, .f32⟩
  | .hbm, ⟨14, _⟩ => ⟨S65536x1536, .f32⟩
  | .hbm, ⟨15, _⟩ => ⟨S65536x1536, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Mix.lean ====
abbrev S65536x1024 : Shape := ⟨2, ![65536, 1024]⟩
abbrev S65536x512 : Shape := ⟨2, ![65536, 512]⟩
abbrev S65536x3072 : Shape := ⟨2, ![65536, 3072]⟩
abbrev S1024x1024 : Shape := ⟨2, ![1024, 1024]⟩
abbrev S512x1024 : Shape := ⟨2, ![512, 1024]⟩
abbrev S1024 : Shape := ⟨1, ![1024]⟩
abbrev S1x1024 : Shape := ⟨2, ![1, 1024]⟩
abbrev S1024x512 : Shape := ⟨2, ![1024, 512]⟩
abbrev S1024x1 : Shape := ⟨2, ![1024, 1]⟩

abbrev nBuf : Space → Nat
  | .hbm => 15
  | .vmem => 17
  | .smem => 0
  | _ => 0

abbrev bufTy : (tb : Table) → Fin (tcTables nBuf tb) → BufTy
  | .hbm, ⟨0, _⟩ => ⟨S65536x1024, .bf16⟩
  | .hbm, ⟨1, _⟩ => ⟨S65536x512, .bf16⟩
  | .hbm, ⟨2, _⟩ => ⟨S65536x3072, .bf16⟩
  | .hbm, ⟨3, _⟩ => ⟨S65536x1024, .f32⟩
  | .hbm, ⟨4, _⟩ => ⟨S1024x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x1024, .bf16⟩
  | .hbm, ⟨10, _⟩ => ⟨S512x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S65536x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixRefIdeal.lean ====
abbrev S65536x1024 : Shape := ⟨2, ![65536, 1024]⟩
abbrev S65536x512 : Shape := ⟨2, ![65536, 512]⟩
abbrev S65536x3072 : Shape := ⟨2, ![65536, 3072]⟩
abbrev S1024x1024 : Shape := ⟨2, ![1024, 1024]⟩
abbrev S512x1024 : Shape := ⟨2, ![512, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x512, .bf16⟩
  | .hbm, ⟨2, _⟩ => ⟨S65536x3072, .bf16⟩
  | .hbm, ⟨3, _⟩ => ⟨S65536x1024, .f32⟩
  | .hbm, ⟨4, _⟩ => ⟨S1024x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S65536x1024, .bf16⟩
  | .hbm, ⟨10, _⟩ => ⟨S65536x1024, .f32⟩
  | .hbm, ⟨11, _⟩ => ⟨S65536x1024, .bf16⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S65536x512, .f32⟩
  | .hbm, ⟨16, _⟩ => ⟨S65536x1024, .f32⟩
  | .hbm, ⟨17, _⟩ => ⟨S_, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S_, .f32⟩
  | .hbm, ⟨26, _⟩ => ⟨S65536, .f32⟩
  | .hbm, ⟨27, _⟩ => ⟨S65536x1, .f32⟩
  | .hbm, ⟨28, _⟩ => ⟨S_, .f32⟩
  | .hbm, ⟨29, _⟩ => ⟨S65536x1, .f32⟩
  | .hbm, ⟨30, _⟩ => ⟨S65536x1, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S_, .f32⟩
  | .hbm, ⟨35, _⟩ => ⟨S65536, .f32⟩
  | .hbm, ⟨36, _⟩ => ⟨S65536x1, .f32⟩
  | .hbm, ⟨37, _⟩ => ⟨S_, .f32⟩
  | .hbm, ⟨38, _⟩ => ⟨S65536x1, .f32⟩
  | .hbm, ⟨39, _⟩ => ⟨S65536x1, .f32⟩
  | .hbm, ⟨40, _⟩ => ⟨S65536x1024, .f32⟩
  | .hbm, ⟨41, _⟩ => ⟨S65536x1024, .f32⟩
  | .hbm, ⟨42, _⟩ => ⟨S_, .f32⟩
  | .hbm, ⟨43, _⟩ => ⟨S65536x1, .f32⟩
  | .hbm, ⟨44, _⟩ => ⟨S65536x1, .f32⟩
  | .hbm, ⟨45, _⟩ => ⟨S65536x1, .f32⟩
  | .hbm, ⟨46, _⟩ => ⟨S65536x1024, .f32⟩
  | .hbm, ⟨47, _⟩ => ⟨S65536x1024, .f32⟩
  | .hbm, ⟨48, _⟩ => ⟨S1x1024, .f32⟩
  | .hbm, ⟨49, _⟩ => ⟨S65536x1024, .f32⟩
  | .hbm, ⟨50, _⟩ => ⟨S65536x1024, .f32⟩
  | .hbm, ⟨51, _⟩ => ⟨S1x1024, .f32⟩
  | .hbm, ⟨52, _⟩ => ⟨S65536x1024, .f32⟩
  | .hbm, ⟨53, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Mlstm.lean ====
abbrev S16x64x3072 : Shape := ⟨3, ![16, 64, 3072]⟩
abbrev S16x64x128 : Shape := ⟨3, ![16, 64, 128]⟩
abbrev S4x256 : Shape := ⟨2, ![4, 256]⟩
abbrev S16x4x256x256 : Shape := ⟨4, ![16, 4, 256, 256]⟩
abbrev S16x4x256 : Shape := ⟨3, ![16, 4, 256]⟩
abbrev S16x4 : Shape := ⟨2, ![16, 4]⟩
abbrev S16x1x1024 : Shape := ⟨3, ![16, 1, 1024]⟩
abbrev S_ : Shape := ⟨0, ![]⟩
abbrev S16x128 : Shape := ⟨2, ![16, 128]⟩
abbrev S16x1x128 : Shape := ⟨3, ![16, 1, 128]⟩
abbrev S1x1024 : Shape := ⟨2, ![1, 1024]⟩
abbrev S16x64x1024 : Shape := ⟨3, ![16, 64, 1024]⟩
abbrev S2x64x3072 : Shape := ⟨3, ![2, 64, 3072]⟩
abbrev S2x64x128 : Shape := ⟨3, ![2, 64, 128]⟩
abbrev S2x64x1024 : Shape := ⟨3, ![2, 64, 1024]⟩
abbrev S2x4x256x256 : Shape := ⟨4, ![2, 4, 256, 256]⟩
abbrev S2x1x1024 : Shape := ⟨3, ![2, 1, 1024]⟩
abbrev S2x1x128 : Shape := ⟨3, ![2, 1, 128]⟩
abbrev S1x64x128 : Shape := ⟨3, ![1, 64, 128]⟩
abbrev S64x128 : Shape := ⟨2, ![64, 128]⟩
abbrev S128x128 : Shape := ⟨2, ![128, 128]⟩
abbrev S64x64 : Shape := ⟨2, ![64, 64]⟩
abbrev S1x128 : Shape := ⟨2, ![1, 128]⟩
abbrev S1x1x128 : Shape := ⟨3, ![1, 1, 128]⟩
abbrev S1x64x256 : Shape := ⟨3, ![1, 64, 256]⟩
abbrev S64x256 : Shape := ⟨2, ![64, 256]⟩
abbrev S64x1 : Shape := ⟨2, ![64, 1]⟩
abbrev S1x64 : Shape := ⟨2, ![1, 64]⟩
abbrev S64 : Shape := ⟨1, ![64]⟩
abbrev S1 : Shape := ⟨1, ![1]⟩
abbrev S1x1 : Shape := ⟨2, ![1, 1]⟩
abbrev S1x1x256x256 : Shape := ⟨4, ![1, 1, 256, 256]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩

abbrev nBuf : Space → Nat
  | .hbm => 17
  | .vmem => 21
  | .smem => 0
  | _ => 0

abbrev bufTy : (tb : Table) → Fin (tcTables nBuf tb) → BufTy
  | .hbm, ⟨0, _⟩ => ⟨S16x64x3072, .bf16⟩
  | .hbm, ⟨1, _⟩ => ⟨S16x64x128, .f32⟩
  | .hbm, ⟨2, _⟩ => ⟨S16x64x3072, .bf16⟩
  | .hbm, ⟨3, _⟩ => ⟨S4x256, .f32⟩
  | .hbm, ⟨4, _⟩ => ⟨S16x4x256x256, .f32⟩
  | .hbm, ⟨5, _⟩ => ⟨S16x4x256, .f32⟩
  | .hbm, ⟨6, _⟩ => ⟨S16x4, .f32⟩
  | .hbm, ⟨7, _⟩ => ⟨S16x1x1024, .f32⟩
  | .hbm, ⟨8, _⟩ => ⟨S_, .i32⟩
  | .hbm, ⟨9, _⟩ => ⟨S_, .f32⟩
  | .hbm, ⟨10, _⟩ => ⟨S16x128, .f32⟩
  | .hbm, ⟨11, _⟩ => ⟨S16x1x128, .f32⟩
  | .hbm, ⟨12, _⟩ => ⟨S1x1024, .f32⟩
  | .hbm, ⟨13, _⟩ => ⟨S16x64x1024, .bf16⟩
  | .hbm, ⟨14, _⟩ => ⟨S16x4x256x256, .f32⟩
  | .hbm, ⟨15, _⟩ => ⟨S16x1x1024, .f32⟩
  | .hbm, ⟨16, _⟩ => ⟨S16x1x128, .f32⟩
  | .local _ .vmem, ⟨0, _⟩ => ⟨S2x64x3072, .bf16⟩
  | .local _ .vmem, ⟨1, _⟩ => ⟨S2x64x3072, .bf16⟩
  | .local _ .vmem, ⟨2, _⟩ => ⟨S2x64x128, .f32⟩
  | .local _ .vmem, ⟨3, _⟩ => ⟨S2x64x128, .f32⟩
  | .local _ .vmem, ⟨4, _⟩ => ⟨S2x64x1024, .bf16⟩
  | .local _ .vmem, ⟨5, _⟩ => ⟨S2x64x1024, .bf16⟩
  | .local _ .vmem, ⟨6, _⟩ => ⟨S1x1024, .f32⟩
  | .local _ .vmem, ⟨7, _⟩ => ⟨S2x4x256x256, .f32⟩
  | .local _ .vmem, ⟨8, _⟩ => ⟨S2x4x256x256, .f32⟩
  | .local _ .vmem, ⟨9, _⟩ => ⟨S2x1x1024, .f32⟩
  | .local _ .vmem, ⟨10, _⟩ => ⟨S2x1x1024, .f32⟩
  | .local _ .vmem, ⟨11, _⟩ => ⟨S2x1x128, .f32⟩
  | .local _ .vmem, ⟨12, _⟩ => ⟨S2x1x128, .f32⟩
  | .local _ .vmem, ⟨13, _⟩ => ⟨S2x64x1024, .bf16⟩
  | .local _ .vmem, ⟨14, _⟩ => ⟨S2x64x1024, .bf16⟩
  | .local _ .vmem, ⟨15, _⟩ => ⟨S2x4x256x256, .f32⟩
  | .local _ .vmem, ⟨16, _⟩ => ⟨S2x4x256x256, .f32⟩
  | .local _ .vmem, ⟨17, _⟩ => ⟨S2x1x1024, .f32⟩
  | .local _ .vmem, ⟨18, _⟩ => ⟨S2x1x1024, .f32⟩
  | .local _ .vmem, ⟨19, _⟩ => ⟨S2x1x128, .f32⟩
  | .local _ .vmem, ⟨20, _⟩ => ⟨S2x1x128, .f32⟩
  | _, _ => ⟨S16x64x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x4x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x4x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== MlstmRefIdeal.lean ====
abbrev S16x64x3072 : Shape := ⟨3, ![16, 64, 3072]⟩
abbrev S16x64x128 : Shape := ⟨3, ![16, 64, 128]⟩
abbrev S4x256 : Shape := ⟨2, ![4, 256]⟩
abbrev S16x4x256x256 : Shape := ⟨4, ![16, 4, 256, 256]⟩
abbrev S16x4x256 : Shape := ⟨3, ![16, 4, 256]⟩
abbrev S16x4 : Shape := ⟨2, ![16, 4]⟩
abbrev S16x64x1024 : Shape := ⟨3, ![16, 64, 1024]⟩
abbrev S16x64x4x256 : Shape := ⟨4, ![16, 64, 4, 256]⟩
abbrev S16x64x4 : Shape := ⟨3, ![16, 64, 4]⟩
abbrev S_ : Shape := ⟨0, ![]⟩
abbrev S16x1x4 : Shape := ⟨3, ![16, 1, 4]⟩
abbrev S64x64 : Shape := ⟨2, ![64, 64]⟩
abbrev S16x64x1x4 : Shape := ⟨4, ![16, 64, 1, 4]⟩
abbrev S16x1x64x4 : Shape := ⟨4, ![16, 1, 64, 4]⟩
abbrev S16x64x64x4 : Shape := ⟨4, ![16, 64, 64, 4]⟩
abbrev S1x64x64x1 : Shape := ⟨4, ![1, 64, 64, 1]⟩
abbrev S16x4x64x64 : Shape := ⟨4, ![16, 4, 64, 64]⟩
abbrev S16x64x4x1 : Shape := ⟨4, ![16, 64, 4, 1]⟩
abbrev S16x4x64x256 : Shape := ⟨4, ![16, 4, 64, 256]⟩
abbrev S16x4x256x64 : Shape := ⟨4, ![16, 4, 256, 64]⟩
abbrev S16x4x64 : Shape := ⟨3, ![16, 4, 64]⟩
abbrev S16x4x1x1 : Shape := ⟨4, ![16, 4, 1, 1]⟩
abbrev S16x4x1 : Shape := ⟨3, ![16, 4, 1]⟩
abbrev S1x1x4x256 : Shape := ⟨4, ![1, 1, 4, 256]⟩
abbrev S16x128 : Shape := ⟨2, ![16, 128]⟩
abbrev S16x1x1024 : Shape := ⟨3, ![16, 1, 1024]⟩
abbrev S16x1x128 : Shape := ⟨3, ![16, 1, 128]⟩

abbrev nBuf : Space → Nat
  | .hbm => 146
  | .vmem => 0
  | .smem => 0
  | _ => 0

abbrev hbmTy0_0 (i : Nat) : BufTy := match i % 128 with
  | 0 => ⟨S16x64x3072, .bf16⟩
  | 1 => ⟨S16x64x128, .f32⟩
  | 2 => ⟨S16x64x3072, .bf16⟩
  | 3 => ⟨S4x256, .f32⟩
  | 4 => ⟨S16x4x256x256, .f32⟩
  | 5 => ⟨S16x4x256, .f32⟩
  | 6 => ⟨S16x4, .f32⟩
  | 7 => ⟨S16x64x1024, .bf16⟩
  | 8 => ⟨S16x64x1024, .f32⟩
  | 9 => ⟨S16x64x4x256, .f32⟩
  | 10 => ⟨S16x64x1024, .bf16⟩
  | 11 => ⟨S16x64x1024, .f32⟩
  | 12 => ⟨S16x64x4x256, .f32⟩
  | 13 => ⟨S16x64x1024, .bf16⟩
  | 14 => ⟨S16x64x1024, .f32⟩
  | 15 => ⟨S16x64x4x256, .f32⟩
  | 16 => ⟨S16x64x4, .f32⟩
  | 17 => ⟨S16x64x4, .f32⟩
  | 18 => ⟨S_, .f32⟩
  | 19 => ⟨S_, .f32⟩
  | 20 => ⟨S16x64x4, .f32⟩
  | 21 => ⟨S16x1x4, .f32⟩
  | 22 => ⟨S16x64x4, .f32⟩
  | 23 => ⟨S16x64x4, .f32⟩
  | 24 => ⟨S_, .i1⟩
  | 25 => ⟨S64x64, .i1⟩
  | 26 => ⟨S64x64, .i32⟩
  | 27 => ⟨S_, .i32⟩
  | 28 => ⟨S64x64, .i32⟩
  | 29 => ⟨S64x64, .i32⟩
  | 30 => ⟨S64x64, .i32⟩
  | 31 => ⟨S64x64, .i1⟩
  | 32 => ⟨S_, .i1⟩
  | 33 => ⟨S64x64, .i1⟩
  | 34 => ⟨S64x64, .i1⟩
  | 35 => ⟨S16x64x1x4, .f32⟩
  | 36 => ⟨S16x1x64x4, .f32⟩
  | 37 => ⟨S16x64x64x4, .f32⟩
  | 38 => ⟨S16x64x64x4, .f32⟩
  | 39 => ⟨S16x64x64x4, .f32⟩
  | 40 => ⟨S16x1x64x4, .f32⟩
  | 41 => ⟨S16x64x64x4, .f32⟩
  | 42 => ⟨S16x64x64x4, .f32⟩
  | 43 => ⟨S1x64x64x1, .i1⟩
  | 44 => ⟨S_, .f32⟩
  | 45 => ⟨S_, .f32⟩
  | 46 => ⟨S16x64x64x4, .i1⟩
  | 47 => ⟨S16x64x64x4, .f32⟩
  | 48 => ⟨S16x64x64x4, .f32⟩
  | 49 => ⟨S_, .f32⟩
  | 50 => ⟨S16x64x4, .f32⟩
  | 51 => ⟨S16x64x4, .f32⟩
  | 52 => ⟨S16x64x4, .f32⟩
  | 53 => ⟨S16x64x4, .f32⟩
  | 54 => ⟨S16x64x1x4, .f32⟩
  | 55 => ⟨S16x64x64x4, .f32⟩
  | 56 => ⟨S16x64x64x4, .f32⟩
  | 57 => ⟨S16x64x64x4, .f32⟩
  | 58 => ⟨S16x4x64x64, .f32⟩
  | 59 => ⟨S16x64x64x4, .f32⟩
  | 60 => ⟨S16x64x64x4, .f32⟩
  | 61 => ⟨S16x64x4x1, .f32⟩
  | 62 => ⟨S16x4x64x256, .f32⟩
  | 63 => ⟨S16x64x4x256, .f32⟩
  | 64 => ⟨S16x64x4x256, .f32⟩
  | 65 => ⟨S16x64x4x256, .f32⟩
  | 66 => ⟨S16x4x256x64, .f32⟩
  | 67 => ⟨S16x64x4x256, .f32⟩
  | 68 => ⟨S16x64x4x256, .f32⟩
  | 69 => ⟨S16x4x64, .f32⟩
  | 70 => ⟨S16x64x4, .f32⟩
  | 71 => ⟨S16x64x4, .f32⟩
  | 72 => ⟨S_, .f32⟩
  | 73 => ⟨S16x64x4, .f32⟩
  | 74 => ⟨S16x64x4, .f32⟩
  | 75 => ⟨S16x64x4, .f32⟩
  | 76 => ⟨S16x64x4, .f32⟩
  | 77 => ⟨S16x64x4, .f32⟩
  | 78 => ⟨S16x64x4, .f32⟩
  | 79 => ⟨S16x64x4x1, .f32⟩
  | 80 => ⟨S16x64x4x256, .f32⟩
  | 81 => ⟨S16x64x4x256, .f32⟩
  | 82 => ⟨S16x1x4, .f32⟩
  | 83 => ⟨S16x4, .f32⟩
  | 84 => ⟨S16x1x4, .f32⟩
  | 85 => ⟨S16x4, .f32⟩
  | 86 => ⟨S16x4, .f32⟩
  | 87 => ⟨S16x4, .f32⟩
  | 88 => ⟨S16x4, .f32⟩
  | 89 => ⟨S16x1x4, .f32⟩
  | 90 => ⟨S16x64x4, .f32⟩
  | 91 => ⟨S16x64x4, .f32⟩
  | 92 => ⟨S16x64x4, .f32⟩
  | 93 => ⟨S16x1x4, .f32⟩
  | 94 => ⟨S16x64x4, .f32⟩
  | 95 => ⟨S16x64x4, .f32⟩
  | 96 => ⟨S16x64x4, .f32⟩
  | 97 => ⟨S16x4x1x1, .f32⟩
  | 98 => ⟨S16x4x256x256, .f32⟩
  | 99 => ⟨S16x4x256x256, .f32⟩
  | 100 => ⟨S16x64x4x1, .f32⟩
  | 101 => ⟨S16x64x4x256, .f32⟩
  | 102 => ⟨S16x64x4x256, .f32⟩
  | 103 => ⟨S16x4x256x256, .f32⟩
  | 104 => ⟨S16x4x256x256, .f32⟩
  | 105 => ⟨S16x4x1, .f32⟩
  | 106 => ⟨S16x4x256, .f32⟩
  | 107 => ⟨S16x4x256, .f32⟩
  | 108 => ⟨S16x4x256, .f32⟩
  | 109 => ⟨S16x4x256, .f32⟩
  | 110 => ⟨S_, .f32⟩
  | 111 => ⟨S16x64x4, .f32⟩
  | 112 => ⟨S16x64x4x1, .f32⟩
  | 113 => ⟨S_, .f32⟩
  | 114 => ⟨S16x64x4x1, .f32⟩
  | 115 => ⟨S16x64x4x1, .f32⟩
  | 116 => ⟨S16x64x4x256, .f32⟩
  | 117 => ⟨S16x64x4x256, .f32⟩
  | 118 => ⟨S16x64x4x256, .f32⟩
  | 119 => ⟨S_, .f32⟩
  | 120 => ⟨S16x64x4, .f32⟩
  | 121 => ⟨S16x64x4x1, .f32⟩
  | 122 => ⟨S_, .f32⟩
  | 123 => ⟨S16x64x4x1, .f32⟩
  | 124 => ⟨S16x64x4x1, .f32⟩
  | 125 => ⟨S16x64x4x256, .f32⟩
  | 126 => ⟨S16x64x4x256, .f32⟩
  | 127 => ⟨S_, .f32⟩
  | _ => ⟨S16x64x3072, .bf16⟩

abbrev hbmTy0_1 (i : Nat) : BufTy := match i % 128 with
  | 0 => ⟨S16x64x4x1, .f32⟩
  | 1 => ⟨S16x64x4x1, .f32⟩
  | 2 => ⟨S16x64x4x1, .f32⟩
  | 3 => ⟨S16x64x4x256, .f32⟩
  | 4 => ⟨S16x64x4x256, .f32⟩
  | 5 => ⟨S1x1x4x256, .f32⟩
  | 6 => ⟨S16x64x4x256, .f32⟩
  | 7 => ⟨S16x64x4x256, .f32⟩
  | 8 => ⟨S16x64x1024, .bf16⟩
  | 9 => ⟨S16x64x1024, .f32⟩
  | 10 => ⟨S16x64x1024, .f32⟩
  | 11 => ⟨S16x64x1024, .f32⟩
  | 12 => ⟨S_, .i32⟩
  | 13 => ⟨S_, .f32⟩
  | 14 => ⟨S16x128, .f32⟩
  | 15 => ⟨S16x64x1024, .bf16⟩
  | 16 => ⟨S16x1x1024, .f32⟩
  | 17 => ⟨S16x1x128, .f32⟩
  | _ => ⟨S16x64x3072, .bf16⟩

abbrev hbmTy (i : Nat) : BufTy := match i / 128 with
  | 0 => hbmTy0_0 i
  | 1 => hbmTy0_1 i
  | _ => ⟨S16x64x3072, .bf16⟩

abbrev bufTy : (tb : Table) → Fin (tcTables nBuf tb) → BufTy
  | .hbm, ⟨i, _⟩ => hbmTy i
  | _, _ => ⟨S16x64x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_0 : Ref sig .tc := ⟨.hbm, 32, rfl⟩
abbrev main_call1_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v26 : Ref sig .tc := ⟨.hbm, 48, rfl⟩
abbrev main_cst_0 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_1 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_2 : Ref sig .tc := ⟨.hbm, 110, rfl⟩
abbrev main_v86 : Ref sig .tc := ⟨.hbm, 111, rfl⟩
abbrev main_v87 : Ref sig .tc := ⟨.hbm, 112, rfl⟩
abbrev main_cst_3 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_4 : Ref sig .tc := ⟨.hbm, 119, rfl⟩
abbrev main_v93 : Ref sig .tc := ⟨.hbm, 120, rfl⟩
abbrev main_v94 : Ref sig .tc := ⟨.hbm, 121, rfl⟩
abbrev main_cst_5 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_6 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_c_7 : Ref sig .tc := ⟨.hbm, 140, rfl⟩
abbrev main_call3_v0 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩

abbrev nD : Nat := 1
abbrev τ : Topo := Topo.v7x

variable {F : FTy → Type} [FloatOps F]
-- ==== Proof.Frames.lean ====
/- The frames and the preservation claims of the six calls: each program ends, leaves its arguments as they were and every counter at zero. -/
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.Gen.Mqkv.Frame
public import proofs.«01_k».proof.Proof.Gen.MqkvIdeal.Frame
public import proofs.«01_k».proof.Proof.Gen.MqkvRefIdeal.Run
public import proofs.«01_k».proof.Proof.Gen.Gates.Frame
public import proofs.«01_k».proof.Proof.Gen.GatesIdeal.Frame
public import proofs.«01_k».proof.Proof.Gen.GatesRefIdeal.Run
public import proofs.«01_k».proof.Proof.Gen.Aqkv.Frame
public import proofs.«01_k».proof.Proof.Gen.AqkvIdeal.Frame
public import proofs.«01_k».proof.Proof.Gen.AqkvRefIdeal.Run
public import proofs.«01_k».proof.Proof.Gen.Mix.Frame
public import proofs.«01_k».proof.Proof.Gen.MixIdeal.Frame
public import proofs.«01_k».proof.Proof.Gen.MixRefIdeal.Run
public import proofs.«01_k».proof.Proof.Gen.Pre_attn_finite
public import proofs.«01_k».proof.Proof.Gen.Mlstm.Frame
public import proofs.«01_k».proof.Proof.Gen.MlstmIdeal.Frame
public import proofs.«01_k».proof.Proof.Gen.MlstmRefIdeal.Run
public import proofs.«01_k».proof.Proof.Gen.Pre_mlstm_finite
public import Idealize.ShloMosaic.Lib.Claim
public import Idealize.ShloMosaic.Adequacy

@[expose] public section

noncomputable section

namespace Cert.Frames

open Idealize.ShloMosaic Idealize.SL.Sem

/-- The attention kernel's frame over bits. -/
theorem attn : Cert.quiescent_Attn := fun m ρ _ => Cert.Attn.Gen.frame m ρ

/-- The attention kernel's frame at the ideal instance. -/
theorem attn_ideal : Cert.quiescent_AttnIdeal := fun m ρ _ => Cert.AttnIdeal.Gen.frame m ρ

/-- The attention reference's frame. -/
theorem attn_ref : Cert.quiescent_AttnRefIdeal := fun m ρ _ =>
  (θ_run _ _ _).mono (fun _ h => ⟨fun c => (h c).2, Idealize.ShloMosaic.sem_eq_zero_of_no_sems (by decide) _⟩)
    (Cert.AttnRefIdeal.Value.run (F := Ideal) m ρ)

/-- The attention kernel's frame under the precondition. -/
theorem attn_ideal_pre : Cert.quiescent_AttnIdeal_pre_attn_finite := fun m ρ _ => Cert.AttnIdeal.Gen.frame m ρ

/-- The attention reference's frame under the precondition. -/
theorem attn_ref_pre : Cert.quiescent_AttnRefIdeal_pre_attn_finite := fun m ρ _ => attn_ref m ρ trivial

/-- The ideal program has the text of the bits program. -/
theorem attn_preserves : Cert.preserves_Attn_AttnIdeal := trivial

/-- The mLSTM projection kernel's frame over bits. -/
theorem mqkv : Cert.quiescent_Mqkv := fun m ρ _ => Cert.Mqkv.Gen.frame m ρ

/-- The mLSTM projection kernel's frame at the ideal instance. -/
theorem mqkv_ideal : Cert.quiescent_MqkvIdeal := fun m ρ _ => Cert.MqkvIdeal.Gen.frame m ρ

/-- The mLSTM projection reference's frame. -/
theorem mqkv_ref : Cert.quiescent_MqkvRefIdeal := fun m ρ _ =>
  (θ_run _ _ _).mono (fun _ h => ⟨fun c => (h c).2, Idealize.ShloMosaic.sem_eq_zero_of_no_sems (by decide) _⟩)
    (Cert.MqkvRefIdeal.Value.run (F := Ideal) m ρ)

/-- The ideal program has the text of the bits program. -/
theorem mqkv_preserves : Cert.preserves_Mqkv_MqkvIdeal := trivial

/-- The gate projection kernel's frame over bits. -/
theorem gates : Cert.quiescent_Gates := fun m ρ _ => Cert.Gates.Gen.frame m ρ

/-- The gate projection kernel's frame at the ideal instance. -/
theorem gates_ideal : Cert.quiescent_GatesIdeal := fun m ρ _ => Cert.GatesIdeal.Gen.frame m ρ

/-- The gate projection reference's frame. -/
theorem gates_ref : Cert.quiescent_GatesRefIdeal := fun m ρ _ =>
  (θ_run _ _ _).mono (fun _ h => ⟨fun c => (h c).2, Idealize.ShloMosaic.sem_eq_zero_of_no_sems (by decide) _⟩)
    (Cert.GatesRefIdeal.Value.run (F := Ideal) m ρ)

/-- The ideal program has the text of the bits program. -/
theorem gates_preserves : Cert.preserves_Gates_GatesIdeal := trivial

/-- The attention projection kernel's frame over bits. -/
theorem aqkv : Cert.quiescent_Aqkv := fun m ρ _ => Cert.Aqkv.Gen.frame m ρ

/-- The attention projection kernel's frame at the ideal instance. -/
theorem aqkv_ideal : Cert.quiescent_AqkvIdeal := fun m ρ _ => Cert.AqkvIdeal.Gen.frame m ρ

/-- The attention projection reference's frame. -/
theorem aqkv_ref : Cert.quiescent_AqkvRefIdeal := fun m ρ _ =>
  (θ_run _ _ _).mono (fun _ h => ⟨fun c => (h c).2.2, Idealize.ShloMosaic.sem_eq_zero_of_no_sems (by decide) _⟩)
    (Cert.AqkvRefIdeal.Value.run (F := Ideal) m ρ)

/-- The ideal program has the text of the bits program. -/
theorem aqkv_preserves : Cert.preserves_Aqkv_AqkvIdeal := trivial

/-- The mixing step kernel's frame over bits. -/
theorem mix : Cert.quiescent_Mix := fun m ρ _ => Cert.Mix.Gen.frame m ρ

/-- The mixing step kernel's frame at the ideal instance. -/
theorem mix_ideal : Cert.quiescent_MixIdeal := fun m ρ _ => Cert.MixIdeal.Gen.frame m ρ

/-- The mixing step reference's frame. -/
theorem mix_ref : Cert.quiescent_MixRefIdeal := fun m ρ _ =>
  (θ_run _ _ _).mono (fun _ h => ⟨fun c => (h c).2, Idealize.ShloMosaic.sem_eq_zero_of_no_sems (by decide) _⟩)
    (Cert.MixRefIdeal.Value.run (F := Ideal) m ρ)

/-- The ideal program has the text of the bits program. -/
theorem mix_preserves : Cert.preserves_Mix_MixIdeal := trivial

/-- The mLSTM kernel's frame over bits. -/
theorem mlstm : Cert.quiescent_Mlstm := fun m ρ _ => Cert.Mlstm.Gen.frame m ρ

/-- The mLSTM kernel's frame at the ideal instance. -/
theorem mlstm_ideal : Cert.quiescent_MlstmIdeal := fun m ρ _ => Cert.MlstmIdeal.Gen.frame m ρ

/-- The mLSTM reference's frame. -/
theorem mlstm_ref : Cert.quiescent_MlstmRefIdeal := fun m ρ _ =>
  (θ_run _ _ _).mono (fun _ h => ⟨fun c => (h c).2.2.2.2, Idealize.ShloMosaic.sem_eq_zero_of_no_sems (by decide) _⟩)
    (Cert.MlstmRefIdeal.Value.run (F := Ideal) m ρ)

/-- The mLSTM kernel's frame under the precondition. -/
theorem mlstm_ideal_pre : Cert.quiescent_MlstmIdeal_pre_mlstm_finite := fun m ρ _ => Cert.MlstmIdeal.Gen.frame m ρ

/-- The mLSTM reference's frame under the precondition. -/
theorem mlstm_ref_pre : Cert.quiescent_MlstmRefIdeal_pre_mlstm_finite := fun m ρ _ => mlstm_ref m ρ trivial

/-- The ideal program has the text of the bits program. -/
theorem mlstm_preserves : Cert.preserves_Mlstm_MlstmIdeal := trivial

end Cert.Frames

end
-- ==== Proof.AttnMath.lean ====
/- Softmax-weighted sums over the extended reals: the two ways to write one, and the two index sets. -/
module

public import Idealize.ShloMosaic.Lib.Pointwise

@[expose] public section

noncomputable section

namespace Cert.AttnProof

open Idealize.ShloMosaic

variable {J K : Type} [Fintype J] [Fintype K]

/-- The largest score, ⊥ when there is none. -/
def peak (s : J → EReal) : EReal := Finset.univ.fold max ⊥ s

/-- The weights summed first and normalised after: the kernel's order. -/
def late (s v : J → EReal) : EReal :=
  (∑ j, Ideal.exp (s j - peak s) * v j) * Ideal.div 1 (∑ j, Ideal.exp (s j - peak s))

/-- The weights normalised first and summed after: the reference's order. -/
def early (s v : J → EReal) : EReal :=
  ∑ j, v j * Ideal.div (Ideal.exp (s j - peak s)) (∑ i, Ideal.exp (s i - peak s))

/-- The largest score as a supremum. -/
theorem peak_eq_sup (s : J → EReal) : peak s = Finset.univ.sup s := rfl

/-- A score no larger than every bound of the scores. -/
theorem le_peak (s : J → EReal) (j : J) : s j ≤ peak s := by
  rw [peak_eq_sup]; exact Finset.le_sup (Finset.mem_univ j)

/-- With finite scores that are not all ⊥, the largest is a real number. -/
theorem peak_real (s : J → EReal) (hfin : ∀ j, s j ≠ ⊤) (j₀ : J) (h₀ : s j₀ ≠ ⊥) : ∃ r : ℝ, peak s = (r : EReal) := by
  have hb : peak s ≠ ⊥ := fun h => h₀ (le_bot_iff.1 (h ▸ le_peak s j₀))
  have ht : peak s ≠ ⊤ := by
    rw [peak_eq_sup]
    exact ((Finset.sup_lt_iff (bot_lt_top)).2 fun j _ => lt_top_iff_ne_top.2 (hfin j)).ne
  exact ⟨(peak s).toReal, (EReal.coe_toReal ht hb).symm⟩

/-- The weight of one score against a real peak: a real number, zero exactly at ⊥. -/
theorem weight_real (x : EReal) (hx : x ≠ ⊤) (r : ℝ) :
    ∃ w : ℝ, Ideal.exp (x - (r : EReal)) = (w : EReal) ∧ 0 ≤ w ∧ (x ≠ ⊥ → 0 < w) := by
  induction x using EReal.rec with
  | bot => exact ⟨0, by simp [EReal.bot_sub], le_rfl, fun h => absurd rfl h⟩
  | coe y =>
    refine ⟨Real.exp (y - r), ?_, (Real.exp_pos _).le, fun _ => Real.exp_pos _⟩
    rw [← EReal.coe_sub, Ideal.exp_coe]
  | top => exact absurd rfl hx

/-- A finite sum of real numbers, cast. -/
theorem coe_sum {ι : Type} (S : Finset ι) (w : ι → ℝ) : ((∑ i ∈ S, w i : ℝ) : EReal) = ∑ i ∈ S, (w i : EReal) := by
  classical
  induction S using Finset.induction_on with
  | empty => simp
  | insert a S ha ih => rw [Finset.sum_insert ha, Finset.sum_insert ha, EReal.coe_add, ih]

/-- With finite scores that are not all ⊥, the weights sum to a positive real number. -/
theorem total_real (s : J → EReal) (hfin : ∀ j, s j ≠ ⊤) (j₀ : J) (h₀ : s j₀ ≠ ⊥) :
    ∃ L : ℝ, 0 < L ∧ ∑ j, Ideal.exp (s j - peak s) = (L : EReal) := by
  obtain ⟨r, hr⟩ := peak_real s hfin j₀ h₀
  choose w hw hnn hpos using fun j => weight_real (s j) (hfin j) r
  refine ⟨∑ j, w j, Finset.sum_pos' (fun j _ => hnn j) ⟨j₀, Finset.mem_univ _, hpos j₀ h₀⟩, ?_⟩
  rw [coe_sum]
  exact Finset.sum_congr rfl fun j _ => by rw [hr, hw]

/-- Multiplication by a nonnegative real number passes through a finite sum of extended reals. -/
theorem sum_mul_real {ι : Type} (S : Finset ι) (x : ι → EReal) (c : ℝ) (hc : 0 ≤ c) :
    (∑ i ∈ S, x i) * (c : EReal) = ∑ i ∈ S, x i * (c : EReal) := by
  classical
  induction S using Finset.induction_on with
  | empty => simp
  | insert a S ha ih =>
    rw [Finset.sum_insert ha, Finset.sum_insert ha, ← ih]
    exact EReal.right_distrib_of_nonneg_of_ne_top (EReal.coe_nonneg.2 hc) (EReal.coe_ne_top c) _ _

/-- The two orders agree on finite scores that are not all ⊥; the values may be anything. -/
theorem late_eq_early (s v : J → EReal) (hfin : ∀ j, s j ≠ ⊤) (j₀ : J) (h₀ : s j₀ ≠ ⊥) : late s v = early s v := by
  obtain ⟨L, hL, hsum⟩ := total_real s hfin j₀ h₀
  unfold late early
  rw [hsum, Ideal.div_coe hL.ne', one_mul, sum_mul_real _ _ _ (one_div_pos.2 hL).le]
  refine Finset.sum_congr rfl fun j _ => ?_
  rw [Ideal.div_coe hL.ne', mul_comm (v j), mul_assoc, mul_assoc, mul_comm (v j)]

/-- `f` carries the scores and values of `J` that are not ⊥ one to one onto those of `K`. -/
structure Carries (f : J → K) (s v : J → EReal) (S V : K → EReal) : Prop where
  score : ∀ j, s j ≠ ⊥ → S (f j) = s j
  value : ∀ j, s j ≠ ⊥ → V (f j) = v j
  inj : ∀ i j, s i ≠ ⊥ → s j ≠ ⊥ → f i = f j → i = j
  onto : ∀ k, S k ≠ ⊥ → ∃ j, s j ≠ ⊥ ∧ f j = k

variable {f : J → K} {s v : J → EReal} {S V : K → EReal}

/-- The largest score is carried along. -/
theorem Carries.peak (h : Carries f s v S V) : peak s = peak S := by
  rw [peak_eq_sup, peak_eq_sup]
  refine le_antisymm (Finset.sup_le fun j _ => ?_) (Finset.sup_le fun k _ => ?_)
  · by_cases hj : s j = ⊥
    · rw [hj]; exact bot_le
    · rw [← h.score j hj]; exact Finset.le_sup (Finset.mem_univ _)
  · by_cases hk : S k = ⊥
    · rw [hk]; exact bot_le
    · obtain ⟨j, hj, rfl⟩ := h.onto k hk
      rw [h.score j hj]; exact Finset.le_sup (Finset.mem_univ _)

/-- A sum whose terms vanish at ⊥ is carried along. -/
theorem Carries.sum (h : Carries f s v S V) (G : J → EReal) (H : K → EReal) (hG : ∀ j, s j = ⊥ → G j = 0)
    (hH : ∀ k, S k = ⊥ → H k = 0) (hGH : ∀ j, s j ≠ ⊥ → G j = H (f j)) : ∑ j, G j = ∑ k, H k := by
  classical
  rw [← Finset.sum_filter_of_ne (p := fun j => s j ≠ ⊥) (fun j _ hj hs => hj (hG j hs)),
    ← Finset.sum_filter_of_ne (p := fun k => S k ≠ ⊥) (fun k _ hk hs => hk (hH k hs))]
  refine Finset.sum_nbij f (fun j hj => ?_) (fun i hi j hj hij => ?_) (fun k hk => ?_) (fun j hj => ?_)
  · have hj' := (Finset.mem_filter.1 hj).2
    exact Finset.mem_filter.2 ⟨Finset.mem_univ _, by rw [h.score j hj']; exact hj'⟩
  · exact h.inj i j (Finset.mem_filter.1 (Finset.mem_coe.1 hi)).2 (Finset.mem_filter.1 (Finset.mem_coe.1 hj)).2 hij
  · obtain ⟨j, hj, hjk⟩ := h.onto k (Finset.mem_filter.1 (Finset.mem_coe.1 hk)).2
    exact ⟨j, Finset.mem_coe.2 (Finset.mem_filter.2 ⟨Finset.mem_univ _, hj⟩), hjk⟩
  · exact hGH j (Finset.mem_filter.1 hj).2

/-- The kernel's sum over its window is the reference's sum over the whole sequence. -/
theorem Carries.late_eq_early (h : Carries f s v S V) (hfin : ∀ k, S k ≠ ⊤) (k₀ : K) (h₀ : S k₀ ≠ ⊥) :
    late s v = early S V := by
  rw [← Cert.AttnProof.late_eq_early S V hfin k₀ h₀]
  obtain ⟨r, hr⟩ := peak_real S hfin k₀ h₀
  have e0 : Ideal.exp (⊥ - (r : EReal)) = 0 := by simp [EReal.bot_sub]
  unfold late
  rw [h.peak, hr]
  refine congrArg₂ (fun a b => a * Ideal.div 1 b) ?_ ?_
  · refine h.sum _ _ (fun j hj => ?_) (fun k hk => ?_) (fun j hj => ?_)
    · rw [hj, e0, zero_mul]
    · rw [hk, e0, zero_mul]
    · rw [h.score j hj, h.value j hj]
  · refine h.sum _ _ (fun j hj => ?_) (fun k hk => ?_) (fun j hj => ?_)
    · rw [hj, e0]
    · rw [hk, e0]
    · rw [h.score j hj]

end Cert.AttnProof

end
-- ==== Proof.AttnKernel.lean ====
/- The attention kernel's arithmetic at one entry: a pair of heads in one lane tile, each head by its lane mask. -/
module

public import proofs.«01_k».proof.Defs
public import proofs.«01_k».proof.Proof.Gen.AttnIdeal.Value
public import proofs.«01_k».proof.Proof.AttnMath
public import Idealize.ShloMosaic.Lib.Pointwise

@[expose] public section

set_option maxRecDepth 16384

noncomputable section

namespace Cert.AttnProof

open Idealize.ShloMosaic Idealize.ShloMosaic.TcCoe Idealize.SL.Sem
open Cert.AttnIdeal Cert.AttnIdeal.Gen

/-- The lanes from `a` up to `b`. -/
def lanes (a b : BitVec 32) : IVec S1x128 1 :=
  andi (cmpi .sge (iota .tc S1x128 32 [1] iota_S1x128_d1_w32) (broadcast S1x128 a))
    (cmpi .slt (iota .tc S1x128 32 [1] iota_S1x128_d1_w32) (broadcast S1x128 b))

/-- One head's scores: the queries of its lanes against the keys, scaled, with the bias, −∞ where no key is. -/
def scores (sel : IVec S1x128 1) (ok : IVec S128x640 1) (q : FVec Ideal S128x128 .bf16) (k : FVec Ideal S640x128 .bf16) (b : FVec Ideal S1x128x640 .f32) : FVec Ideal S128x640 .f32 :=
  select ok (addf (mulf (matmul dot_S128x128_S640x128_S128x640_1_1_0_0_n_n none
      (select (broadcastTo S128x128 (shapeCast S1x128 sel shapeCasts_S1x128_S1x128) broadcasts_S1x128_S128x128) q (broadcast S128x128 (Scalar.ofBits .bf16 0x0000#16)))
      k (constant S128x640 .f32 0x00000000#32)) (broadcast S128x640 (Scalar.ofBits .f32 0x3E000000#32)))
    (shapeCast S128x640 b shapeCasts_S1x128x640_S128x640)) (broadcast S128x640 (Scalar.ofBits .f32 0xFF800000#32))

/-- The unnormalised weights of a head's scores. -/
def weights (s : FVec Ideal S128x640 .f32) : FVec Ideal S128x640 .f32 :=
  exp (subf s (broadcastTo S128x640 (shapeCast S128x1 (multiReduction .maximumf [1] S128 s 0xFF800000#32 reduces_S128x640_S128 (.inl rfl) rfl) shapeCasts_S128_S128x1) broadcasts_S128x1_S128x640))

/-- One head's term of the output tile: the weights times the values of its lanes, over the weights' sum. -/
def head (sel : IVec S1x128 1) (s : FVec Ideal S128x640 .f32) (v : FVec Ideal S640x128 .bf16) : FVec Ideal S128x128 .f32 :=
  mulf (matmul dot_S128x640_S640x128_S128x128_1_0_0_1_n_n none (truncf .bf16 (weights s) bitsLt_bf16_f32)
      (select (broadcastTo S640x128 (shapeCast S1x128 sel shapeCasts_S1x128_S1x128) broadcasts_S1x128_S640x128) v (broadcast S640x128 (Scalar.ofBits .bf16 0x0000#16)))
      (constant S128x128 .f32 0x00000000#32))
    (broadcastTo S128x128 (divf (broadcast S128x1 (Scalar.ofBits .f32 0x3F800000#32)) (shapeCast S128x1 (multiReduction .add [1] S128 (weights s) 0x00000000#32 reduces_S128x640_S128 (.inl rfl) rfl) shapeCasts_S128_S128x1)) broadcasts_S128x1_S128x128)

/-- The lanes of the pair's first or second head. -/
def half (e : Fin 2) : IVec S1x128 1 := match e with
  | 0 => lanes 0#32 64#32
  | 1 => lanes 64#32 128#32

/-- The output tile of a pair of heads. -/
def tile (ok : IVec S128x640 1) (q : FVec Ideal S128x128 .bf16) (k v : FVec Ideal S640x128 .bf16) (b0 b1 : FVec Ideal S1x128x640 .f32) : FVec Ideal S1x128x128 .bf16 :=
  shapeCast S1x128x128 (truncf .bf16 (addf (addf (broadcast S128x128 (Scalar.ofBits .f32 0x00000000#32)) (head (half 0) (scores (half 0) ok q k b0) v))
    (head (half 1) (scores (half 1) ok q k b1) v)) bitsLt_bf16_f32) shapeCasts_S128x128_S1x128x128

/-- A head's lanes are one half of the tile. -/
theorem half_at (e : Fin 2) (l : Fin 128) : half e (ix2 0 l) = if (l : ℕ) / 64 = e then 1#1 else 0#1 := by
  revert e l; unfold half lanes; decide +kernel

/-- The pattern of −∞ is ⊥. -/
theorem bot_bits : Ideal.ofBits .f32 0xFF800000#32 = ⊥ := by simp [Ideal.ofBits, Ideal.ieee]

/-- A sum over a head's lanes alone. -/
theorem sum_half (e : Fin 2) (x : Fin 128 → EReal) :
    ∑ l, Scalar.select (half e (ix2 0 l)) (x l) 0 = ∑ d : Fin 64, x ⟨64 * (e : ℕ) + (d : ℕ), by omega⟩ := by
  have h : ∀ l : Fin 128, Scalar.select (half e (ix2 0 l)) (x l) 0 = if (l : ℕ) / 64 = e then x l else 0 := fun l => by
    rw [half_at]; unfold Scalar.select; by_cases hl : (l : ℕ) / 64 = e
    · rw [if_pos hl, if_pos hl]; rfl
    · rw [if_neg hl, if_neg hl]; rfl
  rw [Finset.sum_congr rfl fun l _ => h l, Fin.sum_univ_two_halves 64 64 rfl]
  obtain rfl | rfl : e = 0 ∨ e = 1 := by omega
  · refine Eq.trans (congrArg₂ (· + ·) (Finset.sum_congr rfl fun d _ => if_pos ?_) (Finset.sum_eq_zero fun d _ => if_neg ?_)) ?_
    · show (d : ℕ) / 64 = 0; omega
    · show ¬ (64 + (d : ℕ)) / 64 = 0; omega
    · rw [add_zero]
      exact Finset.sum_congr rfl fun d _ => congrArg x (Fin.ext (by show (d : ℕ) = 64 * 0 + (d : ℕ); omega))
  · refine Eq.trans (congrArg₂ (· + ·) (Finset.sum_eq_zero fun d _ => if_neg ?_) (Finset.sum_congr rfl fun d _ => if_pos ?_)) ?_
    · show ¬ (d : ℕ) / 64 = 1; omega
    · show (64 + (d : ℕ)) / 64 = 1; omega
    · rw [zero_add]
      exact Finset.sum_congr rfl fun d _ => congrArg x (Fin.ext (by show 64 + (d : ℕ) = 64 * 1 + (d : ℕ); omega))

/-- A score at an entry. -/
theorem scores_at (e : Fin 2) (ok : IVec S128x640 1) (q : FVec Ideal S128x128 .bf16) (k : FVec Ideal S640x128 .bf16) (b : FVec Ideal S1x128x640 .f32)
    (r : Fin 128) (j : Fin 640) : scores (half e) ok q k b (ix2 r j)
      = Scalar.select (ok (ix2 r j)) ((∑ d : Fin 64, q (ix2 r ⟨64 * (e : ℕ) + (d : ℕ), by omega⟩) * k (ix2 j ⟨64 * (e : ℕ) + (d : ℕ), by omega⟩)) * Ideal.ofBits .f32 0x3E000000#32 + b (ix3 0 r j)) ⊥ := by
  pointwise [scores]
  rw [bot_bits, sum_half e fun x => q (ix2 r x) * k (ix2 j x)]

/-- A head's term on its own lanes. -/
theorem head_in (e : Fin 2) (s : FVec Ideal S128x640 .f32) (v : FVec Ideal S640x128 .bf16) (r : Fin 128) (c : Fin 128) (hc : (c : ℕ) / 64 = e) :
    head (half e) s v (ix2 r c) = late (fun j => s (ix2 r j)) (fun j => v (ix2 j c)) := by
  pointwise [head, weights]
  rw [bot_bits, half_at, if_pos hc]
  rfl

/-- A head's term off its lanes is zero. -/
theorem head_out (e : Fin 2) (s : FVec Ideal S128x640 .f32) (v : FVec Ideal S640x128 .bf16) (r : Fin 128) (c : Fin 128) (hc : ¬ (c : ℕ) / 64 = e) :
    head (half e) s v (ix2 r c) = 0 := by
  pointwise [head, weights]
  rw [half_at, if_neg hc]
  refine Eq.trans (congrArg (· * _) (Finset.sum_eq_zero fun j _ => ?_)) (zero_mul _)
  rfl

/-- The tile at an entry is the weighted sum of the head the lane belongs to. -/
theorem tile_at (ok : IVec S128x640 1) (q : FVec Ideal S128x128 .bf16) (k v : FVec Ideal S640x128 .bf16) (b0 b1 : FVec Ideal S1x128x640 .f32)
    (r : Fin 128) (e : Fin 2) (d : Fin 64) (be : FVec Ideal S1x128x640 .f32) (hb0 : e = 0 → be = b0) (hb1 : e = 1 → be = b1) :
    tile ok q k v b0 b1 (ix3 0 r ⟨64 * (e : ℕ) + (d : ℕ), by omega⟩)
      = late (fun j : Fin 640 => Scalar.select (ok (ix2 r j)) ((∑ d : Fin 64, q (ix2 r ⟨64 * (e : ℕ) + (d : ℕ), by omega⟩) * k (ix2 j ⟨64 * (e : ℕ) + (d : ℕ), by omega⟩)) * Ideal.ofBits .f32 0x3E000000#32 + be (ix3 0 r j)) ⊥)
          (fun j => v (ix2 j ⟨64 * (e : ℕ) + (d : ℕ), by omega⟩)) := by
  pointwise [tile]
  obtain rfl | rfl : e = 0 ∨ e = 1 := by omega
  · rw [head_in 0 _ _ _ _ (by show (64 * 0 + (d : ℕ)) / 64 = 0; omega), head_out 1 _ _ _ _ (by show ¬ (64 * 0 + (d : ℕ)) / 64 = 1; omega), add_zero, hb0 rfl]
    exact congrArg (fun s => late s _) (funext fun j => scores_at 0 ok q k b0 r j)
  · rw [head_out 0 _ _ _ _ (by show ¬ (64 * 1 + (d : ℕ)) / 64 = 0; omega), head_in 1 _ _ _ _ (by show (64 * 1 + (d : ℕ)) / 64 = 1; omega), zero_add, hb1 rfl]
    exact congrArg (fun s => late s _) (funext fun j => scores_at 1 ok q k b1 r j)

end Cert.AttnProof

end
-- ==== Proof.AttnIndex.lean ====
/- The integer side of the attention: words as integers, and the columns read off the bias table. -/
module

public import proofs.«01_k».proof.Defs
public import Idealize.ShloMosaic.Lib.Pointwise

@[expose] public section

set_option maxRecDepth 16384

noncomputable section

namespace Cert.AttnProof

open Idealize.ShloMosaic Idealize.ShloMosaic.TcCoe Idealize.SL.Sem

/-- The column of the bias table for a distance. -/
def rel (δ : ℤ) : Fin 257 := ⟨(min 128 (max (-128) δ) + 128).toNat, by omega⟩

/-- A difference of two words of moderate size is exact. -/
theorem toInt_sub_exact {x y : BitVec 32} {a b : ℤ} (hx : x.toInt = a) (hy : y.toInt = b) (ha : -1000000 ≤ a ∧ a ≤ 1000000) (hb : -1000000 ≤ b ∧ b ≤ 1000000) :
    (x - y).toInt = a - b := by
  rw [BitVec.toInt_sub, hx, hy]
  exact Int.bmod_eq_of_le (by norm_num; omega) (by norm_num; omega)

/-- A sum of two words of moderate size is exact. -/
theorem toInt_add_exact {x y : BitVec 32} {a b : ℤ} (hx : x.toInt = a) (hy : y.toInt = b) (ha : -1000000 ≤ a ∧ a ≤ 1000000) (hb : -1000000 ≤ b ∧ b ≤ 1000000) :
    (x + y).toInt = a + b := by
  rw [BitVec.toInt_add, hx, hy]
  exact Int.bmod_eq_of_le (by norm_num; omega) (by norm_num; omega)

/-- The smaller of two words. -/
theorem toInt_min {x y : BitVec 32} {a b : ℤ} (hx : x.toInt = a) (hy : y.toInt = b) : (IntOp.minsi x y).toInt = min a b := by
  unfold IntOp.minsi
  by_cases h : a < b
  · rw [if_pos (by rw [BitVec.slt_eq_decide, hx, hy]; exact decide_eq_true h), hx]; omega
  · rw [if_neg (by rw [BitVec.slt_eq_decide, hx, hy]; simpa using h), hy]; omega

/-- The larger of two words. -/
theorem toInt_max {x y : BitVec 32} {a b : ℤ} (hx : x.toInt = a) (hy : y.toInt = b) : (IntOp.maxsi x y).toInt = max a b := by
  unfold IntOp.maxsi
  by_cases h : b < a
  · rw [if_pos (by rw [BitVec.slt_eq_decide, hx, hy]; exact decide_eq_true h), hx]; omega
  · rw [if_neg (by rw [BitVec.slt_eq_decide, hx, hy]; simpa using h), hy]; omega

/-- The bit of two comparisons. -/
theorem both_bits {x y z : BitVec 32} {a b c : ℤ} (hx : x.toInt = a) (hy : y.toInt = b) (hz : z.toInt = c) :
    IntOp.andi (IntOp.cmpi .sle x y) (IntOp.cmpi .sge x z) = if a ≤ b ∧ c ≤ a then 1#1 else 0#1 := by
  unfold IntOp.andi IntOp.cmpi
  simp only [BitVec.sle_eq_decide, hx, hy, hz]
  by_cases h1 : a ≤ b <;> by_cases h2 : c ≤ a <;> simp [h1, h2] <;> rfl

/-- A position as a word. -/
theorem pos_word (i : ℕ) (hi : i < 100000) : (BitVec.ofNat 32 i).toInt = (i : ℤ) := by
  rw [show BitVec.ofNat 32 i = BitVec.ofInt 32 (i : ℤ) from rfl, BitVec.toInt_ofInt]; exact Int.bmod_eq_of_le (by omega) (by omega)

/-- The pattern of −∞ is ⊥. -/
theorem bot_word : Ideal.ofBits .f32 0xFF800000#32 = ⊥ := by simp [Ideal.ofBits, Ideal.ieee]

section Columns
variable {α : Type}

/-- Reading a table's columns at a matrix of column numbers: the table keeps its rows. -/
abbrev colsOfMatrix (H C N M : ℕ) (wf : GatherDims.WF ⟨2, ![H, C]⟩ ⟨3, ![N, M, 1]⟩ ⟨3, ![H, N, M]⟩ [0] [1] [] [1] [] 2 ![H, 1]) :
    GatherDims ⟨2, ![H, C]⟩ ⟨3, ![N, M, 1]⟩ ⟨3, ![H, N, M]⟩ where
  offsetDims := [0]
  collapsedSliceDims := [1]
  operandBatchingDims := []
  startIndicesBatchingDims := []
  startIndexMap := [1]
  indexVectorDim := 2
  sliceSizes := ![H, 1]
  wf := wf

/-- The column read is the column number, clamped to the table. -/
theorem colsOfMatrix_at {H C N M : ℕ} (hC : 0 < C) (wf : GatherDims.WF ⟨2, ![H, C]⟩ ⟨3, ![N, M, 1]⟩ ⟨3, ![H, N, M]⟩ [0] [1] [] [1] [] 2 ![H, 1])
    (x : (⟨2, ![H, C]⟩ : Shape).Idx → α) (I : IVec ⟨3, ![N, M, 1]⟩ 32) (h : Fin H) (i : Fin N) (k : Fin M) :
    Host.gather (colsOfMatrix H C N M wf) x I (ix3 h i k) = x (ix2 h ⟨min (I (ix3 i k 0)).toInt.toNat (C - 1), by omega⟩) := by
  unfold Host.gather
  congr 1
  funext a
  refine Fin.ext ?_
  show (colsOfMatrix H C N M wf).start (ix3 h i k) I a + (colsOfMatrix H C N M wf).batchCoord (ix3 h i k) a + (colsOfMatrix H C N M wf).offCoord (ix3 h i k) a = _
  rw [GatherDims.batchCoord_eq_zero _ _ _ (fun h => by simp at h)]
  have ha : a = 0 ∨ a = 1 := by
    match a with
    | ⟨0, _⟩ => exact Or.inl rfl
    | ⟨1, _⟩ => exact Or.inr rfl
  rcases ha with rfl | rfl
  · unfold GatherDims.start GatherDims.offCoord
    rw [dif_neg (fun h => absurd (List.mem_singleton.mp h) (by simp)), dif_pos ((GatherDims.mem_sKept _ _).mpr ⟨fun h => absurd (List.mem_singleton.mp h) (by simp), fun h => by simp at h⟩)]
    show 0 + 0 + (h : ℕ) = h
    omega
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsOfMatrix H C N M wf).startIndexMap from List.mem_singleton.mpr rfl)]
    have hs : (colsOfMatrix H C N M wf).siIdx (ix3 h i k) ⟨List.idxOf (1 : Fin 2) (colsOfMatrix H C N M wf).startIndexMap,
        List.idxOf_lt_length_iff.2 (List.mem_singleton.mpr rfl)⟩ = ix3 i k 0 := by
      funext b; refine Fin.ext ?_
      match b with
      | ⟨0, _⟩ => rfl
      | ⟨1, _⟩ => rfl
      | ⟨2, _⟩ => rfl
    rw [hs]
    rfl

/-- Reading a table's columns at a list of column numbers: the table keeps its rows. -/
abbrev colsOfList (H C N : ℕ) (wf : GatherDims.WF ⟨2, ![H, C]⟩ ⟨2, ![N, 1]⟩ ⟨2, ![H, N]⟩ [0] [1] [] [1] [] 1 ![H, 1]) :
    GatherDims ⟨2, ![H, C]⟩ ⟨2, ![N, 1]⟩ ⟨2, ![H, N]⟩ where
  offsetDims := [0]
  collapsedSliceDims := [1]
  operandBatchingDims := []
  startIndicesBatchingDims := []
  startIndexMap := [1]
  indexVectorDim := 1
  sliceSizes := ![H, 1]
  wf := wf

/-- The column read is the column number, clamped to the table. -/
theorem colsOfList_at {H C N : ℕ} (hC : 0 < C) (wf : GatherDims.WF ⟨2, ![H, C]⟩ ⟨2, ![N, 1]⟩ ⟨2, ![H, N]⟩ [0] [1] [] [1] [] 1 ![H, 1])
    (x : (⟨2, ![H, C]⟩ : Shape).Idx → α) (I : IVec ⟨2, ![N, 1]⟩ 32) (h : Fin H) (i : Fin N) :
    Host.gather (colsOfList H C N wf) x I (ix2 h i) = x (ix2 h ⟨min (I (ix2 i 0)).toInt.toNat (C - 1), by omega⟩) := by
  unfold Host.gather
  congr 1
  funext a
  refine Fin.ext ?_
  show (colsOfList H C N wf).start (ix2 h i) I a + (colsOfList H C N wf).batchCoord (ix2 h i) a + (colsOfList H C N wf).offCoord (ix2 h i) a = _
  rw [GatherDims.batchCoord_eq_zero _ _ _ (fun h => by simp at h)]
  have ha : a = 0 ∨ a = 1 := by
    match a with
    | ⟨0, _⟩ => exact Or.inl rfl
    | ⟨1, _⟩ => exact Or.inr rfl
  rcases ha with rfl | rfl
  · unfold GatherDims.start GatherDims.offCoord
    rw [dif_neg (fun h => absurd (List.mem_singleton.mp h) (by simp)), dif_pos ((GatherDims.mem_sKept _ _).mpr ⟨fun h => absurd (List.mem_singleton.mp h) (by simp), fun h => by simp at h⟩)]
    show 0 + 0 + (h : ℕ) = h
    omega
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsOfList H C N wf).startIndexMap from List.mem_singleton.mpr rfl)]
    have hs : (colsOfList H C N wf).siIdx (ix2 h i) ⟨List.idxOf (1 : Fin 2) (colsOfList H C N wf).startIndexMap,
        List.idxOf_lt_length_iff.2 (List.mem_singleton.mpr rfl)⟩ = ix2 i 0 := by
      funext b; refine Fin.ext ?_
      match b with
      | ⟨0, _⟩ => rfl
      | ⟨1, _⟩ => rfl
    rw [hs]
    rfl

end Columns

end Cert.AttnProof

end
-- ==== Proof.AttnRef.lean ====
/- The reference's attention at one entry: the softmax-weighted sum of the values over the whole sequence. -/
module

public import proofs.«01_k».proof.Defs
public import proofs.«01_k».proof.Proof.Gen.AttnRefIdeal.Run
public import proofs.«01_k».proof.Proof.AttnMath
public import proofs.«01_k».proof.Proof.AttnIndex
public import Idealize.ShloMosaic.Lib.Pointwise

@[expose] public section

set_option maxRecDepth 16384

noncomputable section

namespace Cert.AttnProof

open Idealize.ShloMosaic Idealize.ShloMosaic.TcCoe Idealize.SL.Sem

section Reference
open Cert.AttnRefIdeal Cert.AttnRefIdeal.Gen

/-- The chunk of every key. -/
def keyChunk : IVec S1x4096 32 :=
  Host.divsi (broadcastInDim S1x4096 ![1] bcast_S4096_S1x4096_1 (iotaInDim S4096 32 0)) (broadcastInDim S1x4096 ![] bcast_S_S1x4096 (constantI S_ 32 64#32))

/-- The chunk of every query. -/
def queryChunk : IVec S4096x1 32 :=
  Host.divsi (broadcastInDim S4096x1 ![0] bcast_S4096_S4096x1_0 (iotaInDim S4096 32 0)) (broadcastInDim S4096x1 ![] bcast_S_S4096x1 (constantI S_ 32 64#32))

/-- Which key each query sees. -/
def seen : IVec S4096x4096 1 :=
  andi (cmpi .sle (broadcastInDim S4096x4096 ![0, 1] bcast_S1x4096_S4096x4096_0_1 keyChunk) (broadcastInDim S4096x4096 ![0, 1] bcast_S4096x1_S4096x4096_0_1 queryChunk))
    (cmpi .sge (broadcastInDim S4096x4096 ![0, 1] bcast_S1x4096_S4096x4096_0_1 keyChunk) (broadcastInDim S4096x4096 ![0, 1] bcast_S4096x1_S4096x4096_0_1 (subi queryChunk (broadcastInDim S4096x1 ![] bcast_S_S4096x1 (constantI S_ 32 8#32)))))

/-- The clipped distance from key to query, as a column of the bias table. -/
def distance : IVec S4096x4096 32 :=
  addi (minsi (broadcastInDim S4096x4096 ![] bcast_S_S4096x4096 (id (constantI S_ 32 128#32))) (maxsi (broadcastInDim S4096x4096 ![] bcast_S_S4096x4096 (id (constantI S_ 32 4294967168#32))) (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))))) (broadcastInDim S4096x4096 ![] bcast_S_S4096x4096 (constantI S_ 32 128#32))

/-- The bias of every head, query and key. -/
def bias (B : FVec Ideal S8x257 .f32) : FVec Ideal S8x4096x4096 .f32 :=
  Host.gather gather_S8x257_S4096x4096x1_S8x4096x4096_0_1_n_n_1_2_81 B (broadcastInDim S4096x4096x1 ![0, 1] bcast_S4096x4096_S4096x4096x1_0_1 distance)

/-- The scores, −∞ where a key isn't seen. -/
def allScores (Q K : FVec Ideal S16x4096x512 .bf16) (B : FVec Ideal S8x257 .f32) : FVec Ideal S16x8x4096x4096 .f32 :=
  select (broadcastInDim S16x8x4096x4096 ![0, 1, 2, 3] bcast_S1x1x4096x4096_S16x8x4096x4096_0_1_2_3 (broadcastInDim S1x1x4096x4096 ![2, 3] bcast_S4096x4096_S1x1x4096x4096_2_3 seen)) (addf (mulf (Host.dotGeneral dot_S16x4096x8x64_S16x4096x8x64_S16x8x4096x4096_3_3_1_1_02_02 none (shapeCast _ (extf .f32 Q bitsLt_bf16_f32) shapeCasts_S16x4096x512_S16x4096x8x64) (shapeCast _ (extf .f32 K bitsLt_bf16_f32) shapeCasts_S16x4096x512_S16x4096x8x64)) (broadcastInDim S16x8x4096x4096 ![] bcast_S_S16x8x4096x4096 (constant S_ .f32 0x3E000000#32))) (broadcastInDim S16x8x4096x4096 ![0, 1, 2, 3] bcast_S1x8x4096x4096_S16x8x4096x4096_0_1_2_3 (broadcastInDim S1x8x4096x4096 ![1, 2, 3] bcast_S8x4096x4096_S1x8x4096x4096_1_2_3 (bias B)))) (broadcastInDim S16x8x4096x4096 ![] bcast_S_S16x8x4096x4096 (id (constant S_ .f32 0xFF800000#32)))

/-- The exponentials of the scores less a given value per query. -/
def shifted (S : FVec Ideal S16x8x4096x4096 .f32) (M : FVec Ideal S16x8x4096 .f32) : FVec Ideal S16x8x4096x4096 .f32 :=
  Host.exp (subf S (broadcastInDim S16x8x4096x4096 ![0, 1, 2, 3] bcast_S16x8x4096x1_S16x8x4096x4096_0_1_2_3 (broadcastInDim S16x8x4096x1 ![0, 1, 2] bcast_S16x8x4096_S16x8x4096x1_0_1_2 (maximumf (broadcastInDim S16x8x4096 ![] bcast_S_S16x8x4096 (constant S_ .f32 0xFF800000#32)) M))))

/-- The unnormalised weights of the scores. -/
def allWeights (S : FVec Ideal S16x8x4096x4096 .f32) : FVec Ideal S16x8x4096x4096 .f32 :=
  shifted S (Host.reduce FloatOps.maximumf S (constant S_ .f32 0xFF800000#32) reducesTo_S16x8x4096x4096_S16x8x4096_d3 h_S_)

/-- The reference's result from its weights and values. -/
def mixed (P : FVec Ideal S16x8x4096x4096 .f32) (V : FVec Ideal S16x4096x512 .bf16) : FVec Ideal S16x4096x512 .bf16 :=
  truncf .bf16 (shapeCast _ (transpose S16x4096x8x64 [0, 3, 1, 2] (Host.dotGeneral dot_S16x4096x8x64_S16x8x4096x4096_S16x8x64x4096_1_3_3_2_02_01 none (shapeCast _ (extf .f32 V bitsLt_bf16_f32) shapeCasts_S16x4096x512_S16x4096x8x64) (Host.divf P (broadcastInDim S16x8x4096x4096 ![0, 1, 2, 3] bcast_S16x8x4096x1_S16x8x4096x4096_0_1_2_3 (broadcastInDim S16x8x4096x1 ![0, 1, 2] bcast_S16x8x4096_S16x8x4096x1_0_1_2 (Host.reduceAdd P (constant S_ .f32 0x00000000#32) reducesTo_S16x8x4096x4096_S16x8x4096_d3 h_S_))))) transposes_S16x8x64x4096_S16x4096x8x64_0_3_1_2) shapeCasts_S16x4096x8x64_S16x4096x512) bitsLt_bf16_f32

set_option maxHeartbeats 4000000 in
/-- The reference's run ends with `mixed` of the scores' weights. -/
theorem res_eq (m : (ℓ : Loc nD τ sig) → Buf (Elt Ideal) ℓ) (c : Dev nD) : Cert.AttnRefIdeal.Value.res_main_v51 m c
    = mixed (allWeights (allScores (m ((c.tc : Thread nD τ).loc main_arg0)) (m ((c.tc : Thread nD τ).loc main_arg1)) (m ((c.tc : Thread nD τ).loc main_arg3)))) (m ((c.tc : Thread nD τ).loc main_arg2)) := rfl

/-- A key's chunk. -/
theorem keyChunk_at : ∀ k : Fin 4096, (keyChunk (ix2 0 k)).toInt = ((k : ℕ) : ℤ) / 64 := by
  unfold keyChunk; decide +kernel

/-- A query's chunk. -/
theorem queryChunk_at : ∀ i : Fin 4096, (queryChunk (ix2 i 0)).toInt = ((i : ℕ) : ℤ) / 64 := by
  unfold queryChunk; decide +kernel

/-- A query sees the keys of its own chunk and of the eight before it. -/
theorem seen_at (i k : Fin 4096) : seen (ix2 i k)
    = if ((k : ℕ) : ℤ) / 64 ≤ ((i : ℕ) : ℤ) / 64 ∧ ((i : ℕ) : ℤ) / 64 - 8 ≤ ((k : ℕ) : ℤ) / 64 then 1#1 else 0#1 := by
  pointwise [seen]
  exact both_bits (keyChunk_at k) (queryChunk_at i) (toInt_sub_exact (queryChunk_at i) (by decide) (by omega) (by omega))

/-- The column of the bias table a query reads for a key. -/
theorem distance_at (i k : Fin 4096) : (distance (ix2 i k)).toInt = min 128 (max (-128) (((i : ℕ) : ℤ) - ((k : ℕ) : ℤ))) + 128 := by
  pointwise [distance]
  exact toInt_add_exact (toInt_min (by decide) (toInt_max (by decide) (toInt_sub_exact (pos_word i (by omega)) (pos_word k (by omega)) (by omega) (by omega)))) (by decide) (by omega) (by omega)

/-- The bias of a head for a query and a key is the table's entry at their distance. -/
theorem bias_at (B : FVec Ideal S8x257 .f32) (h : Fin 8) (i k : Fin 4096) : bias B (ix3 h i k) = B (ix2 h (rel (((i : ℕ) : ℤ) - ((k : ℕ) : ℤ)))) := by
  have hd : (broadcastInDim S4096x4096x1 ![0, 1] bcast_S4096x4096_S4096x4096x1_0_1 distance (ix3 i k 0)).toInt
      = min 128 (max (-128) (((i : ℕ) : ℤ) - ((k : ℕ) : ℤ))) + 128 := by
    pointwise
    exact distance_at i k
  refine (colsOfMatrix_at (by omega) gather_S8x257_S4096x4096x1_S8x4096x4096_0_1_n_n_1_2_81_wf B _ h i k).trans (congrArg B (congrArg (ix2 h) (Fin.ext ?_)))
  show min (BitVec.toInt _).toNat 256 = (min 128 (max (-128) (((i : ℕ) : ℤ) - ((k : ℕ) : ℤ))) + 128).toNat
  rw [hd]
  omega

/-- A head's score of a query and a key. -/
def score (Q K : FVec Ideal S16x4096x512 .bf16) (B : FVec Ideal S8x257 .f32) (b : Fin 16) (h : Fin 8) (i k : Fin 4096) : EReal :=
  if ((k : ℕ) : ℤ) / 64 ≤ ((i : ℕ) : ℤ) / 64 ∧ ((i : ℕ) : ℤ) / 64 - 8 ≤ ((k : ℕ) : ℤ) / 64 then
    (∑ d : Fin 64, Q (ix3 b i ⟨64 * (h : ℕ) + (d : ℕ), by omega⟩) * K (ix3 b k ⟨64 * (h : ℕ) + (d : ℕ), by omega⟩)) * Ideal.ofBits .f32 0x3E000000#32
      + B (ix2 h (rel (((i : ℕ) : ℤ) - ((k : ℕ) : ℤ))))
  else ⊥

set_option maxHeartbeats 4000000 in
/-- The reference's scores. -/
theorem allScores_at (Q K : FVec Ideal S16x4096x512 .bf16) (B : FVec Ideal S8x257 .f32) (b : Fin 16) (h : Fin 8) (i k : Fin 4096) :
    allScores Q K B (ix4 b h i k) = score Q K B b h i k := by
  pointwise [allScores]
  rw [seen_at, bias_at]
  unfold score
  by_cases hk : ((k : ℕ) : ℤ) / 64 ≤ ((i : ℕ) : ℤ) / 64 ∧ ((i : ℕ) : ℤ) / 64 - 8 ≤ ((k : ℕ) : ℤ) / 64
  · rw [if_pos hk, if_pos hk]
    refine (congrArg (fun z => z * _ + _) (Finset.sum_congr rfl fun d _ => ?_))
    exact congrArg₂ (· * ·) (congrArg Q (congrArg (ix3 b i) (Fin.ext (by show (h : ℕ) * 64 + (d : ℕ) = 64 * (h : ℕ) + (d : ℕ); omega)))) (congrArg K (congrArg (ix3 b k) (Fin.ext (by show (h : ℕ) * 64 + (d : ℕ) = 64 * (h : ℕ) + (d : ℕ); omega))))
  · rw [if_neg hk, if_neg hk]
    exact bot_word

/-- A maximum over the last of four axes, at an entry. -/
theorem reduce_max {n0 n1 n2 n3 : ℕ} (v : FVec Ideal ⟨4, ![n0, n1, n2, n3]⟩ .f32) (c : FVec Ideal S_ .f32)
    (hr : (⟨4, ![n0, n1, n2, n3]⟩ : Shape).ReducesTo [3] ⟨3, ![n0, n1, n2]⟩) (hp : 0 < S_.numel) (a : Fin n0) (b : Fin n1) (i : Fin n2) :
    Host.reduce FloatOps.maximumf v c hr hp (ix3 a b i) = Finset.univ.fold max (c (Shape.Idx.first hp)) fun k : Fin n3 => v (ix4 a b i k) := by
  pointwise

/-- A weight at an entry. -/
theorem shifted_at (S : FVec Ideal S16x8x4096x4096 .f32) (M : FVec Ideal S16x8x4096 .f32) (b : Fin 16) (h : Fin 8) (i k : Fin 4096) :
    shifted S M (ix4 b h i k) = Ideal.exp (S (ix4 b h i k) - max (Ideal.ofBits .f32 0xFF800000#32) (M (ix3 b h i))) := by
  pointwise [shifted]

/-- A query's largest score. -/
theorem top_at (S : FVec Ideal S16x8x4096x4096 .f32) (b : Fin 16) (h : Fin 8) (i : Fin 4096) :
    Host.reduce FloatOps.maximumf S (constant S_ .f32 0xFF800000#32) reducesTo_S16x8x4096x4096_S16x8x4096_d3 h_S_ (ix3 b h i)
      = Finset.univ.fold max (Ideal.ofBits .f32 0xFF800000#32) fun k => S (ix4 b h i k) :=
  reduce_max S _ _ _ b h i

/-- The result at an entry, from the weights. -/
theorem mixed_at (P : FVec Ideal S16x8x4096x4096 .f32) (V : FVec Ideal S16x4096x512 .bf16) (b : Fin 16) (h : Fin 8) (i : Fin 4096) (d : Fin 64) :
    mixed P V (ix3 b i ⟨64 * (h : ℕ) + (d : ℕ), by omega⟩)
      = ∑ k, V (ix3 b k ⟨64 * (h : ℕ) + (d : ℕ), by omega⟩) * Ideal.div (P (ix4 b h i k)) (∑ k, P (ix4 b h i k)) := by
  have hd : (⟨64 * (h : ℕ) + (d : ℕ), by omega⟩ : Fin 512) = ⟨(h : ℕ) * 64 + (d : ℕ), by omega⟩ := Fin.ext (by show 64 * (h : ℕ) + (d : ℕ) = (h : ℕ) * 64 + (d : ℕ); omega)
  rw [hd]
  pointwise [mixed]

/-- The reference's result at an entry is the weighted sum of the values over all the keys. -/
theorem result_at (Q K V : FVec Ideal S16x4096x512 .bf16) (B : FVec Ideal S8x257 .f32) (b : Fin 16) (h : Fin 8) (i : Fin 4096) (d : Fin 64) :
    mixed (allWeights (allScores Q K B)) V (ix3 b i ⟨64 * (h : ℕ) + (d : ℕ), by omega⟩)
      = early (score Q K B b h i) (fun k => V (ix3 b k ⟨64 * (h : ℕ) + (d : ℕ), by omega⟩)) := by
  have hw : ∀ k, allWeights (allScores Q K B) (ix4 b h i k) = Ideal.exp (score Q K B b h i k - peak (score Q K B b h i)) := fun k => by
    unfold allWeights peak
    rw [shifted_at, top_at, bot_word, allScores_at, bot_sup_eq]
    exact congrArg (fun f => Ideal.exp (score Q K B b h i k - Finset.univ.fold max ⊥ f)) (funext fun k => allScores_at Q K B b h i k)
  rw [mixed_at]
  unfold early
  simp only [hw]

end Reference

end Cert.AttnProof

end
-- ==== Proof.AttnHost.lean ====
/- What the attention kernel is given: the keys and values behind 512 rows of zeros, and one bias tile per head for every query tile. -/
module

public import proofs.«01_k».proof.Defs
public import proofs.«01_k».proof.Proof.Gen.AttnIdeal.Value
public import proofs.«01_k».proof.Proof.AttnMath
public import proofs.«01_k».proof.Proof.AttnIndex
public import Idealize.ShloMosaic.Lib.Pipeline.ValueKit
public import Idealize.ShloMosaic.Lib.Pointwise

@[expose] public section

set_option maxRecDepth 16384

noncomputable section

namespace Cert.AttnProof

open Idealize.ShloMosaic Idealize.ShloMosaic.TcCoe Idealize.SL.Sem
open Cert.AttnIdeal Cert.AttnIdeal.Gen

/-- A sequence behind 512 rows of zeros. -/
abbrev behind (X : FVec Ideal S16x4096x512 .bf16) : FVec Ideal S16x4608x512 .bf16 :=
  concatenate S16x4608x512 1 [⟨S16x512x512, ((broadcastInDim S16x512x512 ![] bcast_S_S16x512x512 (constant S_ .bf16 0x0000#16) : FVec Ideal S16x512x512 .bf16) : (⟨S16x512x512, .bf16⟩ : BufTy).Contents (Elt Ideal))⟩, ⟨S16x4096x512, X⟩] concatenates_S16x512x512_S16x4096x512_S16x4608x512_d1

/-- A row of the padded sequence past its zeros. -/
theorem behind_at (X : FVec Ideal S16x4096x512 .bf16) (b : Fin 16) (r : Fin 4608) (d : Fin 512) (h : 512 ≤ (r : ℕ)) :
    behind X (ix3 b r d) = X (ix3 b ⟨(r : ℕ) - 512, by omega⟩ d) := by
  pointwise [behind]
  exact dif_neg (by omega)

/-- The clipped distances a query tile meets, each a column of the bias table. -/
abbrev columns : IVec S768 32 :=
  addi (minsi (broadcastInDim S768 ![] bcast_S_S768 (id (constantI S_ 32 128#32))) (maxsi (broadcastInDim S768 ![] bcast_S_S768 (id (constantI S_ 32 4294967168#32)))
    (subi (broadcastInDim S768 ![] bcast_S_S768 (constantI S_ 32 639#32)) (iotaInDim S768 32 0)))) (broadcastInDim S768 ![] bcast_S_S768 (constantI S_ 32 128#32))

/-- The same as a list of columns, counted from the table's end where negative. -/
abbrev columnList : IVec S768x1 32 :=
  broadcastInDim S768x1 ![0] bcast_S768_S768x1_0 (select (cmpi .slt columns (broadcastInDim S768 ![] bcast_S_S768 (constantI S_ 32 0#32))) (addi columns (broadcastInDim S768 ![] bcast_S_S768 (constantI S_ 32 257#32))) columns)

/-- The column at a place of the list. -/
theorem columnList_at : ∀ s : Fin 768, (columnList (ix2 s 0)).toInt = min 128 (max (-128) (639 - ((s : ℕ) : ℤ))) + 128 := by
  unfold columnList columns; decide +kernel

/-- One row of biases per head, along the list. -/
abbrev biasRow (B : FVec Ideal S8x257 .f32) : FVec Ideal S8x768 .f32 := Host.gather gather_S8x257_S768x1_S8x768_0_1_n_n_1_1_81 B columnList

/-- A head's bias at a place of the list. -/
theorem biasRow_at (B : FVec Ideal S8x257 .f32) (h : Fin 8) (s : Fin 768) : biasRow B (ix2 h s) = B (ix2 h (rel (639 - ((s : ℕ) : ℤ)))) := by
  refine (colsOfList_at (by omega) gather_S8x257_S768x1_S8x768_0_1_n_n_1_1_81_wf B _ h s).trans (congrArg B (congrArg (ix2 h) (Fin.ext ?_)))
  show min (BitVec.toInt _).toNat 256 = (min 128 (max (-128) (639 - ((s : ℕ) : ℤ))) + 128).toNat
  rw [columnList_at]
  omega

/-- A row of 768 repeated 128 times and cut every 767: each line of the tile is the row shifted by one. -/
abbrev skew (R : FVec Ideal S8x768 .f32) : FVec Ideal S8x128x640 .f32 :=
  extractStridedSlice S8x128x640 ![0, 0, 127] (shapeCast S8x128x767 (extractStridedSlice S8x98176 ![0, 0]
    (shapeCast S8x98304 (broadcastInDim S1x8x128x768 ![0, 1, 2, 3] bcast_S1x8x1x768_S1x8x128x768_0_1_2_3 (shapeCast S1x8x1x768 R shapeCasts_S8x768_S1x8x1x768))
      shapeCasts_S1x8x128x768_S8x98304) slices_S8x98304_S8x98176_0_0) shapeCasts_S8x98176_S8x128x767) slices_S8x128x767_S8x128x640_0_0_127

/-- The shifted tile at an entry. -/
theorem skew_at (R : FVec Ideal S8x768 .f32) (h : Fin 8) (r : Fin 128) (j : Fin 640) :
    skew R (ix3 h r j) = R (ix2 h ⟨127 + (j : ℕ) - (r : ℕ), by omega⟩) := by
  pointwise [skew]
  exact congrArg R (congrArg (ix2 h) (Fin.ext (by show ((r : ℕ) * 767 + (127 + (j : ℕ))) % 768 = 127 + (j : ℕ) - (r : ℕ); omega)))

/-- The chunk of a query of the tile. -/
abbrev rowChunk : IVec S128x1 32 :=
  select (andi (cmpi .ne (signi (broadcastInDim S128x1 ![0] bcast_S128_S128x1_0 (iotaInDim S128 32 0))) (broadcastInDim S128x1 ![] bcast_S_S128x1 (signi (id (constantI S_ 32 64#32)))))
      (cmpi .ne (Host.remsi (broadcastInDim S128x1 ![0] bcast_S128_S128x1_0 (iotaInDim S128 32 0)) (broadcastInDim S128x1 ![] bcast_S_S128x1 (id (constantI S_ 32 64#32)))) (broadcastInDim S128x1 ![] bcast_S_S128x1 (constantI S_ 32 0#32))))
    (subi (Host.divsi (broadcastInDim S128x1 ![0] bcast_S128_S128x1_0 (iotaInDim S128 32 0)) (broadcastInDim S128x1 ![] bcast_S_S128x1 (id (constantI S_ 32 64#32)))) (broadcastInDim S128x1 ![] bcast_S_S128x1 (constantI S_ 32 1#32)))
    (Host.divsi (broadcastInDim S128x1 ![0] bcast_S128_S128x1_0 (iotaInDim S128 32 0)) (broadcastInDim S128x1 ![] bcast_S_S128x1 (id (constantI S_ 32 64#32))))

/-- The chunk of a key of the window, counted from the window's start. -/
abbrev colChunk : IVec S1x640 32 :=
  select (andi (cmpi .ne (signi (broadcastInDim S1x640 ![1] bcast_S640_S1x640_1 (iotaInDim S640 32 0))) (broadcastInDim S1x640 ![] bcast_S_S1x640 (signi (id (constantI S_ 32 64#32)))))
      (cmpi .ne (Host.remsi (broadcastInDim S1x640 ![1] bcast_S640_S1x640_1 (iotaInDim S640 32 0)) (broadcastInDim S1x640 ![] bcast_S_S1x640 (id (constantI S_ 32 64#32)))) (broadcastInDim S1x640 ![] bcast_S_S1x640 (constantI S_ 32 0#32))))
    (subi (Host.divsi (broadcastInDim S1x640 ![1] bcast_S640_S1x640_1 (iotaInDim S640 32 0)) (broadcastInDim S1x640 ![] bcast_S_S1x640 (id (constantI S_ 32 64#32)))) (broadcastInDim S1x640 ![] bcast_S_S1x640 (constantI S_ 32 1#32)))
    (Host.divsi (broadcastInDim S1x640 ![1] bcast_S640_S1x640_1 (iotaInDim S640 32 0)) (broadcastInDim S1x640 ![] bcast_S_S1x640 (id (constantI S_ 32 64#32))))

/-- A query's chunk. -/
theorem rowChunk_at : ∀ r : Fin 128, (rowChunk (ix2 r 0)).toInt = ((r : ℕ) : ℤ) / 64 := by
  unfold rowChunk; decide +kernel

/-- A key's chunk. -/
theorem colChunk_at : ∀ j : Fin 640, (colChunk (ix2 0 j)).toInt = ((j : ℕ) : ℤ) / 64 := by
  unfold colChunk; decide +kernel

/-- Which keys of the window each query of the tile sees. -/
abbrev visible : IVec S128x640 1 :=
  andi (cmpi .sle (broadcastInDim S128x640 ![0, 1] bcast_S1x640_S128x640_0_1 (subi colChunk (broadcastInDim S1x640 ![] bcast_S_S1x640 (constantI S_ 32 8#32)))) (broadcastInDim S128x640 ![0, 1] bcast_S128x1_S128x640_0_1 rowChunk))
    (cmpi .sge (broadcastInDim S128x640 ![0, 1] bcast_S1x640_S128x640_0_1 (subi colChunk (broadcastInDim S1x640 ![] bcast_S_S1x640 (constantI S_ 32 8#32)))) (broadcastInDim S128x640 ![0, 1] bcast_S128x1_S128x640_0_1 (subi rowChunk (broadcastInDim S128x1 ![] bcast_S_S128x1 (constantI S_ 32 8#32)))))

/-- A query of the tile sees the window's keys of its own chunk and of the eight before it. -/
theorem visible_at (r : Fin 128) (j : Fin 640) : visible (ix2 r j)
    = if ((j : ℕ) : ℤ) / 64 - 8 ≤ ((r : ℕ) : ℤ) / 64 ∧ ((r : ℕ) : ℤ) / 64 - 8 ≤ ((j : ℕ) : ℤ) / 64 - 8 then 1#1 else 0#1 := by
  have hc := colChunk_at j
  have hr := rowChunk_at r
  unfold visible
  revert hc hr
  generalize colChunk = C
  generalize rowChunk = R
  intro hc hr
  have e : andi (cmpi .sle (broadcastInDim S128x640 ![0, 1] bcast_S1x640_S128x640_0_1 (subi C (broadcastInDim S1x640 ![] bcast_S_S1x640 (constantI S_ 32 8#32)))) (broadcastInDim S128x640 ![0, 1] bcast_S128x1_S128x640_0_1 R))
    (cmpi .sge (broadcastInDim S128x640 ![0, 1] bcast_S1x640_S128x640_0_1 (subi C (broadcastInDim S1x640 ![] bcast_S_S1x640 (constantI S_ 32 8#32)))) (broadcastInDim S128x640 ![0, 1] bcast_S128x1_S128x640_0_1 (subi R (broadcastInDim S128x1 ![] bcast_S_S128x1 (constantI S_ 32 8#32))))) (ix2 r j)
      = IntOp.andi (IntOp.cmpi .sle (IntOp.subi (C (ix2 0 j)) 8#32) (R (ix2 r 0))) (IntOp.cmpi .sge (IntOp.subi (C (ix2 0 j)) 8#32) (IntOp.subi (R (ix2 r 0)) 8#32)) := by
    pointwise
  rw [e]
  exact both_bits (toInt_sub_exact hc (by decide) (by omega) (by omega)) hr (toInt_sub_exact hr (by decide) (by omega) (by omega))

/-- The bias tiles given to the kernel. -/
abbrev biasTiles (B : FVec Ideal S8x257 .f32) : FVec Ideal S8x128x640 .f32 :=
  select (broadcastInDim S8x128x640 ![0, 1, 2] bcast_S1x128x640_S8x128x640_0_1_2 (broadcastInDim S1x128x640 ![1, 2] bcast_S128x640_S1x128x640_1_2 visible)) (skew (biasRow B)) (broadcastInDim S8x128x640 ![] bcast_S_S8x128x640 (id (constant S_ .f32 0xFF800000#32)))

/-- A bias tile at an entry: the table at the distance of query and key, −∞ where the key isn't seen. -/
theorem biasTiles_at (B : FVec Ideal S8x257 .f32) (h : Fin 8) (r : Fin 128) (j : Fin 640) : biasTiles B (ix3 h r j)
    = if ((j : ℕ) : ℤ) / 64 - 8 ≤ ((r : ℕ) : ℤ) / 64 ∧ ((r : ℕ) : ℤ) / 64 - 8 ≤ ((j : ℕ) : ℤ) / 64 - 8 then B (ix2 h (rel (512 + ((r : ℕ) : ℤ) - ((j : ℕ) : ℤ)))) else ⊥ := by
  have hv := visible_at r j
  have hs := (skew_at (biasRow B) h r j).trans (biasRow_at B h ⟨127 + (j : ℕ) - (r : ℕ), by omega⟩)
  have he : (639 : ℤ) - (((⟨127 + (j : ℕ) - (r : ℕ), by omega⟩ : Fin 768) : ℕ) : ℤ) = 512 + ((r : ℕ) : ℤ) - ((j : ℕ) : ℤ) := by
    show (639 : ℤ) - ((127 + (j : ℕ) - (r : ℕ) : ℕ) : ℤ) = _
    omega
  rw [he] at hs
  unfold biasTiles
  revert hv hs
  generalize visible = W
  generalize skew (biasRow B) = T
  intro hv hs
  pointwise
  rw [hv, hs]
  by_cases hk : ((j : ℕ) : ℤ) / 64 - 8 ≤ ((r : ℕ) : ℤ) / 64 ∧ ((r : ℕ) : ℤ) / 64 - 8 ≤ ((j : ℕ) : ℤ) / 64 - 8
  · rw [if_pos hk, if_pos hk]; rfl
  · rw [if_neg hk, if_neg hk]; exact bot_word

variable (m : (ℓ : Loc nD τ sig) → Buf (Elt Ideal) ℓ)

/-- The keys the kernel is given. -/
theorem keys_eq (c : Dev nD) : V m c main_v1 = behind (m ((c : Thread nD τ).loc main_arg1)) := rfl

/-- The values the kernel is given. -/
theorem values_eq (c : Dev nD) : V m c main_v2 = behind (m ((c : Thread nD τ).loc main_arg2)) := rfl

end Cert.AttnProof

end
-- ==== Proof.AttnCore.lean ====
/- One tile of the attention kernel is the reference's result at the tile's place: a query's window holds every key it sees. -/
module

public import proofs.«01_k».proof.Defs
public import proofs.«01_k».proof.Proof.AttnKernel
public import proofs.«01_k».proof.Proof.AttnRef
public import proofs.«01_k».proof.Proof.AttnHost

@[expose] public section

set_option maxRecDepth 16384

noncomputable section

namespace Cert.AttnProof

open Idealize.ShloMosaic Idealize.ShloMosaic.TcCoe Idealize.SL.Sem
open Cert.AttnIdeal Cert.AttnIdeal.Gen

/-- A real number among the extended ones. -/
def Real' (x : EReal) : Prop := ∃ r : ℝ, x = (r : EReal)

/-- A real number isn't ⊤. -/
theorem Real'.ne_top {x : EReal} (h : Real' x) : x ≠ ⊤ := by obtain ⟨r, rfl⟩ := h; exact EReal.coe_ne_top r

/-- A real number isn't ⊥. -/
theorem Real'.ne_bot {x : EReal} (h : Real' x) : x ≠ ⊥ := by obtain ⟨r, rfl⟩ := h; exact EReal.coe_ne_bot r

/-- Sums of two real numbers are real. -/
theorem Real'.add {x y : EReal} (hx : Real' x) (hy : Real' y) : Real' (x + y) := by
  obtain ⟨a, rfl⟩ := hx; obtain ⟨b, rfl⟩ := hy; exact ⟨a + b, (EReal.coe_add a b).symm⟩

/-- Products of two real numbers are real. -/
theorem Real'.mul {x y : EReal} (hx : Real' x) (hy : Real' y) : Real' (x * y) := by
  obtain ⟨a, rfl⟩ := hx; obtain ⟨b, rfl⟩ := hy; exact ⟨a * b, (EReal.coe_mul a b).symm⟩

/-- Sums of real numbers are real. -/
theorem Real'.sum {ι : Type} [Fintype ι] {x : ι → EReal} (h : ∀ i, Real' (x i)) : Real' (∑ i, x i) := by
  choose w hw using h
  exact ⟨∑ i, w i, by rw [coe_sum]; exact Finset.sum_congr rfl fun i _ => hw i⟩

/-- The scale of the scores is one eighth. -/
theorem scale_real : Real' (Ideal.ofBits .f32 0x3E000000#32) := by
  refine ⟨(1 / 8 : ℝ), ?_⟩
  simp [Ideal.ofBits, Ideal.ieee]
  rw [← EReal.coe_mul]
  norm_num

section Scores
variable (Q K Vs : FVec Ideal S16x4096x512 .bf16) (B : FVec Ideal S8x257 .f32)

/-- A key that is seen has a real score. -/
theorem score_real (hQ : ∀ i, Real' (Q i)) (hK : ∀ i, Real' (K i)) (hB : ∀ i, Real' (B i)) (b : Fin 16) (h : Fin 8) (i k : Fin 4096)
    (hs : ((k : ℕ) : ℤ) / 64 ≤ ((i : ℕ) : ℤ) / 64 ∧ ((i : ℕ) : ℤ) / 64 - 8 ≤ ((k : ℕ) : ℤ) / 64) : Real' (score Q K B b h i k) := by
  unfold score
  rw [if_pos hs]
  exact ((Real'.sum fun d => (hQ _).mul (hK _)).mul scale_real).add (hB _)

/-- No score is ⊤. -/
theorem score_ne_top (hQ : ∀ i, Real' (Q i)) (hK : ∀ i, Real' (K i)) (hB : ∀ i, Real' (B i)) (b : Fin 16) (h : Fin 8) (i k : Fin 4096) :
    score Q K B b h i k ≠ ⊤ := by
  by_cases hs : ((k : ℕ) : ℤ) / 64 ≤ ((i : ℕ) : ℤ) / 64 ∧ ((i : ℕ) : ℤ) / 64 - 8 ≤ ((k : ℕ) : ℤ) / 64
  · exact (score_real Q K B hQ hK hB b h i k hs).ne_top
  · unfold score; rw [if_neg hs]; exact bot_ne_top

/-- The key of the sequence at a place of a tile's window; a place before the sequence goes to its first key. -/
def place (p : Fin 32) (j : Fin 640) : Fin 4096 := ⟨128 * (p : ℕ) + (j : ℕ) - 512, by omega⟩

/-- The query of the sequence at a row of a tile. -/
def row (p : Fin 32) (r : Fin 128) : Fin 4096 := ⟨128 * (p : ℕ) + (r : ℕ), by omega⟩

/-- A window's score is the sequence's score at its place, ⊥ before the sequence. -/
theorem window_score (b : Fin 16) (p : Fin 32) (h : Fin 8) (ok : BitVec 1) (q k : Fin 64 → EReal) (be : EReal) (r : Fin 128) (j : Fin 640)
    (hok : ok = if 512 ≤ 128 * (p : ℕ) + (j : ℕ) then 1#1 else 0#1)
    (hq : ∀ d, q d = Q (ix3 b (row p r) ⟨64 * (h : ℕ) + (d : ℕ), by omega⟩))
    (hk : 512 ≤ 128 * (p : ℕ) + (j : ℕ) → ∀ d, k d = K (ix3 b (place p j) ⟨64 * (h : ℕ) + (d : ℕ), by omega⟩))
    (hb : be = biasTiles B (ix3 h r j)) :
    Scalar.select ok ((∑ d, q d * k d) * Ideal.ofBits .f32 0x3E000000#32 + be) ⊥
      = if 512 ≤ 128 * (p : ℕ) + (j : ℕ) then score Q K B b h (row p r) (place p j) else ⊥ := by
  subst hok
  by_cases hj : 512 ≤ 128 * (p : ℕ) + (j : ℕ)
  · rw [if_pos hj, if_pos hj, hb, biasTiles_at]
    show (∑ d, q d * k d) * Ideal.ofBits .f32 0x3E000000#32 + _ = _
    unfold score
    have e1 : ((place p j : ℕ) : ℤ) / 64 ≤ ((row p r : ℕ) : ℤ) / 64 ∧ ((row p r : ℕ) : ℤ) / 64 - 8 ≤ ((place p j : ℕ) : ℤ) / 64
        ↔ ((j : ℕ) : ℤ) / 64 - 8 ≤ ((r : ℕ) : ℤ) / 64 ∧ ((r : ℕ) : ℤ) / 64 - 8 ≤ ((j : ℕ) : ℤ) / 64 - 8 := by
      show ((128 * (p : ℕ) + (j : ℕ) - 512 : ℕ) : ℤ) / 64 ≤ ((128 * (p : ℕ) + (r : ℕ) : ℕ) : ℤ) / 64 ∧ ((128 * (p : ℕ) + (r : ℕ) : ℕ) : ℤ) / 64 - 8 ≤ ((128 * (p : ℕ) + (j : ℕ) - 512 : ℕ) : ℤ) / 64 ↔ _
      omega
    have e2 : ((row p r : ℕ) : ℤ) - ((place p j : ℕ) : ℤ) = 512 + ((r : ℕ) : ℤ) - ((j : ℕ) : ℤ) := by
      show ((128 * (p : ℕ) + (r : ℕ) : ℕ) : ℤ) - ((128 * (p : ℕ) + (j : ℕ) - 512 : ℕ) : ℤ) = _
      omega
    by_cases hv : ((j : ℕ) : ℤ) / 64 - 8 ≤ ((r : ℕ) : ℤ) / 64 ∧ ((r : ℕ) : ℤ) / 64 - 8 ≤ ((j : ℕ) : ℤ) / 64 - 8
    · rw [if_pos hv, if_pos (e1.mpr hv), e2]
      exact congrArg (fun z => z * _ + _) (Finset.sum_congr rfl fun d _ => by rw [hq d, hk hj d])
    · rw [if_neg hv, if_neg (fun h => hv (e1.mp h)), EReal.add_bot]
  · rw [if_neg hj, if_neg hj]
    rfl

/-- The window carries every score that counts. -/
theorem window_carries (b : Fin 16) (p : Fin 32) (h : Fin 8) (r : Fin 128) (d : Fin 64) (s v : Fin 640 → EReal)
    (hs : ∀ j, s j = if 512 ≤ 128 * (p : ℕ) + (j : ℕ) then score Q K B b h (row p r) (place p j) else ⊥)
    (hv : ∀ j : Fin 640, 512 ≤ 128 * (p : ℕ) + (j : ℕ) → v j = Vs (ix3 b (place p j) ⟨64 * (h : ℕ) + (d : ℕ), by omega⟩)) :
    Carries (place p) s v (score Q K B b h (row p r)) (fun k => Vs (ix3 b k ⟨64 * (h : ℕ) + (d : ℕ), by omega⟩)) := by
  have hin : ∀ j, s j ≠ ⊥ → 512 ≤ 128 * (p : ℕ) + (j : ℕ) := fun j hj => by
    by_contra hn; exact hj ((hs j).trans (if_neg hn))
  refine ⟨fun j hj => ?_, fun j hj => ?_, fun i j hi hj hf => ?_, fun k hk => ?_⟩
  · rw [hs j, if_pos (hin j hj)]
  · exact (hv j (hin j hj)).symm
  · have e := congrArg Fin.val hf
    have h1 := hin i hi
    have h2 := hin j hj
    change 128 * (p : ℕ) + (i : ℕ) - 512 = 128 * (p : ℕ) + (j : ℕ) - 512 at e
    exact Fin.ext (by omega)
  · have hc : ((k : ℕ) : ℤ) / 64 ≤ ((row p r : ℕ) : ℤ) / 64 ∧ ((row p r : ℕ) : ℤ) / 64 - 8 ≤ ((k : ℕ) : ℤ) / 64 := by
      by_contra hn; exact hk (if_neg hn)
    change ((k : ℕ) : ℤ) / 64 ≤ ((128 * (p : ℕ) + (r : ℕ) : ℕ) : ℤ) / 64 ∧ ((128 * (p : ℕ) + (r : ℕ) : ℕ) : ℤ) / 64 - 8 ≤ ((k : ℕ) : ℤ) / 64 at hc
    have hj : place p ⟨(k : ℕ) + 512 - 128 * (p : ℕ), by omega⟩ = k := Fin.ext (by
      show 128 * (p : ℕ) + ((k : ℕ) + 512 - 128 * (p : ℕ)) - 512 = (k : ℕ); omega)
    refine ⟨⟨(k : ℕ) + 512 - 128 * (p : ℕ), by omega⟩, ?_, hj⟩
    rw [hs, if_pos (show 512 ≤ 128 * (p : ℕ) + ((k : ℕ) + 512 - 128 * (p : ℕ)) by omega), hj]
    exact hk

/-- The tile of a pair of heads is the reference's result. -/
theorem core (hQ : ∀ i, Real' (Q i)) (hK : ∀ i, Real' (K i)) (hB : ∀ i, Real' (B i)) (b : Fin 16) (p : Fin 32) (n : Fin 4)
    (ok : IVec S128x640 1) (q : FVec Ideal S128x128 .bf16) (k v : FVec Ideal S640x128 .bf16) (b0 b1 : FVec Ideal S1x128x640 .f32)
    (hok : ∀ r j, ok (ix2 r j) = if 512 ≤ 128 * (p : ℕ) + (j : ℕ) then 1#1 else 0#1)
    (hq : ∀ (r l : Fin 128), q (ix2 r l) = Q (ix3 b (row p r) ⟨128 * (n : ℕ) + (l : ℕ), by omega⟩))
    (hk : ∀ (j : Fin 640) (l : Fin 128), k (ix2 j l) = behind K (ix3 b ⟨128 * (p : ℕ) + (j : ℕ), by omega⟩ ⟨128 * (n : ℕ) + (l : ℕ), by omega⟩))
    (hv : ∀ (j : Fin 640) (l : Fin 128), v (ix2 j l) = behind Vs (ix3 b ⟨128 * (p : ℕ) + (j : ℕ), by omega⟩ ⟨128 * (n : ℕ) + (l : ℕ), by omega⟩))
    (hb0 : ∀ (r : Fin 128) (j : Fin 640), b0 (ix3 0 r j) = biasTiles B (ix3 ⟨2 * (n : ℕ), by omega⟩ r j))
    (hb1 : ∀ (r : Fin 128) (j : Fin 640), b1 (ix3 0 r j) = biasTiles B (ix3 ⟨2 * (n : ℕ) + 1, by omega⟩ r j))
    (r l : Fin 128) :
    tile ok q k v b0 b1 (ix3 0 r l) = mixed (allWeights (allScores Q K B)) Vs (ix3 b (row p r) ⟨128 * (n : ℕ) + (l : ℕ), by omega⟩) := by
  obtain ⟨e, d, hl⟩ : ∃ (e : Fin 2) (d : Fin 64), l = ⟨64 * (e : ℕ) + (d : ℕ), by omega⟩ :=
    ⟨⟨(l : ℕ) / 64, by omega⟩, ⟨(l : ℕ) % 64, by omega⟩, Fin.ext (by show (l : ℕ) = 64 * ((l : ℕ) / 64) + (l : ℕ) % 64; omega)⟩
  subst hl
  have hl' : ∀ d : Fin 64, (⟨128 * (n : ℕ) + (64 * (e : ℕ) + (d : ℕ)), by omega⟩ : Fin 512) = ⟨64 * (2 * (n : ℕ) + (e : ℕ)) + (d : ℕ), by omega⟩ := fun d =>
    Fin.ext (by show 128 * (n : ℕ) + (64 * (e : ℕ) + (d : ℕ)) = 64 * (2 * (n : ℕ) + (e : ℕ)) + (d : ℕ); omega)
  have hbe : ∃ be : FVec Ideal S1x128x640 .f32, (e = 0 → be = b0) ∧ (e = 1 → be = b1) ∧
      ∀ (r : Fin 128) (j : Fin 640), be (ix3 0 r j) = biasTiles B (ix3 ⟨2 * (n : ℕ) + (e : ℕ), by omega⟩ r j) := by
    obtain rfl | rfl : e = 0 ∨ e = 1 := by omega
    · exact ⟨b0, fun _ => rfl, fun h => absurd h (by decide), hb0⟩
    · exact ⟨b1, fun h => absurd h (by decide), fun _ => rfl, hb1⟩
  obtain ⟨be, h0, h1, hbe⟩ := hbe
  refine (tile_at ok q k v b0 b1 r e d be h0 h1).trans ?_
  refine Eq.trans ?_ ((congrArg (fun z => mixed (allWeights (allScores Q K B)) Vs (ix3 b (row p r) z)) (hl' d)).trans
    (result_at Q K Vs B b ⟨2 * (n : ℕ) + (e : ℕ), by omega⟩ (row p r) d)).symm
  refine (window_carries Q K Vs B b p ⟨2 * (n : ℕ) + (e : ℕ), by omega⟩ r d _ _ (fun j => ?_) (fun j hj => ?_)).late_eq_early
    (score_ne_top Q K B hQ hK hB b _ (row p r)) (row p r) (score_real Q K B hQ hK hB b _ (row p r) (row p r) ⟨le_refl _, by omega⟩).ne_bot
  · refine window_score Q K B b p ⟨2 * (n : ℕ) + (e : ℕ), by omega⟩ _ _ _ _ r j (hok r j) (fun d => ?_) (fun hj d => ?_) (hbe r j)
    · exact (hq r _).trans (congrArg (fun z => Q (ix3 b (row p r) z)) (hl' d))
    · exact (hk j _).trans ((behind_at K b _ _ hj).trans (congrArg (fun z => K (ix3 b (place p j) z)) (hl' d)))
  · exact (hv j _).trans ((behind_at Vs b _ _ hj).trans (congrArg (fun z => Vs (ix3 b (place p j) z)) (hl' d)))

end Scores

end Cert.AttnProof

end
-- ==== Proof.AttnBias.lean ====
/- What the attention kernel is given: the keys and values behind 512 rows of zeros, and one bias tile per head for every query tile. -/
module

public import proofs.«01_k».proof.Defs
public import proofs.«01_k».proof.Proof.Gen.AttnIdeal.Value
public import proofs.«01_k».proof.Proof.AttnMath
public import proofs.«01_k».proof.Proof.AttnHost
public import Idealize.ShloMosaic.Lib.StableHlo.RunRead
public import Idealize.ShloMosaic.Lib.Pipeline.ValueKit
public import Idealize.ShloMosaic.Lib.Pointwise

@[expose] public section

set_option maxRecDepth 16384

noncomputable section

namespace Cert.AttnProof

open Idealize.ShloMosaic Idealize.ShloMosaic.TcCoe Idealize.SL.Sem
open Cert.AttnIdeal Cert.AttnIdeal.Gen

variable (m : (ℓ : Loc nD τ sig) → Buf (Elt Ideal) ℓ)

set_option maxHeartbeats 1600000 in
/-- The biases the kernel is given. -/
theorem biases_eq (c : Dev nD) : V m c main_v40 = biasTiles (m ((c : Thread nD τ).loc main_arg3)) := by
  unfold V
  simp only [hostOps0, hostOps0_1, hostOps0_2, hostOps0_3, hostOps0_4, hostOps0_5, hostOps0_6, hostOps0_7, List.flatten_cons, List.flatten_nil, List.append_nil, List.cons_append, List.nil_append, StableHlo.TRef.binary, StableHlo.TRef.ternary, StableHlo.TRef.unary, StableHlo.TRef.nullary, StableHlo.TRef.toBuf, StableHlo.TRef.ofBuf, cast_eq]
  after_reads_simp
  rfl

end Cert.AttnProof

end
-- ==== Proof.AttnFinal.lean ====
/- What the attention kernel leaves, on queries, keys and biases that are numbers: the reference's result. -/
module

public import proofs.«01_k».proof.Defs
public import proofs.«01_k».proof.Proof.Gen.AttnIdeal.Value
public import proofs.«01_k».proof.Proof.Gen.Pre_attn_finite
public import proofs.«01_k».proof.Proof.AttnCore
public import proofs.«01_k».proof.Proof.AttnBias
public import Idealize.ShloMosaic.Lib.Pipeline.ValueKit
public import Idealize.ShloMosaic.Lib.Pointwise
public import Idealize.ShloMosaic.Lib.Claim
public import Idealize.ShloMosaic.Lib.ReduceAll

@[expose] public section

set_option maxRecDepth 16384

noncomputable section

namespace Cert.AttnProof

open Idealize.ShloMosaic Idealize.ShloMosaic.TcCoe Idealize.SL.Sem
open Cert.AttnIdeal Cert.AttnIdeal.Gen

/-- What the store of pair 0 writes is the tile of its loads. -/
theorem pair0 (i : grid0.Coords) (q : FVec Ideal S1x128x128 .bf16) (k v : FVec Ideal S1x640x512 .bf16) (b0 b1 : FVec Ideal S1x128x640 .f32) :
    k0_pay18 (k0_pay7 v) (k0_pay12 (k0_pay7 v) k0_pay8 k0_pay9 (k0_pay10 i k q b0) (k0_pay11 i k q b0)) (k0_pay14 (k0_pay4 i) (iota Kind.tc S1x128 32 [1] iota_S1x128_d1_w32) (k0_pay5 q) (k0_pay6 k) b1) (k0_pay15 (k0_pay4 i) (iota Kind.tc S1x128 32 [1] iota_S1x128_d1_w32) (k0_pay5 q) (k0_pay6 k) b1) k0_pay16 (k0_pay17 (iota Kind.tc S1x128 32 [1] iota_S1x128_d1_w32))
      = tile (k0_pay4 i) (k0_pay5 q) (extractStridedSlice S640x128 ![0, 0] (k0_pay2 k) slices_S640x512_o0_0_S640x128)
        (extractStridedSlice S640x128 ![0, 0] (k0_pay3 v) slices_S640x512_o0_0_S640x128) b0 b1 := rfl

/-- What the store of pair 1 writes is the tile of its loads. -/
theorem pair1 (i : grid0.Coords) (q : FVec Ideal S1x128x128 .bf16) (k v : FVec Ideal S1x640x512 .bf16) (b0 b1 : FVec Ideal S1x128x640 .f32) :
    k0_pay30 (k0_pay25 (k0_pay21 (k0_pay3 v)) k0_pay22 (k0_pay23 (iota Kind.tc S1x128 32 [1] iota_S1x128_d1_w32)) (k0_pay24 (k0_pay2 k) (k0_pay4 i) (iota Kind.tc S1x128 32 [1] iota_S1x128_d1_w32) q b0)) (k0_pay28 (k0_pay4 i) (iota Kind.tc S1x128 32 [1] iota_S1x128_d1_w32) (k0_pay19 q) (k0_pay20 (k0_pay2 k)) b1) (k0_pay29 (k0_pay4 i) (iota Kind.tc S1x128 32 [1] iota_S1x128_d1_w32) (k0_pay19 q) (k0_pay20 (k0_pay2 k)) (k0_pay21 (k0_pay3 v)) b1) (FloatOps.ofBits (F := Ideal) FTy.f32 1065353216#32)
      = tile (k0_pay4 i) (k0_pay5 q) (extractStridedSlice S640x128 ![0, 128] (k0_pay2 k) slices_S640x512_o0_128_S640x128)
        (extractStridedSlice S640x128 ![0, 128] (k0_pay3 v) slices_S640x512_o0_128_S640x128) b0 b1 := rfl

/-- What the store of pair 2 writes is the tile of its loads. -/
theorem pair2 (i : grid0.Coords) (q : FVec Ideal S1x128x128 .bf16) (k v : FVec Ideal S1x640x512 .bf16) (b0 b1 : FVec Ideal S1x128x640 .f32) :
    k0_pay41 (k0_pay40 (k0_pay4 i) (iota Kind.tc S1x128 32 [1] iota_S1x128_d1_w32) (k0_pay31 q) (k0_pay32 (k0_pay2 k)) (k0_pay33 (k0_pay3 v)) k0_pay34 (k0_pay36 (k0_pay2 k) (k0_pay4 i) (iota Kind.tc S1x128 32 [1] iota_S1x128_d1_w32) q b0) (k0_pay37 (k0_pay2 k) (k0_pay4 i) (iota Kind.tc S1x128 32 [1] iota_S1x128_d1_w32) q b0) k0_pay38 (k0_pay39 (iota Kind.tc S1x128 32 [1] iota_S1x128_d1_w32)) b1)
      = tile (k0_pay4 i) (k0_pay5 q) (extractStridedSlice S640x128 ![0, 256] (k0_pay2 k) slices_S640x512_o0_256_S640x128)
        (extractStridedSlice S640x128 ![0, 256] (k0_pay3 v) slices_S640x512_o0_256_S640x128) b0 b1 := rfl

/-- What the store of pair 3 writes is the tile of its loads. -/
theorem pair3 (i : grid0.Coords) (q : FVec Ideal S1x128x128 .bf16) (k v : FVec Ideal S1x640x512 .bf16) (b0 b1 : FVec Ideal S1x128x640 .f32) :
    k0_pay1 (k0_pay50 (k0_pay4 i) (iota Kind.tc S1x128 32 [1] iota_S1x128_d1_w32) (k0_pay42 q) (k0_pay43 (k0_pay2 k)) (k0_pay44 (k0_pay3 v)) k0_pay45 (k0_pay48 (k0_pay2 k) (k0_pay4 i) (iota Kind.tc S1x128 32 [1] iota_S1x128_d1_w32) q b0) (k0_pay49 (k0_pay2 k) (k0_pay3 v) (k0_pay4 i) (iota Kind.tc S1x128 32 [1] iota_S1x128_d1_w32) q b0) b1)
      = tile (k0_pay4 i) (k0_pay5 q) (extractStridedSlice S640x128 ![0, 384] (k0_pay2 k) slices_S640x512_o0_384_S640x128)
        (extractStridedSlice S640x128 ![0, 384] (k0_pay3 v) slices_S640x512_o0_384_S640x128) b0 b1 := rfl

/-- The windows' places at a point. -/
theorem idx : ∀ t : Fin cfg0.N, win0_0.index t = ![t.val / 32, t.val % 32, 0] ∧ win0_1.index t = ![t.val / 32, 0, 0]
    ∧ win0_2.index t = ![t.val / 32, 0, 0] ∧ win0_3.index t = ![0, 0, 0] ∧ win0_4.index t = ![t.val / 32, t.val % 32, 0] :=
  (by decide +kernel : ∀ t : Fin grid0.N, _)

/-- A point's tile of its sequence, and where its keys start. -/
theorem coord : ∀ t : Fin cfg0.N, ((grid0.coords t 1 : ℕ) = t.val % 32) ∧ k0_off1 (grid0.coords t) = ![0, t.val % 32 * 128, 0] :=
  (by decide +kernel : ∀ t : Fin grid0.N, _)

/-- A place of the window is in the sequence from its key on. -/
theorem in_sequence : ∀ (p : Fin 32) (j : Fin 640), IntOp.cmpi CmpIPredicate.sge (BitVec.ofNat 32 (j : ℕ))
      (Scalar.muli (Scalar.subi (4#32) (BitVec.ofNat 32 (p : ℕ))) 128#32) = if 512 ≤ 128 * (p : ℕ) + (j : ℕ) then 1#1 else 0#1 := by
  decide +kernel

/-- The mask of a point's window. -/
theorem mask_at (t : Fin cfg0.N) (r : Fin 128) (j : Fin 640) :
    k0_pay4 (grid0.coords t) (ix2 r j) = if 512 ≤ 128 * (t.val % 32) + (j : ℕ) then 1#1 else 0#1 := by
  pointwise [k0_pay4]
  rw [(coord t).1]
  exact in_sequence ⟨t.val % 32, Nat.mod_lt _ (by omega)⟩ j

/-- An entry whose absolute value is below ⊤ is a number. -/
theorem real_of_abs {x : EReal} (h : max x (-x) < ⊤) : Real' x := by
  induction x with
  | bot => simp at h
  | top => simp at h
  | coe r => exact ⟨r, rfl⟩

/-- The comparison with the pattern of ⊤. -/
theorem real_of_bit {x : EReal} (h : Ideal.cmp CmpFPredicate.olt (max x (-x)) (Ideal.ofBits .f32 0x7F800000#32) = 1#1) : Real' x := by
  have e : Ideal.ofBits .f32 0x7F800000#32 = ⊤ := by simp [Ideal.ofBits, Ideal.ieee]
  rw [e] at h
  refine real_of_abs ?_
  exact of_decide_eq_true (WordCmp.ofBool_eq_one_iff _ |>.mp h)

/-- An array all of whose entries are numbers. -/
theorem real_of_all {s u : Shape} {axes : List (Fin s.rank)} {t : Shape} [Subsingleton t.Idx] (x : s.Idx → EReal) (b : s.Idx → BitVec 1) (init : u.Idx → BitVec 1)
    (h : s.ReducesTo axes t) (hu : 0 < u.numel) (j : t.Idx) (e : Host.reduce IntOp.andi b init h hu j = 1#1)
    (hb : ∀ i, b i = Ideal.cmp CmpFPredicate.olt (max (x i) (-(x i))) (Ideal.ofBits .f32 0x7F800000#32)) (i : s.Idx) : Real' (x i) :=
  real_of_bit ((hb i).symm.trans (Host.reduce_andi_all b init h hu j e i))

variable (m : (ℓ : Loc nD τ sig) → Buf (Elt Ideal) ℓ)

/-- The precondition says that queries, keys and biases are numbers. -/
theorem finite (c : Dev nD) (h : Cert.Pre_AttnIdeal_attn_finite m) :
    (∀ i, Real' (m ((c : Thread nD τ).loc main_arg0) i)) ∧ (∀ i, Real' (m ((c : Thread nD τ).loc main_arg1) i)) ∧ (∀ i, Real' (m ((c : Thread nD τ).loc main_arg3) i)) := by
  have hc := congrFun (h c) ix0
  obtain ⟨hc, h3⟩ := IntOp.andi_eq_one.mp hc
  obtain ⟨h0, h1⟩ := IntOp.andi_eq_one.mp hc
  haveI : Subsingleton (Pre_attn_finite.S_).Idx := ⟨fun a b => funext fun d => d.elim0⟩
  exact ⟨real_of_all _ _ _ _ _ _ h0 fun i => rfl, real_of_all _ _ _ _ _ _ h1 fun i => rfl, real_of_all _ _ _ _ _ _ h3 fun i => rfl⟩

/-- The block of queries. -/
theorem q_at (c : Dev nD) (t : Fin cfg0.N) (r : Fin 128) (l : Fin 512) : iblk m c 0 t (ix3 0 r l)
    = m ((c : Thread nD τ).loc main_arg0) (ix3 ⟨t.val / 32, by have : t.val < 512 := t.isLt; omega⟩ (row ⟨t.val % 32, by omega⟩ r) l) := by
  blk_ext [iblk, V, idx t, row]

/-- The block of keys. -/
theorem k_at (c : Dev nD) (t : Fin cfg0.N) (R : Fin 4608) (l : Fin 512) : iblk m c 1 t (ix3 0 R l)
    = behind (m ((c : Thread nD τ).loc main_arg1)) (ix3 ⟨t.val / 32, by have : t.val < 512 := t.isLt; omega⟩ R l) := by
  rw [← keys_eq m c]
  blk_ext [iblk, idx t]

/-- The block of values. -/
theorem v_at (c : Dev nD) (t : Fin cfg0.N) (R : Fin 4608) (l : Fin 512) : iblk m c 2 t (ix3 0 R l)
    = behind (m ((c : Thread nD τ).loc main_arg2)) (ix3 ⟨t.val / 32, by have : t.val < 512 := t.isLt; omega⟩ R l) := by
  rw [← values_eq m c]
  blk_ext [iblk, idx t]

/-- The biases, one block for all points. -/
theorem b_at (c : Dev nD) (t : Fin cfg0.N) (h : Fin 8) (r : Fin 128) (j : Fin 640) : iblk m c 3 t (ix3 h r j)
    = biasTiles (m ((c : Thread nD τ).loc main_arg3)) (ix3 h r j) := by
  rw [← biases_eq m c]
  blk_ext [iblk, idx t]

set_option maxHeartbeats 4000000 in
/-- What the kernel leaves. -/
theorem final (c : Dev nD) (h : Cert.Pre_AttnIdeal_attn_finite m) : (dats m 0 c).arrAt 4 (cfgs 0).N
    = mixed (allWeights (allScores (m ((c : Thread nD τ).loc main_arg0)) (m ((c : Thread nD τ).loc main_arg1)) (m ((c : Thread nD τ).loc main_arg3)))) (m ((c : Thread nD τ).loc main_arg2)) := by
  obtain ⟨hQ, hK, hB⟩ := finite m c h
  refine (dats m 0 c).arrAt_eq_of_covers 4 _ (by decide +kernel) fun t _ y => ?_
  clear h
  blk_simp
  rw [after0_4]
  unfold Gen.outsAt0
  frame_out
  have hN : t.val < 512 := t.isLt
  canon_tiles x h
  case piece0 =>
    refine (congrFun (pair3 _ _ _ _ _ _) x).trans ?_
    refine Eq.trans (congrArg _ (show x = ix3 0 ⟨(x 1 : ℕ), x1_lt⟩ ⟨(x 2 : ℕ), x2_lt⟩ from by blk_ext)) ?_
    refine (core _ _ (m ((c : Thread nD τ).loc main_arg2)) _ hQ hK hB ⟨t.val / 32, by omega⟩ ⟨t.val % 32, by omega⟩ 3 _ _ _ _ _ _ (fun r j => mask_at t r j) (fun r l => ?_) (fun j l => ?_) (fun j l => ?_) (fun r j => ?_) (fun r j => ?_) _ _).trans ?_
    · refine Eq.trans ?_ (q_at m c t r ⟨384 + (l : ℕ), by omega⟩)
      pointwise [k0_pay5]
    · refine Eq.trans ?_ (k_at m c t ⟨128 * (t.val % 32) + (j : ℕ), by omega⟩ ⟨384 + (l : ℕ), by omega⟩)
      pointwise [k0_pay2]
      blk_ext [(coord t).2]
    · refine Eq.trans ?_ (v_at m c t ⟨128 * (t.val % 32) + (j : ℕ), by omega⟩ ⟨384 + (l : ℕ), by omega⟩)
      pointwise [k0_pay3]
      blk_ext [(coord t).2]
    · refine Eq.trans ?_ (b_at m c t 6 r j)
      pointwise
    · refine Eq.trans ?_ (b_at m c t 7 r j)
      pointwise
    · refine congrArg _ ?_
      blk_ext [idx t, row]
  case piece1 =>
    refine (congrFun (pair2 _ _ _ _ _ _) x).trans ?_
    refine Eq.trans (congrArg _ (show x = ix3 0 ⟨(x 1 : ℕ), x1_lt⟩ ⟨(x 2 : ℕ), x2_lt⟩ from by blk_ext)) ?_
    refine (core _ _ (m ((c : Thread nD τ).loc main_arg2)) _ hQ hK hB ⟨t.val / 32, by omega⟩ ⟨t.val % 32, by omega⟩ 2 _ _ _ _ _ _ (fun r j => mask_at t r j) (fun r l => ?_) (fun j l => ?_) (fun j l => ?_) (fun r j => ?_) (fun r j => ?_) _ _).trans ?_
    · refine Eq.trans ?_ (q_at m c t r ⟨256 + (l : ℕ), by omega⟩)
      pointwise [k0_pay5]
    · refine Eq.trans ?_ (k_at m c t ⟨128 * (t.val % 32) + (j : ℕ), by omega⟩ ⟨256 + (l : ℕ), by omega⟩)
      pointwise [k0_pay2]
      blk_ext [(coord t).2]
    · refine Eq.trans ?_ (v_at m c t ⟨128 * (t.val % 32) + (j : ℕ), by omega⟩ ⟨256 + (l : ℕ), by omega⟩)
      pointwise [k0_pay3]
      blk_ext [(coord t).2]
    · refine Eq.trans ?_ (b_at m c t 4 r j)
      pointwise
    · refine Eq.trans ?_ (b_at m c t 5 r j)
      pointwise
    · refine congrArg _ ?_
      blk_ext [idx t, row]
  case piece2 =>
    refine (congrFun (pair1 _ _ _ _ _ _) x).trans ?_
    refine Eq.trans (congrArg _ (show x = ix3 0 ⟨(x 1 : ℕ), x1_lt⟩ ⟨(x 2 : ℕ), x2_lt⟩ from by blk_ext)) ?_
    refine (core _ _ (m ((c : Thread nD τ).loc main_arg2)) _ hQ hK hB ⟨t.val / 32, by omega⟩ ⟨t.val % 32, by omega⟩ 1 _ _ _ _ _ _ (fun r j => mask_at t r j) (fun r l => ?_) (fun j l => ?_) (fun j l => ?_) (fun r j => ?_) (fun r j => ?_) _ _).trans ?_
    · refine Eq.trans ?_ (q_at m c t r ⟨128 + (l : ℕ), by omega⟩)
      pointwise [k0_pay5]
    · refine Eq.trans ?_ (k_at m c t ⟨128 * (t.val % 32) + (j : ℕ), by omega⟩ ⟨128 + (l : ℕ), by omega⟩)
      pointwise [k0_pay2]
      blk_ext [(coord t).2]
    · refine Eq.trans ?_ (v_at m c t ⟨128 * (t.val % 32) + (j : ℕ), by omega⟩ ⟨128 + (l : ℕ), by omega⟩)
      pointwise [k0_pay3]
      blk_ext [(coord t).2]
    · refine Eq.trans ?_ (b_at m c t 2 r j)
      pointwise
    · refine Eq.trans ?_ (b_at m c t 3 r j)
      pointwise
    · refine congrArg _ ?_
      blk_ext [idx t, row]
  case piece3 =>
    refine (congrFun (pair0 _ _ _ _ _ _) x).trans ?_
    refine Eq.trans (congrArg _ (show x = ix3 0 ⟨(x 1 : ℕ), x1_lt⟩ ⟨(x 2 : ℕ), x2_lt⟩ from by blk_ext)) ?_
    refine (core _ _ (m ((c : Thread nD τ).loc main_arg2)) _ hQ hK hB ⟨t.val / 32, by omega⟩ ⟨t.val % 32, by omega⟩ 0 _ _ _ _ _ _ (fun r j => mask_at t r j) (fun r l => ?_) (fun j l => ?_) (fun j l => ?_) (fun r j => ?_) (fun r j => ?_) _ _).trans ?_
    · refine Eq.trans ?_ (q_at m c t r ⟨0 + (l : ℕ), by omega⟩)
      pointwise [k0_pay5]
    · refine Eq.trans ?_ (k_at m c t ⟨128 * (t.val % 32) + (j : ℕ), by omega⟩ ⟨0 + (l : ℕ), by omega⟩)
      pointwise [k0_pay2]
      blk_ext [(coord t).2]
    · refine Eq.trans ?_ (v_at m c t ⟨128 * (t.val % 32) + (j : ℕ), by omega⟩ ⟨0 + (l : ℕ), by omega⟩)
      pointwise [k0_pay3]
      blk_ext [(coord t).2]
    · refine Eq.trans ?_ (b_at m c t 0 r j)
      pointwise
    · refine Eq.trans ?_ (b_at m c t 1 r j)
      pointwise
    · refine congrArg _ ?_
      blk_ext [idx t, row]

end Cert.AttnProof

end
-- ==== Proof.AttnValue.lean ====
/- The attention kernel's results are the reference's, on queries, keys and biases that are numbers. -/
module

public import proofs.«01_k».proof.Defs
public import proofs.«01_k».proof.Proof.Gen.AttnIdeal.Value
public import proofs.«01_k».proof.Proof.Gen.AttnRefIdeal.Run
public import proofs.«01_k».proof.Proof.AttnFinal
public import Idealize.ShloMosaic.Lib.StableHlo.RunRead
public import Idealize.ShloMosaic.Lib.Pipeline.ValueKit
public import Idealize.ShloMosaic.Lib.Claim

@[expose] public section

set_option maxRecDepth 16384

noncomputable section

namespace Cert.AttnProof

open Idealize.ShloMosaic Idealize.ShloMosaic.TcCoe Idealize.SL.Sem
open Cert.AttnIdeal Cert.AttnIdeal.Gen

/-- The results of the kernel are the reference's. -/
theorem algebraic : Cert.algebraic_AttnIdeal_AttnRefIdeal_pre_attn_finite := by
  pair_intro
  · run_from Cert.AttnIdeal.Gen.run_main m g
    all_goals
      simp only [hostOps0, hostOps0_1, hostOps0_2, hostOps0_3, hostOps0_4, hostOps0_5, hostOps0_6, hostOps0_7, List.flatten_cons, List.flatten_nil, List.cons_append, List.nil_append, List.append_nil]
      after_reads_simp
  · run_from Cert.AttnRefIdeal.Value.run m' g'
    obtain ⟨h0, h1, h2, h3⟩ := hagree c
    refine Eq.trans ?_ (final m c hpre).symm
    refine (res_eq m' c).trans ?_
    rw [h0, h1, h2, h3]

end Cert.AttnProof

end
-- ==== Proof.MqkvValue.lean ====
/- The value of the mLSTM projection: after the kernel's run the result array is the reference's term. -/
module

public import proofs.«01_k».proof.Defs
public import proofs.«01_k».proof.Proof.Gen.MqkvIdeal.Value
public import proofs.«01_k».proof.Proof.Gen.MqkvRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.MqkvProof

open Idealize.ShloMosaic Idealize.ShloMosaic.TcCoe Idealize.SL.Sem
open Idealize.ShloMosaic.Pipeline (Dat)

section Reference
open Cert.MqkvRefIdeal Cert.MqkvRefIdeal.Gen

/-- The reference's result as a function of the tokens and the fused weight: the key columns are scaled by 1/16. -/
abbrev REF (X : FVec Ideal S65536x1024 .f32) (W : FVec Ideal S1024x7688 .f32) : FVec Ideal S65536x3072 .bf16 :=
  truncf .bf16 ((concatenate S65536x3072 1
    [⟨S65536x1024, (extractStridedSlice S65536x1024 ![0, 0] (Host.dotGeneral dot_S65536x1024_S1024x7688_S65536x7688_1_0_0_1_n_n none X W) slices_S65536x7688_S65536x1024_0_0 : (⟨S65536x1024, .f32⟩ : BufTy).Contents (Elt Ideal))⟩,
     ⟨S65536x1024, (mulf (extractStridedSlice S65536x1024 ![0, 1024] (Host.dotGeneral dot_S65536x1024_S1024x7688_S65536x7688_1_0_0_1_n_n none X W) slices_S65536x7688_S65536x1024_0_1024) (broadcastInDim S65536x1024 ![] bcast_S_S65536x1024 (constant S_ .f32 0x3D800000#32)) : (⟨S65536x1024, .f32⟩ : BufTy).Contents (Elt Ideal))⟩,
     ⟨S65536x1024, (extractStridedSlice S65536x1024 ![0, 2048] (Host.dotGeneral dot_S65536x1024_S1024x7688_S65536x7688_1_0_0_1_n_n none X W) slices_S65536x7688_S65536x1024_0_2048 : (⟨S65536x1024, .f32⟩ : BufTy).Contents (Elt Ideal))⟩]
    concatenates_S65536x1024_S65536x1024_S65536x1024_S65536x3072_d1 : (⟨S65536x3072, .f32⟩ : BufTy).Contents (Elt Ideal))) bitsLt_bf16_f32

end Reference

open Cert.MqkvIdeal Cert.MqkvIdeal.Gen

variable (m : (ℓ : Loc nD τ sig) → Buf (Elt Ideal) ℓ)

/-- The scale of a result column: 1/16 over the key columns and one elsewhere. -/
def colScale (n : ℕ) : EReal := if 1024 ≤ n ∧ n < 2048 then Ideal.ofBits FTy.f32 0x3D800000#32 else 1

/-- A key column is scaled by 1/16. -/
theorem colScale_key {n : ℕ} (h : 1024 ≤ n ∧ n < 2048) : colScale n = Ideal.ofBits FTy.f32 0x3D800000#32 := if_pos h

/-- A query or value column isn't scaled. -/
theorem colScale_other {n : ℕ} (h : ¬ (1024 ≤ n ∧ n < 2048)) : colScale n = 1 := if_neg h

/-- The windows' block indices: the tokens move with the outer coordinate, weights and scales with the inner one. -/
theorem idx : ∀ t : Fin cfg0.N, win0_0.index t = ![t.val / 3, 0] ∧ win0_1.index t = ![0, t.val % 3]
    ∧ win0_2.index t = ![0, t.val % 3] ∧ win0_3.index t = ![t.val / 3, t.val % 3] :=
  (by decide +kernel : ∀ t : Fin grid0.N, _)

/-- The weight operand the host line prepares: three column blocks of the fused weight, side by side. -/
abbrev WOP (W : FVec Ideal S1024x7688 .f32) : FVec Ideal S1024x3072 .bf16 :=
  truncf .bf16 (concatenate S1024x3072 1
    [⟨S1024x1024, (extractStridedSlice S1024x1024 ![0, 0] W slices_S1024x7688_S1024x1024_0_0 : (⟨S1024x1024, .f32⟩ : BufTy).Contents (Elt Ideal))⟩,
     ⟨S1024x1024, (extractStridedSlice S1024x1024 ![0, 1024] W slices_S1024x7688_S1024x1024_0_1024 : (⟨S1024x1024, .f32⟩ : BufTy).Contents (Elt Ideal))⟩,
     ⟨S1024x1024, (extractStridedSlice S1024x1024 ![0, 2048] W slices_S1024x7688_S1024x1024_0_2048 : (⟨S1024x1024, .f32⟩ : BufTy).Contents (Elt Ideal))⟩]
    concatenates_S1024x1024_S1024x1024_S1024x1024_S1024x3072_d1 : (⟨S1024x3072, .f32⟩ : BufTy).Contents (Elt Ideal)) bitsLt_bf16_f32

/-- A row of ones. -/
abbrev ONES : FVec Ideal S1x1024 .f32 := broadcastInDim S1x1024 ![] bcast_S_S1x1024 (constant S_ .f32 0x3F800000#32)

/-- The scale operand the host line prepares: ones, sixteenths, ones. -/
abbrev SOP : FVec Ideal S1x3072 .f32 :=
  concatenate S1x3072 1
    [⟨S1x1024, (ONES : (⟨S1x1024, .f32⟩ : BufTy).Contents (Elt Ideal))⟩,
     ⟨S1x1024, (mulf ONES (broadcastInDim S1x1024 ![] bcast_S_S1x1024 (constant S_ .f32 0x3D800000#32)) : (⟨S1x1024, .f32⟩ : BufTy).Contents (Elt Ideal))⟩,
     ⟨S1x1024, (ONES : (⟨S1x1024, .f32⟩ : BufTy).Contents (Elt Ideal))⟩]
    concatenates_S1x1024_S1x1024_S1x1024_S1x3072_d1

/-- The weight operand when the kernel starts. -/
theorem weight_eq (c : Dev nD) : V m c main_v4 = WOP (m ((c : Thread nD τ).loc main_arg1)) := rfl

/-- The scale operand when the kernel starts. -/
theorem scale_eq (c : Dev nD) : V m c main_v10 = SOP := rfl

/-- The weight operand is the first 3072 columns of the fused weight. -/
theorem weight_at (W : FVec Ideal S1024x7688 .f32) (x : Fin 1024) (j : Fin 3072) :
    WOP W (ix2 x j) = W (ix2 x ⟨j.val, by omega⟩) := by
  pointwise [WOP]
  blk_point []

/-- The scale operand at a column. -/
theorem scale_at (j : Fin 3072) : SOP (ix2 0 j) = colScale j.val := by
  pointwise [SOP, ONES]
  by_cases h1 : j.val < 1024
  · exact (dif_pos h1).trans (colScale_other (by omega)).symm
  refine (dif_neg h1).trans ?_
  by_cases h2 : j.val - 1024 < 1024
  · exact (dif_pos h2).trans (colScale_key (by omega)).symm
  · exact (dif_neg h2).trans (colScale_other (by omega)).symm

/-- The reference at one entry: the product of the token row with the weight column, times the column's scale. -/
theorem ref_at (X : FVec Ideal Cert.MqkvRefIdeal.S65536x1024 .f32) (W : FVec Ideal Cert.MqkvRefIdeal.S1024x7688 .f32)
    (a : Fin 65536) (b : Fin 3072) :
    REF X W (ix2 a b) = (∑ x : Fin 1024, X (ix2 a x) * W (ix2 x ⟨b.val, by omega⟩))
      * colScale b.val := by
  pointwise [REF]
  by_cases h1 : b.val < 1024
  · refine (dif_pos h1).trans ?_
    rw [colScale_other (by omega), mul_one]
  refine (dif_neg h1).trans ?_
  by_cases h2 : b.val - 1024 < 1024
  · refine (dif_pos h2).trans ?_
    rw [colScale_key (by omega)]
    blk_point []
  · refine (dif_neg h2).trans ?_
    rw [colScale_other (by omega), mul_one]
    blk_point []

/-- One block of the result: what the body stores is the reference at the place of the block in the array. -/
theorem point (c : Dev nD) (t : Fin cfg0.N) (y : S1024x1024.Idx) :
    k0_pay1 (iblk m c 0 t) (iblk m c 1 t) (iblk m c 2 t) y
      = REF (m ((c : Thread nD τ).loc main_arg0)) (m ((c : Thread nD τ).loc main_arg1)) (((cfg0.win 3).blk t).view.emb y) := by
  have ht : t.val < 192 := lt_of_lt_of_eq t.isLt N_0
  have h0 : ∀ x : Fin 1024, iblk m c 0 t (ix2 (y 0) x)
      = m ((c : Thread nD τ).loc main_arg0) (ix2 ⟨t.val / 3 * 1024 + (y 0).val, by idx_bounds; omega⟩ x) := by
    intro x
    blk_ext [iblk, V, idx t]
  have h1 : ∀ x : Fin 1024, iblk m c 1 t (ix2 x (y 1))
      = m ((c : Thread nD τ).loc main_arg1) (ix2 x ⟨t.val % 3 * 1024 + (y 1).val, by idx_bounds; omega⟩) := by
    intro x
    refine Eq.trans ?_ (weight_at (m ((c : Thread nD τ).loc main_arg1)) x ⟨t.val % 3 * 1024 + (y 1).val, by idx_bounds; omega⟩)
    rw [← weight_eq m c]
    blk_ext [iblk, idx t]
  have h2 : iblk m c 2 t (ix2 0 (y 1)) = colScale (t.val % 3 * 1024 + (y 1).val) := by
    refine Eq.trans ?_ (scale_at ⟨t.val % 3 * 1024 + (y 1).val, by idx_bounds; omega⟩)
    rw [← scale_eq m c]
    blk_ext [iblk, idx t]
  have e3 : ((cfg0.win 3).blk t).view.emb y = ix2 ⟨t.val / 3 * 1024 + (y 0).val, by idx_bounds; omega⟩
      ⟨t.val % 3 * 1024 + (y 1).val, by idx_bounds; omega⟩ := by
    blk_ext [idx t]
  rw [e3]
  refine Eq.trans ?_ (ref_at _ _ _ _).symm
  pointwise [k0_pay1]
  simp only [h0, h1, h2]

/-- The result array after the run. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

/-- The kernel and the reference end with equal results, from equal arguments. -/
theorem algebraic : Cert.algebraic_MqkvIdeal_MqkvRefIdeal := by
  pair_intro
  · run_from Cert.MqkvIdeal.Gen.run_main m g
  · run_from Cert.MqkvRefIdeal.Value.run m' g'
    exact (final m c).symm

end Cert.MqkvProof

end
-- ==== Proof.GatesValue.lean ====
/- The value of the gate projection: after the kernel's run the result array is the reference's term. -/
module

public import proofs.«01_k».proof.Defs
public import proofs.«01_k».proof.Proof.Gen.GatesIdeal.Value
public import proofs.«01_k».proof.Proof.Gen.GatesRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.GatesProof

open Idealize.ShloMosaic Idealize.ShloMosaic.TcCoe Idealize.SL.Sem
open Idealize.ShloMosaic.Pipeline (Dat)

section Reference
open Cert.GatesRefIdeal Cert.GatesRefIdeal.Gen

/-- The reference's result as a function of the tokens and the fused weight: the logistic function of three blocks of columns of the product. -/
abbrev REF (X : FVec Ideal S65536x1024 .f32) (W : FVec Ideal S1024x7688 .f32) : FVec Ideal S65536x3072 .bf16 :=
  truncf .bf16 ((concatenate S65536x3072 1 [⟨S65536x1024, ((Host.divf (broadcastInDim S65536x1024 ![] bcast_S_S65536x1024 (constant S_ .f32 0x3F800000#32)) (addf (broadcastInDim S65536x1024 ![] bcast_S_S65536x1024 (constant S_ .f32 0x3F800000#32)) (Host.exp (Host.negf (extractStridedSlice S65536x1024 ![0, 3080] (Host.dotGeneral dot_S65536x1024_S1024x7688_S65536x7688_1_0_0_1_n_n none X W) slices_S65536x7688_S65536x1024_0_3080))))) : (⟨S65536x1024, .f32⟩ : BufTy).Contents (Elt Ideal))⟩, ⟨S65536x1024, ((Host.divf (broadcastInDim S65536x1024 ![] bcast_S_S65536x1024 (constant S_ .f32 0x3F800000#32)) (addf (broadcastInDim S65536x1024 ![] bcast_S_S65536x1024 (constant S_ .f32 0x3F800000#32)) (Host.exp (Host.negf (extractStridedSlice S65536x1024 ![0, 5640] (Host.dotGeneral dot_S65536x1024_S1024x7688_S65536x7688_1_0_0_1_n_n none X W) slices_S65536x7688_S65536x1024_0_5640))))) : (⟨S65536x1024, .f32⟩ : BufTy).Contents (Elt Ideal))⟩, ⟨S65536x1024, ((Host.divf (broadcastInDim S65536x1024 ![] bcast_S_S65536x1024 (constant S_ .f32 0x3F800000#32)) (addf (broadcastInDim S65536x1024 ![] bcast_S_S65536x1024 (constant S_ .f32 0x3F800000#32)) (Host.exp (Host.negf (extractStridedSlice S65536x1024 ![0, 6664] (Host.dotGeneral dot_S65536x1024_S1024x7688_S65536x7688_1_0_0_1_n_n none X W) slices_S65536x7688_S65536x1024_0_6664))))) : (⟨S65536x1024, .f32⟩ : BufTy).Contents (Elt Ideal))⟩] concatenates_S65536x1024_S65536x1024_S65536x1024_S65536x3072_d1 : (⟨S65536x3072, .f32⟩ : BufTy).Contents (Elt Ideal))) bitsLt_bf16_f32

end Reference

open Cert.GatesIdeal Cert.GatesIdeal.Gen

variable (m : (ℓ : Loc nD τ sig) → Buf (Elt Ideal) ℓ)

/-- The fused weight's column behind a column of the result: three blocks of 1024, from 3080, 5640 and 6664. -/
def src (n : Fin 3072) : Fin 7688 :=
  if n.val < 1024 then ⟨3080 + n.val, by omega⟩ else if n.val - 1024 < 1024 then ⟨5640 + (n.val - 1024), by omega⟩
  else ⟨6664 + (n.val - 1024 - 1024), by omega⟩

/-- The first block's columns. -/
theorem src_first {n : Fin 3072} (h : n.val < 1024) : src n = ⟨3080 + n.val, by omega⟩ := if_pos h

/-- The second block's columns. -/
theorem src_second {n : Fin 3072} (h : ¬ n.val < 1024) (h' : n.val - 1024 < 1024) : src n = ⟨5640 + (n.val - 1024), by omega⟩ :=
  (if_neg h).trans (if_pos h')

/-- The third block's columns. -/
theorem src_third {n : Fin 3072} (h : ¬ n.val < 1024) (h' : ¬ n.val - 1024 < 1024) :
    src n = ⟨6664 + (n.val - 1024 - 1024), by omega⟩ := (if_neg h).trans (if_neg h')

/-- The windows' block indices: the tokens move with the outer coordinate, weights and scales with the inner one. -/
theorem idx : ∀ t : Fin cfg0.N, win0_0.index t = ![t.val / 3, 0] ∧ win0_1.index t = ![0, t.val % 3]
    ∧ win0_2.index t = ![0, t.val % 3] ∧ win0_3.index t = ![t.val / 3, t.val % 3] :=
  (by decide +kernel : ∀ t : Fin grid0.N, _)

/-- The weight operand the host line prepares: three column blocks of the fused weight, side by side. -/
abbrev WOP (W : FVec Ideal S1024x7688 .f32) : FVec Ideal S1024x3072 .bf16 :=
  truncf .bf16 (concatenate S1024x3072 1
    [⟨S1024x1024, (extractStridedSlice S1024x1024 ![0, 3080] W slices_S1024x7688_S1024x1024_0_3080 : (⟨S1024x1024, .f32⟩ : BufTy).Contents (Elt Ideal))⟩,
     ⟨S1024x1024, (extractStridedSlice S1024x1024 ![0, 5640] W slices_S1024x7688_S1024x1024_0_5640 : (⟨S1024x1024, .f32⟩ : BufTy).Contents (Elt Ideal))⟩,
     ⟨S1024x1024, (extractStridedSlice S1024x1024 ![0, 6664] W slices_S1024x7688_S1024x1024_0_6664 : (⟨S1024x1024, .f32⟩ : BufTy).Contents (Elt Ideal))⟩]
    concatenates_S1024x1024_S1024x1024_S1024x1024_S1024x3072_d1 : (⟨S1024x3072, .f32⟩ : BufTy).Contents (Elt Ideal)) bitsLt_bf16_f32

/-- The scale operand the host line prepares: a row of ones. -/
abbrev SOP : FVec Ideal S1x3072 .f32 := broadcastInDim S1x3072 ![] bcast_S_S1x3072 (constant S_ .f32 0x3F800000#32)

/-- The weight operand when the kernel starts. -/
theorem weight_eq (c : Dev nD) : V m c main_v4 = WOP (m ((c : Thread nD τ).loc main_arg1)) := rfl

/-- The scale operand when the kernel starts. -/
theorem scale_eq (c : Dev nD) : V m c main_v5 = SOP := rfl

/-- The weight operand at an entry: the fused weight at the column behind it. -/
theorem weight_at (W : FVec Ideal S1024x7688 .f32) (x : Fin 1024) (j : Fin 3072) :
    WOP W (ix2 x j) = W (ix2 x (src j)) := by
  pointwise [WOP]
  by_cases h1 : j.val < 1024
  · rw [src_first h1]
    exact dif_pos h1
  refine (dif_neg h1).trans ?_
  by_cases h2 : j.val - 1024 < 1024
  · rw [src_second h1 h2]
    exact dif_pos h2
  · rw [src_third h1 h2]
    exact dif_neg h2

/-- The scale operand at a column. -/
theorem scale_at (j : Fin 3072) : SOP (ix2 0 j) = 1 := by
  pointwise [SOP]

/-- The logistic function, spelt as a quotient. -/
def gate (z : EReal) : EReal := Ideal.div 1 (1 + Ideal.exp (-z))

/-- The reference at one entry: the gate of the product of the token row with the weight column. -/
theorem ref_at (X : FVec Ideal Cert.GatesRefIdeal.S65536x1024 .f32) (W : FVec Ideal Cert.GatesRefIdeal.S1024x7688 .f32)
    (a : Fin 65536) (b : Fin 3072) :
    REF X W (ix2 a b) = gate (∑ x : Fin 1024, X (ix2 a x) * W (ix2 x (src b))) := by
  pointwise [REF]
  by_cases h1 : b.val < 1024
  · refine (dif_pos h1).trans ?_
    rw [src_first h1]
    rfl
  refine (dif_neg h1).trans ?_
  by_cases h2 : b.val - 1024 < 1024
  · refine (dif_pos h2).trans ?_
    rw [src_second h1 h2]
    rfl
  · refine (dif_neg h2).trans ?_
    rw [src_third h1 h2]
    rfl

/-- One block of the result: what the body stores is the reference at the place of the block in the array. -/
theorem point (c : Dev nD) (t : Fin cfg0.N) (y : S1024x1024.Idx) :
    k0_pay1 (iblk m c 0 t) (iblk m c 1 t) (iblk m c 2 t) y
      = REF (m ((c : Thread nD τ).loc main_arg0)) (m ((c : Thread nD τ).loc main_arg1)) (((cfg0.win 3).blk t).view.emb y) := by
  have ht : t.val < 192 := lt_of_lt_of_eq t.isLt N_0
  have h0 : ∀ x : Fin 1024, iblk m c 0 t (ix2 (y 0) x)
      = m ((c : Thread nD τ).loc main_arg0) (ix2 ⟨t.val / 3 * 1024 + (y 0).val, by idx_bounds; omega⟩ x) := by
    intro x
    blk_ext [iblk, V, idx t]
  have h1 : ∀ x : Fin 1024, iblk m c 1 t (ix2 x (y 1))
      = m ((c : Thread nD τ).loc main_arg1) (ix2 x (src ⟨t.val % 3 * 1024 + (y 1).val, by idx_bounds; omega⟩)) := by
    intro x
    refine Eq.trans ?_ (weight_at (m ((c : Thread nD τ).loc main_arg1)) x ⟨t.val % 3 * 1024 + (y 1).val, by idx_bounds; omega⟩)
    rw [← weight_eq m c]
    blk_ext [iblk, idx t]
  have h2 : iblk m c 2 t (ix2 0 (y 1)) = (1 : EReal) := by
    refine Eq.trans ?_ (scale_at ⟨t.val % 3 * 1024 + (y 1).val, by idx_bounds; omega⟩)
    rw [← scale_eq m c]
    blk_ext [iblk, idx t]
  have e3 : ((cfg0.win 3).blk t).view.emb y = ix2 ⟨t.val / 3 * 1024 + (y 0).val, by idx_bounds; omega⟩
      ⟨t.val % 3 * 1024 + (y 1).val, by idx_bounds; omega⟩ := by
    blk_ext [idx t]
  rw [e3]
  refine Eq.trans ?_ (ref_at _ _ _ _).symm
  pointwise [k0_pay1]
  simp only [h0, h1, h2]
  rw [mul_one, zero_sub]
  rfl

/-- The result array after the run. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

/-- The kernel and the reference end with equal results, from equal arguments. -/
theorem algebraic : Cert.algebraic_GatesIdeal_GatesRefIdeal := by
  pair_intro
  · run_from Cert.GatesIdeal.Gen.run_main m g
  · run_from Cert.GatesRefIdeal.Value.run m' g'
    exact (final m c).symm

end Cert.GatesProof

end
-- ==== Proof.AqkvValue.lean ====
/- The value of the attention projection: after the kernel's run the result array is the reference's term. -/
module

public import proofs.«01_k».proof.Defs
public import proofs.«01_k».proof.Proof.Gen.AqkvIdeal.Value
public import proofs.«01_k».proof.Proof.Gen.AqkvRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.AqkvProof

open Idealize.ShloMosaic Idealize.ShloMosaic.TcCoe Idealize.SL.Sem
open Idealize.ShloMosaic.Pipeline (Dat)

section Reference
open Cert.AqkvRefIdeal Cert.AqkvRefIdeal.Gen

/-- The reference's single-precision result as a function of the tokens and the fused weight: queries, keys, values side by side. -/
abbrev REF (X : FVec Ideal S65536x1024 .f32) (W : FVec Ideal S1024x7688 .f32) : FVec Ideal S65536x1536 .f32 :=
  (concatenate S65536x1536 1 [⟨S65536x512, ((extractStridedSlice S65536x512 ![0, 4104] (Host.dotGeneral dot_S65536x1024_S1024x7688_S65536x7688_1_0_0_1_n_n none X W) slices_S65536x7688_S65536x512_0_4104) : (⟨S65536x512, .f32⟩ : BufTy).Contents (Elt Ideal))⟩, ⟨S65536x512, ((extractStridedSlice S65536x512 ![0, 4616] (Host.dotGeneral dot_S65536x1024_S1024x7688_S65536x7688_1_0_0_1_n_n none X W) slices_S65536x7688_S65536x512_0_4616) : (⟨S65536x512, .f32⟩ : BufTy).Contents (Elt Ideal))⟩, ⟨S65536x512, ((extractStridedSlice S65536x512 ![0, 5128] (Host.dotGeneral dot_S65536x1024_S1024x7688_S65536x7688_1_0_0_1_n_n none X W) slices_S65536x7688_S65536x512_0_5128) : (⟨S65536x512, .f32⟩ : BufTy).Contents (Elt Ideal))⟩] concatenates_S65536x512_S65536x512_S65536x512_S65536x1536_d1 : (⟨S65536x1536, .f32⟩ : BufTy).Contents (Elt Ideal))

/-- The reference's half-precision result. -/
abbrev REFH (X : FVec Ideal S65536x1024 .f32) (W : FVec Ideal S1024x7688 .f32) : FVec Ideal S65536x1536 .bf16 :=
  truncf .bf16 (REF X W) bitsLt_bf16_f32

end Reference

open Cert.AqkvIdeal Cert.AqkvIdeal.Gen

variable (m : (ℓ : Loc nD τ sig) → Buf (Elt Ideal) ℓ)

/-- The windows' block indices: the tokens move with the outer coordinate, weights and scales with the inner one. -/
theorem idx : ∀ t : Fin cfg0.N, win0_0.index t = ![t.val / 3, 0] ∧ win0_1.index t = ![0, t.val % 3]
    ∧ win0_2.index t = ![0, t.val % 3] ∧ win0_3.index t = ![t.val / 3, t.val % 3] ∧ win0_4.index t = ![t.val / 3, t.val % 3] :=
  (by decide +kernel : ∀ t : Fin grid0.N, _)

/-- The weight operand the host line prepares: three column blocks of the fused weight, side by side. -/
abbrev WOP (W : FVec Ideal S1024x7688 .f32) : FVec Ideal S1024x1536 .bf16 :=
  truncf .bf16 (concatenate S1024x1536 1
    [⟨S1024x512, (extractStridedSlice S1024x512 ![0, 4104] W slices_S1024x7688_S1024x512_0_4104 : (⟨S1024x512, .f32⟩ : BufTy).Contents (Elt Ideal))⟩,
     ⟨S1024x512, (extractStridedSlice S1024x512 ![0, 4616] W slices_S1024x7688_S1024x512_0_4616 : (⟨S1024x512, .f32⟩ : BufTy).Contents (Elt Ideal))⟩,
     ⟨S1024x512, (extractStridedSlice S1024x512 ![0, 5128] W slices_S1024x7688_S1024x512_0_5128 : (⟨S1024x512, .f32⟩ : BufTy).Contents (Elt Ideal))⟩]
    concatenates_S1024x512_S1024x512_S1024x512_S1024x1536_d1 : (⟨S1024x1536, .f32⟩ : BufTy).Contents (Elt Ideal)) bitsLt_bf16_f32

/-- The scale operand the host line prepares: a row of ones. -/
abbrev SOP : FVec Ideal S1x1536 .f32 := broadcastInDim S1x1536 ![] bcast_S_S1x1536 (constant S_ .f32 0x3F800000#32)

/-- The weight operand when the kernel starts. -/
theorem weight_eq (c : Dev nD) : V m c main_v4 = WOP (m ((c : Thread nD τ).loc main_arg1)) := rfl

/-- The scale operand when the kernel starts. -/
theorem scale_eq (c : Dev nD) : V m c main_v5 = SOP := rfl

/-- The weight operand at an entry: 1536 consecutive columns of the fused weight, from 4104. -/
theorem weight_at (W : FVec Ideal S1024x7688 .f32) (x : Fin 1024) (j : Fin 1536) :
    WOP W (ix2 x j) = W (ix2 x ⟨4104 + j.val, by omega⟩) := by
  pointwise [WOP]
  by_cases h1 : j.val < 512
  · exact dif_pos h1
  refine (dif_neg h1).trans ?_
  by_cases h2 : j.val - 512 < 512
  · refine (dif_pos h2).trans ?_
    blk_point []
  · refine (dif_neg h2).trans ?_
    blk_point []

/-- The scale operand at a column. -/
theorem scale_at (j : Fin 1536) : SOP (ix2 0 j) = 1 := by
  pointwise [SOP]

/-- The reference at one entry: the product of the token row with the weight column. -/
theorem ref_at (X : FVec Ideal Cert.AqkvRefIdeal.S65536x1024 .f32) (W : FVec Ideal Cert.AqkvRefIdeal.S1024x7688 .f32)
    (a : Fin 65536) (b : Fin 1536) :
    REF X W (ix2 a b) = ∑ x : Fin 1024, X (ix2 a x) * W (ix2 x ⟨4104 + b.val, by omega⟩) := by
  pointwise [REF]
  by_cases h1 : b.val < 512
  · exact dif_pos h1
  refine (dif_neg h1).trans ?_
  by_cases h2 : b.val - 512 < 512
  · refine (dif_pos h2).trans ?_
    blk_point []
  · refine (dif_neg h2).trans ?_
    blk_point []

/-- One block of the result: what the body stores is the reference at the place of the block in the array. -/
theorem point (c : Dev nD) (t : Fin cfg0.N) (y : S1024x512.Idx) :
    k0_pay1 (iblk m c 0 t) (iblk m c 1 t) (iblk m c 2 t) y
      = REF (m ((c : Thread nD τ).loc main_arg0)) (m ((c : Thread nD τ).loc main_arg1)) (((cfg0.win 4).blk t).view.emb y) := by
  have ht : t.val < 192 := lt_of_lt_of_eq t.isLt N_0
  have h0 : ∀ x : Fin 1024, iblk m c 0 t (ix2 (y 0) x)
      = m ((c : Thread nD τ).loc main_arg0) (ix2 ⟨t.val / 3 * 1024 + (y 0).val, by idx_bounds; omega⟩ x) := by
    intro x
    blk_ext [iblk, V, idx t]
  have h1 : ∀ x : Fin 1024, iblk m c 1 t (ix2 x (y 1))
      = m ((c : Thread nD τ).loc main_arg1) (ix2 x ⟨4104 + (t.val % 3 * 512 + (y 1).val), by idx_bounds; omega⟩) := by
    intro x
    refine Eq.trans ?_ (weight_at (m ((c : Thread nD τ).loc main_arg1)) x ⟨t.val % 3 * 512 + (y 1).val, by idx_bounds; omega⟩)
    rw [← weight_eq m c]
    blk_ext [iblk, idx t]
  have h2 : iblk m c 2 t (ix2 0 (y 1)) = (1 : EReal) := by
    refine Eq.trans ?_ (scale_at ⟨t.val % 3 * 512 + (y 1).val, by idx_bounds; omega⟩)
    rw [← scale_eq m c]
    blk_ext [iblk, idx t]
  have e3 : ((cfg0.win 4).blk t).view.emb y = ix2 ⟨t.val / 3 * 1024 + (y 0).val, by idx_bounds; omega⟩
      ⟨t.val % 3 * 512 + (y 1).val, by idx_bounds; omega⟩ := by
    blk_ext [idx t]
  rw [e3]
  refine Eq.trans ?_ (ref_at _ _ _ _).symm
  pointwise [k0_pay1]
  simp only [h0, h1, h2]
  rw [mul_one]

/-- The half-precision payload is the single-precision one: at the ideal instance the cast is the identity. -/
theorem half_pay (v0 : Vec Ideal S1024x1024 .f32) (v2 : Vec Ideal S1024x512 .bf16) (v5 : Vec Ideal S1x512 .f32) (y : S1024x512.Idx) :
    k0_pay2 v0 v2 v5 y = k0_pay1 v0 v2 v5 y := rfl

/-- The half-precision reference is the single-precision one. -/
theorem half_ref (X : FVec Ideal Cert.AqkvRefIdeal.S65536x1024 .f32) (W : FVec Ideal Cert.AqkvRefIdeal.S1024x7688 .f32)
    (i : Cert.AqkvRefIdeal.S65536x1536.Idx) : REFH X W i = REF X W i := rfl

/-- The two output windows lie at the same place. -/
theorem place (t : Fin cfg0.N) (y : S1024x512.Idx) :
    (((cfg0.win 3).blk t).view.emb y : S65536x1536.Idx) = ((cfg0.win 4).blk t).view.emb y := by
  blk_ext [idx t]

/-- The single-precision result array after the run. -/
theorem final (c : Dev nD) : (dats m 0 c).arrAt 4 (cfgs 0).N
    = REF (m ((c : Thread nD τ).loc main_arg0)) (m ((c : Thread nD τ).loc main_arg1)) := by
  refine (dats m 0 c).arrAt_eq_of_covers 4 _ (by decide +kernel) fun t _ y => ?_
  blk_simp
  rw [after0_4]; frame_out
  exact point m c t y

/-- One block of the half-precision result. -/
theorem pointH (c : Dev nD) (t : Fin cfg0.N) (y : S1024x512.Idx) :
    k0_pay2 (iblk m c 0 t) (iblk m c 1 t) (iblk m c 2 t) y
      = REFH (m ((c : Thread nD τ).loc main_arg0)) (m ((c : Thread nD τ).loc main_arg1)) (((cfg0.win 3).blk t).view.emb y) := by
  refine (half_pay _ _ _ _).trans ((point m c t y).trans ?_)
  exact (congrArg (REF (m ((c : Thread nD τ).loc main_arg0)) (m ((c : Thread nD τ).loc main_arg1))) (place t y)).symm

/-- The half-precision result array after the run. -/
theorem finalH (c : Dev nD) : (dats m 0 c).arrAt 3 (cfgs 0).N
    = REFH (m ((c : Thread nD τ).loc main_arg0)) (m ((c : Thread nD τ).loc main_arg1)) := by
  refine (dats m 0 c).arrAt_eq_of_covers 3 _ (by decide +kernel) fun t _ y => ?_
  blk_simp
  rw [after0_3]; frame_out
  exact pointH m c t y

/-- The kernel and the reference end with equal results, from equal arguments. -/
theorem algebraic : Cert.algebraic_AqkvIdeal_AqkvRefIdeal := by
  pair_intro
  · run_from Cert.AqkvIdeal.Gen.run_main m g
  · run_from Cert.AqkvRefIdeal.Value.run m' g'
    · exact (finalH m c).symm
    · exact (final m c).symm

end Cert.AqkvProof

end
-- ==== Proof.MixValue.lean ====
/- The value of the mixing step: after the kernel's run the result array is the reference's term. -/
module

public import proofs.«01_k».proof.Defs
public import proofs.«01_k».proof.Proof.Gen.MixIdeal.Value
public import proofs.«01_k».proof.Proof.Gen.MixRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.MixProof

open Idealize.ShloMosaic Idealize.ShloMosaic.TcCoe Idealize.SL.Sem
open Idealize.ShloMosaic.Pipeline (Dat)

section Reference
open Cert.MixRefIdeal Cert.MixRefIdeal.Gen

/-- The reference's result as a function of its nine arguments. -/
abbrev REF (H : FVec Ideal S65536x1024 .bf16) (A : FVec Ideal S65536x512 .bf16) (G : FVec Ideal S65536x3072 .bf16) (X : FVec Ideal S65536x1024 .f32) (WM : FVec Ideal S1024x1024 .f32) (WA : FVec Ideal S512x1024 .f32) (WO : FVec Ideal S1024x1024 .f32) (S : FVec Ideal S1024 .f32) (B : FVec Ideal S1024 .f32) : FVec Ideal S65536x1024 .f32 :=
  addf (mulf (mulf (subf (addf (mulf (broadcastInDim S65536x1024 ![] bcast_S_S65536x1024 (constant S_ .f32 0x3FB504F3#32)) X) (Host.dotGeneral dot_S65536x1024_S1024x1024_S65536x1024_1_0_0_1_n_n none (addf (mulf (extf .f32 (extractStridedSlice S65536x1024 ![0, 1024] G slices_S65536x3072_S65536x1024_0_1024) bitsLt_bf16_f32) (Host.dotGeneral dot_S65536x1024_S1024x1024_S65536x1024_1_0_0_1_n_n none (extf .f32 H bitsLt_bf16_f32) WM)) (mulf (extf .f32 (extractStridedSlice S65536x1024 ![0, 2048] G slices_S65536x3072_S65536x1024_0_2048) bitsLt_bf16_f32) (Host.dotGeneral dot_S65536x512_S512x1024_S65536x1024_1_0_0_1_n_n none (extf .f32 A bitsLt_bf16_f32) WA))) WO)) (broadcastInDim S65536x1024 ![0, 1] bcast_S65536x1_S65536x1024_0_1 (Host.divf (broadcastInDim S65536x1 ![0] bcast_S65536_S65536x1_0 (Host.reduceAdd (addf (mulf (broadcastInDim S65536x1024 ![] bcast_S_S65536x1024 (constant S_ .f32 0x3FB504F3#32)) X) (Host.dotGeneral dot_S65536x1024_S1024x1024_S65536x1024_1_0_0_1_n_n none (addf (mulf (extf .f32 (extractStridedSlice S65536x1024 ![0, 1024] G slices_S65536x3072_S65536x1024_0_1024) bitsLt_bf16_f32) (Host.dotGeneral dot_S65536x1024_S1024x1024_S65536x1024_1_0_0_1_n_n none (extf .f32 H bitsLt_bf16_f32) WM)) (mulf (extf .f32 (extractStridedSlice S65536x1024 ![0, 2048] G slices_S65536x3072_S65536x1024_0_2048) bitsLt_bf16_f32) (Host.dotGeneral dot_S65536x512_S512x1024_S65536x1024_1_0_0_1_n_n none (extf .f32 A bitsLt_bf16_f32) WA))) WO)) (constant S_ .f32 0x00000000#32) reducesTo_S65536x1024_S65536_d1 h_S_)) (broadcastInDim S65536x1 ![] bcast_S_S65536x1 (constant S_ .f32 0x44800000#32))))) (broadcastInDim S65536x1024 ![0, 1] bcast_S65536x1_S65536x1024_0_1 (Host.rsqrt (addf (Host.divf (broadcastInDim S65536x1 ![0] bcast_S65536_S65536x1_0 (Host.reduceAdd (mulf (subf (addf (mulf (broadcastInDim S65536x1024 ![] bcast_S_S65536x1024 (constant S_ .f32 0x3FB504F3#32)) X) (Host.dotGeneral dot_S65536x1024_S1024x1024_S65536x1024_1_0_0_1_n_n none (addf (mulf (extf .f32 (extractStridedSlice S65536x1024 ![0, 1024] G slices_S65536x3072_S65536x1024_0_1024) bitsLt_bf16_f32) (Host.dotGeneral dot_S65536x1024_S1024x1024_S65536x1024_1_0_0_1_n_n none (extf .f32 H bitsLt_bf16_f32) WM)) (mulf (extf .f32 (extractStridedSlice S65536x1024 ![0, 2048] G slices_S65536x3072_S65536x1024_0_2048) bitsLt_bf16_f32) (Host.dotGeneral dot_S65536x512_S512x1024_S65536x1024_1_0_0_1_n_n none (extf .f32 A bitsLt_bf16_f32) WA))) WO)) (broadcastInDim S65536x1024 ![0, 1] bcast_S65536x1_S65536x1024_0_1 (Host.divf (broadcastInDim S65536x1 ![0] bcast_S65536_S65536x1_0 (Host.reduceAdd (addf (mulf (broadcastInDim S65536x1024 ![] bcast_S_S65536x1024 (constant S_ .f32 0x3FB504F3#32)) X) (Host.dotGeneral dot_S65536x1024_S1024x1024_S65536x1024_1_0_0_1_n_n none (addf (mulf (extf .f32 (extractStridedSlice S65536x1024 ![0, 1024] G slices_S65536x3072_S65536x1024_0_1024) bitsLt_bf16_f32) (Host.dotGeneral dot_S65536x1024_S1024x1024_S65536x1024_1_0_0_1_n_n none (extf .f32 H bitsLt_bf16_f32) WM)) (mulf (extf .f32 (extractStridedSlice S65536x1024 ![0, 2048] G slices_S65536x3072_S65536x1024_0_2048) bitsLt_bf16_f32) (Host.dotGeneral dot_S65536x512_S512x1024_S65536x1024_1_0_0_1_n_n none (extf .f32 A bitsLt_bf16_f32) WA))) WO)) (constant S_ .f32 0x00000000#32) reducesTo_S65536x1024_S65536_d1 h_S_)) (broadcastInDim S65536x1 ![] bcast_S_S65536x1 (constant S_ .f32 0x44800000#32))))) (subf (addf (mulf (broadcastInDim S65536x1024 ![] bcast_S_S65536x1024 (constant S_ .f32 0x3FB504F3#32)) X) (Host.dotGeneral dot_S65536x1024_S1024x1024_S65536x1024_1_0_0_1_n_n none (addf (mulf (extf .f32 (extractStridedSlice S65536x1024 ![0, 1024] G slices_S65536x3072_S65536x1024_0_1024) bitsLt_bf16_f32) (Host.dotGeneral dot_S65536x1024_S1024x1024_S65536x1024_1_0_0_1_n_n none (extf .f32 H bitsLt_bf16_f32) WM)) (mulf (extf .f32 (extractStridedSlice S65536x1024 ![0, 2048] G slices_S65536x3072_S65536x1024_0_2048) bitsLt_bf16_f32) (Host.dotGeneral dot_S65536x512_S512x1024_S65536x1024_1_0_0_1_n_n none (extf .f32 A bitsLt_bf16_f32) WA))) WO)) (broadcastInDim S65536x1024 ![0, 1] bcast_S65536x1_S65536x1024_0_1 (Host.divf (broadcastInDim S65536x1 ![0] bcast_S65536_S65536x1_0 (Host.reduceAdd (addf (mulf (broadcastInDim S65536x1024 ![] bcast_S_S65536x1024 (constant S_ .f32 0x3FB504F3#32)) X) (Host.dotGeneral dot_S65536x1024_S1024x1024_S65536x1024_1_0_0_1_n_n none (addf (mulf (extf .f32 (extractStridedSlice S65536x1024 ![0, 1024] G slices_S65536x3072_S65536x1024_0_1024) bitsLt_bf16_f32) (Host.dotGeneral dot_S65536x1024_S1024x1024_S65536x1024_1_0_0_1_n_n none (extf .f32 H bitsLt_bf16_f32) WM)) (mulf (extf .f32 (extractStridedSlice S65536x1024 ![0, 2048] G slices_S65536x3072_S65536x1024_0_2048) bitsLt_bf16_f32) (Host.dotGeneral dot_S65536x512_S512x1024_S65536x1024_1_0_0_1_n_n none (extf .f32 A bitsLt_bf16_f32) WA))) WO)) (constant S_ .f32 0x00000000#32) reducesTo_S65536x1024_S65536_d1 h_S_)) (broadcastInDim S65536x1 ![] bcast_S_S65536x1 (constant S_ .f32 0x44800000#32)))))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x3727C5AC#32)))))) (broadcastInDim S65536x1024 ![0, 1] bcast_S1x1024_S65536x1024_0_1 (broadcastInDim S1x1024 ![1] bcast_S1024_S1x1024_1 S))) (broadcastInDim S65536x1024 ![0, 1] bcast_S1x1024_S65536x1024_0_1 (broadcastInDim S1x1024 ![1] bcast_S1024_S1x1024_1 B))

end Reference

open Cert.MixIdeal Cert.MixIdeal.Gen

variable (m : (ℓ : Loc nD τ sig) → Buf (Elt Ideal) ℓ)

/-- The windows' block indices: the five token arrays move with the grid, the weights stay; the gates are two column blocks of one array. -/
theorem idx : ∀ t : Fin cfg0.N, win0_0.index t = ![t.val, 0] ∧ win0_1.index t = ![t.val, 0]
    ∧ win0_2.index t = ![t.val, 1] ∧ win0_3.index t = ![t.val, 2] ∧ win0_4.index t = ![t.val, 0]
    ∧ win0_5.index t = ![0, 0] ∧ win0_6.index t = ![0, 0] ∧ win0_7.index t = ![0, 0] ∧ win0_8.index t = ![0, 0]
    ∧ win0_9.index t = ![0, 0] ∧ win0_10.index t = ![t.val, 0] :=
  (by decide +kernel : ∀ t : Fin grid0.N, _)

set_option maxHeartbeats 1600000 in
/-- One block of the result: what the body stores is the reference at the place of the block in the array. -/
theorem point (c : Dev nD) (t : Fin cfg0.N) (y : S1024x1024.Idx) :
    k0_pay1 (k0_pay2 (iblk m c 8 t)) (k0_pay3 (iblk m c 9 t)) (k0_pay4 (iblk m c 0 t) (iblk m c 5 t) (iblk m c 1 t) (iblk m c 6 t) (iblk m c 2 t) (iblk m c 3 t) (iblk m c 7 t) (iblk m c 4 t)) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
        (((cfg0.win 10).blk t).view.emb y) := by
  pointwise [k0_pay1, k0_pay2, k0_pay3, k0_pay4, REF]
  blk_point [iblk, V, idx t]

/-- The result array after the run. -/
theorem final (c : Dev nD) : (dats m 0 c).arrAt 10 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  blk_simp
  rw [after0_10]; frame_out
  exact point m c t y

/-- The kernel and the reference end with equal results, from equal arguments. -/
theorem algebraic : Cert.algebraic_MixIdeal_MixRefIdeal := by
  pair_intro
  · run_from Cert.MixIdeal.Gen.run_main m g
  · run_from Cert.MixRefIdeal.Value.run m' g'
    obtain ⟨h0, h1, h2, h3, h4, h5, h6, h7, h8⟩ := hagree c
    refine Eq.trans ?_ (final m c).symm
    unfold Cert.MixRefIdeal.Value.res_main_v38
    rw [h0, h1, h2, h3, h4, h5, h6, h7, h8]

end Cert.MixProof

end
-- ==== Proof.MlstmMath.lean ====
/- One head of the mLSTM over one chunk, as a function of its queries, keys, values, gates and carried state. -/
module

public import Idealize.ShloMosaic.PureOps.Ideal
public import proofs.«01_k».proof.Proof.AttnCore

@[expose] public section

noncomputable section

namespace Cert.MlstmProof

open Idealize.ShloMosaic

/-- What one head reads: the input gates and the logarithms of the forget gates of the chunk's 64 frames, the carried
    exponent, the queries, keys and values of the frames, and the carried matrix and normaliser. -/
structure Head where
  ig : Fin 64 → EReal
  lf : Fin 64 → EReal
  mp : EReal
  q : Fin 64 → Fin 256 → EReal
  k : Fin 64 → Fin 256 → EReal
  v : Fin 64 → Fin 256 → EReal
  C : Fin 256 → Fin 256 → EReal
  n : Fin 256 → EReal

namespace Head

variable (H : Head)

/-- The sum of the forget gates' logarithms up to a frame. -/
def b (t : Fin 64) : EReal := ∑ s, if s ≤ t then H.lf s else 0

/-- The exponent with which a frame reads the carried state. -/
def inter (t : Fin 64) : EReal := H.b t + H.mp

/-- The exponent with which a frame reads an earlier frame. -/
def intra (t s : Fin 64) : EReal := if s ≤ t then H.b t - H.b s + H.ig s else ⊥

/-- A frame's largest exponent. -/
def top (t : Fin 64) : EReal := max (H.inter t) (Finset.univ.fold max ⊥ (H.intra t))

/-- A frame's weight of the carried state. -/
def carry (t : Fin 64) : EReal := Ideal.exp (H.inter t - H.top t)

/-- A frame's weight of an earlier frame. -/
def weight (t s : Fin 64) : EReal := Ideal.exp (H.intra t s - H.top t) * ∑ d, H.q t d * H.k s d

/-- The weighted values a frame reads. -/
def num (t : Fin 64) (e : Fin 256) : EReal := H.carry t * (∑ d, H.q t d * H.C e d) + ∑ s, H.weight t s * H.v s e

/-- The sum of the weights a frame reads with. -/
def total (t : Fin 64) : EReal := H.carry t * (∑ d, H.q t d * H.n d) + ∑ s, H.weight t s

/-- The divisor of a frame. -/
def den (t : Fin 64) : EReal := max (max (H.total t) (-H.total t)) (Ideal.exp (-H.top t))

/-- What the head gives for a frame. -/
def mixed (t : Fin 64) (e : Fin 256) : EReal := Ideal.div (H.num t e) (H.den t)

/-- What is left of the carried state after the chunk. -/
def gain : EReal := Ideal.exp (H.b 63 + H.mp - H.top 63)

/-- A frame's share of the new state. -/
def push (s : Fin 64) : EReal := Ideal.exp (H.b 63 - H.b s + H.ig s - H.top 63)

/-- The new matrix. -/
def newC (e d : Fin 256) : EReal := H.gain * H.C e d + ∑ s, H.push s * H.v s e * H.k s d

/-- The new normaliser. -/
def newN (d : Fin 256) : EReal := H.gain * H.n d + ∑ s, H.push s * H.k s d

/-- The gates and the carried exponent are numbers. -/
def Finite : Prop := (∀ t, AttnProof.Real' (H.ig t)) ∧ (∀ t, AttnProof.Real' (H.lf t)) ∧ AttnProof.Real' H.mp

variable {H}

/-- The sums of the forget gates' logarithms are numbers. -/
theorem b_real (h : H.Finite) (t : Fin 64) : AttnProof.Real' (H.b t) := by
  refine AttnProof.Real'.sum fun s => ?_
  by_cases hs : s ≤ t
  · rw [if_pos hs]; exact h.2.1 s
  · rw [if_neg hs]; exact ⟨0, rfl⟩

/-- A frame's largest exponent isn't +∞. -/
theorem top_ne_top (h : H.Finite) (t : Fin 64) : H.top t ≠ ⊤ := by
  have hi : H.inter t ≠ ⊤ := ((b_real h t).add h.2.2).ne_top
  have hs : Finset.univ.fold max ⊥ (H.intra t) ≠ ⊤ := by
    have : Finset.univ.fold max ⊥ (H.intra t) < ⊤ := by
      refine (Finset.sup_lt_iff (f := H.intra t) bot_lt_top).mpr fun s _ => lt_top_iff_ne_top.mpr ?_
      unfold intra
      by_cases hs : s ≤ t
      · rw [if_pos hs]
        obtain ⟨x, hx⟩ := b_real h t
        obtain ⟨y, hy⟩ := b_real h s
        obtain ⟨z, hz⟩ := h.1 s
        rw [hx, hy, hz]
        exact EReal.coe_ne_top (x - y + z)
      · rw [if_neg hs]; exact bot_ne_top
    exact this.ne
  unfold top
  rcases max_choice (H.inter t) (Finset.univ.fold max ⊥ (H.intra t)) with e | e
  · rw [e]; exact hi
  · rw [e]; exact hs

/-- A frame's divisor isn't zero. -/
theorem den_ne_zero (h : H.Finite) (t : Fin 64) : H.den t ≠ 0 := by
  have hpos : 0 < Ideal.exp (-H.top t) := by
    have hb : -H.top t ≠ ⊥ := fun e => top_ne_top h t (EReal.neg_eq_bot_iff.mp e)
    generalize -H.top t = z at hb
    induction z with
    | bot => exact absurd rfl hb
    | top => exact EReal.zero_lt_top
    | coe r => exact EReal.coe_pos.mpr (Real.exp_pos r)
  exact (lt_of_lt_of_le hpos (le_max_right _ _)).ne'

/-- Multiplying by the divisor's inverse is dividing by it. -/
theorem mul_inv_den (h : H.Finite) (t : Fin 64) (e : Fin 256) : H.num t e * Ideal.div 1 (H.den t) = H.mixed t e := by
  unfold mixed Ideal.div
  rw [if_neg (den_ne_zero h t), if_neg (den_ne_zero h t), one_mul]

end Head

/-- The mean of a head's 256 numbers. -/
def mean (f : Fin 256 → EReal) : EReal := Ideal.div (∑ e, f e) (Ideal.ofBits .f32 0x43800000#32)

/-- A head's number less the mean, over the standard deviation. -/
def normed (f : Fin 256 → EReal) (e : Fin 256) : EReal :=
  (f e - mean f) * Ideal.rsqrt (mean (fun e => (f e - mean f) * (f e - mean f)) + Ideal.ofBits .f32 0x3727C5AC#32)

end Cert.MlstmProof

end
-- ==== Proof.MlstmKernel.lean ====
/- One head of the mLSTM as the kernel computes it, over the head's own columns of its inputs. -/
module

public import proofs.«01_k».proof.Defs
public import proofs.«01_k».proof.Proof.Gen.MlstmIdeal.Value
public import proofs.«01_k».proof.Proof.MlstmMath
public import Idealize.ShloMosaic.Lib.Pointwise

@[expose] public section

set_option maxRecDepth 16384

noncomputable section

namespace Cert.MlstmProof

open Idealize.ShloMosaic Idealize.ShloMosaic.TcCoe Idealize.SL.Sem
open Cert.MlstmIdeal Cert.MlstmIdeal.Gen

/-- The sums of the forget gates' logarithms, down a column. -/
def sums (lfr : FVec Ideal S1x64 .f32) : FVec Ideal S64x1 .f32 :=
  shapeCast S64x1 (multiReduction .add [1] S64 (select k0_pay6 (broadcastTo S64x64 (shapeCast S1x64 lfr shapeCasts_S1x64_S1x64) broadcasts_S1x64_S64x64) (broadcast S64x64 (Scalar.ofBits .f32 0x00000000#32))) 0x00000000#32 reduces_S64x64_S64 (.inl rfl) rfl) shapeCasts_S64_S64x1

/-- Which frames read a frame, as a word of one bit. -/
def later : IVec S64x64 1 := cmpi .sle (iota .tc S64x64 32 [0] iota_S64x64_d0_w32) (iota .tc S64x64 32 [1] iota_S64x64_d1_w32)

/-- The forget gates' logarithms of the frames not after each frame. -/
def masked (lfc : FVec Ideal S64x1 .f32) : FVec Ideal S64x64 .f32 :=
  select later (broadcastTo S64x64 (shapeCast S64x1 lfc shapeCasts_S64x1_S64x1) broadcasts_S64x1_S64x64) (broadcast S64x64 (Scalar.ofBits .f32 0x00000000#32))

/-- A lane of the carried exponents. -/
def lane (h : BitVec 32) (M : FVec Ideal S1x1x128 .f32) : FVec Ideal S1x1 .f32 :=
  shapeCast S1x1 (multiReduction .add [1] S1 (select (cmpi .eq (iota .tc S1x128 32 [1] iota_S1x128_d1_w32) (broadcast S1x128 h)) (k0_pay7 M) (broadcast S1x128 (Scalar.ofBits .f32 0x00000000#32))) 0x00000000#32 reduces_S1x128_S1 (.inl rfl) rfl) shapeCasts_S1_S1x1

/-- The exponents with which the frames read the carried state. -/
def outer (B : FVec Ideal S64x1 .f32) (mp : FVec Ideal S1x1 .f32) : FVec Ideal S64x1 .f32 :=
  addf B (broadcastTo S64x1 mp broadcasts_S1x1_S64x1)

/-- The frames' largest exponents. -/
def peaks (I : FVec Ideal S64x1 .f32) (D : FVec Ideal S64x64 .f32) : FVec Ideal S64x1 .f32 :=
  maximumf I (shapeCast S64x1 (multiReduction .maximumf [1] S64 D 0xFF800000#32 reduces_S64x64_S64 (.inl rfl) rfl) shapeCasts_S64_S64x1)

/-- The weights of the carried state. -/
def carries (I T : FVec Ideal S64x1 .f32) : FVec Ideal S64x1 .f32 := exp (subf I T)

/-- The weights of the frames. -/
def weights (D : FVec Ideal S64x64 .f32) (T : FVec Ideal S64x1 .f32) (q k : FVec Ideal S1x64x256 .bf16) : FVec Ideal S64x64 .f32 :=
  mulf (exp (subf D (broadcastTo S64x64 T broadcasts_S64x1_S64x64))) (matmul dot_S64x256_S64x256_S64x64_1_1_0_0_n_n none (k0_pay8 q) (k0_pay9 k) (constant S64x64 .f32 0x00000000#32))

/-- The weighted values. -/
def nums (w : FVec Ideal S64x1 .f32) (W : FVec Ideal S64x64 .f32) (q v : FVec Ideal S1x64x256 .bf16) (C : FVec Ideal S1x1x256x256 .f32) : FVec Ideal S64x256 .f32 :=
  addf (mulf (broadcastTo S64x256 w broadcasts_S64x1_S64x256) (matmul dot_S64x256_S256x256_S64x256_1_1_0_0_n_n none (k0_pay8 q) (truncf .bf16 (k0_pay21 C) bitsLt_bf16_f32) (constant S64x256 .f32 0x00000000#32)))
    (matmul dot_S64x64_S64x256_S64x256_1_0_0_1_n_n none (truncf .bf16 W bitsLt_bf16_f32) (k0_pay10 v) (constant S64x256 .f32 0x00000000#32))

/-- The carried part of the weights' sums. -/
def reads (w : FVec Ideal S64x1 .f32) (q : FVec Ideal S1x64x256 .bf16) (N : FVec Ideal S1x1x256 .f32) : FVec Ideal S64x1 .f32 :=
  mulf w (shapeCast S64x1 (multiReduction .add [1] S64 (mulf (extf .f32 (k0_pay8 q) bitsLt_bf16_f32) (broadcastTo S64x256 (k0_pay22 N) broadcasts_S1x256_S64x256)) 0x00000000#32 reduces_S64x256_S64 (.inl rfl) rfl) shapeCasts_S64_S64x1)

/-- The exponents with which the frames read one another. -/
def inner (igr lfr : FVec Ideal S1x64 .f32) (lfc : FVec Ideal S64x1 .f32) : FVec Ideal S64x64 .f32 := k0_pay17 k0_pay6 igr (sums lfr) (masked lfc)

/-- The largest exponents of the frames, from the gates. -/
def tops (igr lfr : FVec Ideal S1x64 .f32) (lfc : FVec Ideal S64x1 .f32) (mp : FVec Ideal S1x1 .f32) : FVec Ideal S64x1 .f32 :=
  peaks (outer (sums lfr) mp) (inner igr lfr lfc)

/-- The head's result. -/
def headOut (igr lfr : FVec Ideal S1x64 .f32) (lfc : FVec Ideal S64x1 .f32) (mp : FVec Ideal S1x1 .f32) (q k v : FVec Ideal S1x64x256 .bf16)
    (C : FVec Ideal S1x1x256x256 .f32) (N : FVec Ideal S1x1x256 .f32) (nw : FVec Ideal S1x256 .f32) (sg : FVec Ideal S1x64x256 .bf16) : FVec Ideal S1x64x256 .bf16 :=
  k0_pay25 (tops igr lfr lfc mp) (weights (inner igr lfr lfc) (tops igr lfr lfc mp) q k)
    (nums (carries (outer (sums lfr) mp) (tops igr lfr lfc mp)) (weights (inner igr lfr lfc) (tops igr lfr lfc mp) q k) q v C)
    (reads (carries (outer (sums lfr) mp) (tops igr lfr lfc mp)) q N) nw sg

/-- The head's new matrix. -/
def headC (igc : FVec Ideal S64x1 .f32) (igr lfr : FVec Ideal S1x64 .f32) (lfc : FVec Ideal S64x1 .f32) (mp : FVec Ideal S1x1 .f32) (k v : FVec Ideal S1x64x256 .bf16)
    (C : FVec Ideal S1x1x256x256 .f32) : FVec Ideal S1x1x256x256 .f32 :=
  k0_pay31 (k0_pay9 k) (k0_pay10 v) igc (sums lfr) (k0_pay21 C) (k0_pay26 (tops igr lfr lfc mp)) (k0_pay27 (sums lfr)) (k0_pay28 (sums lfr) mp)

/-- The head's new normaliser. -/
def headN (igc : FVec Ideal S64x1 .f32) (igr lfr : FVec Ideal S1x64 .f32) (lfc : FVec Ideal S64x1 .f32) (mp : FVec Ideal S1x1 .f32) (k : FVec Ideal S1x64x256 .bf16)
    (N : FVec Ideal S1x1x256 .f32) : FVec Ideal S1x1x256 .f32 :=
  k0_pay32 (k0_pay9 k) igc (sums lfr) (k0_pay22 N) (k0_pay26 (tops igr lfr lfc mp)) (k0_pay27 (sums lfr)) (k0_pay28 (sums lfr) mp)

/-- The carried exponents with one lane replaced by the largest exponent of the last frame. -/
def headM (h : BitVec 32) (T : FVec Ideal S64x1 .f32) (r : FVec Ideal S1x128 .f32) : FVec Ideal S1x128 .f32 :=
  select (cmpi .eq (iota .tc S1x128 32 [1] iota_S1x128_d1_w32) (broadcast S1x128 h)) (broadcastTo S1x128 (shapeCast S1x1 (k0_pay26 T) shapeCasts_S1x1_S1x1) broadcasts_S1x1_S1x128) r

/-- Which frames a frame reads. -/
theorem le_at : ∀ t s : Fin 64, k0_pay6 (ix2 t s) = if s ≤ t then 1#1 else 0#1 := by
  unfold k0_pay6; decide +kernel

/-- Which frames read a frame. -/
theorem ge_at : ∀ s t : Fin 64, later (ix2 s t) = if s ≤ t then 1#1 else 0#1 := by
  unfold later; decide +kernel

/-- Choosing by a word of one bit that states a fact. -/
theorem pick (p : Prop) [Decidable p] (x y : EReal) : Scalar.select (if p then 1#1 else 0#1) x y = if p then x else y := by
  by_cases h : p
  · rw [if_pos h, if_pos h]; rfl
  · rw [if_neg h, if_neg h]; rfl

/-- The comparison of two words. -/
theorem eq_word (x y : BitVec 32) : IntOp.cmpi CmpIPredicate.eq x y = if x = y then 1#1 else 0#1 := by
  by_cases h : x = y
  · subst h; rw [if_pos rfl]; simp [IntOp.cmpi]
  · rw [if_neg h]
    show BitVec.ofBool (x == y) = 0#1
    rw [beq_eq_false_iff_ne.mpr h]; rfl

/-- The column of sums. -/
theorem sums_at (lfr : FVec Ideal S1x64 .f32) (H : Head) (h : ∀ s, lfr (ix2 0 s) = H.lf s) (t : Fin 64) : sums lfr (ix2 t 0) = H.b t := by
  pointwise [sums]
  unfold Head.b
  refine Finset.sum_congr rfl fun s _ => ?_
  rw [le_at, pick, h]

/-- The masked logarithms. -/
theorem masked_at (lfc : FVec Ideal S64x1 .f32) (H : Head) (h : ∀ s, lfc (ix2 s 0) = H.lf s) (s t : Fin 64) : masked lfc (ix2 s t) = if s ≤ t then H.lf s else 0 := by
  pointwise [masked]
  rw [ge_at, pick, h]

/-- The exponents of the frames. -/
theorem inner_at (igr lfr : FVec Ideal S1x64 .f32) (lfc : FVec Ideal S64x1 .f32) (H : Head) (h0 : ∀ s, igr (ix2 0 s) = H.ig s) (h1 : ∀ s, lfr (ix2 0 s) = H.lf s)
    (h2 : ∀ s, lfc (ix2 s 0) = H.lf s) (t s : Fin 64) : inner igr lfr lfc (ix2 t s) = H.intra t s := by
  pointwise [inner, k0_pay17]
  rw [le_at, pick, sums_at lfr H h1, h0, AttnProof.bot_word, Finset.sum_congr rfl fun x _ => masked_at lfc H h2 x s]
  rfl

/-- The largest exponents, from the exponents. -/
theorem peaks_at (I : FVec Ideal S64x1 .f32) (D : FVec Ideal S64x64 .f32) (t : Fin 64) :
    peaks I D (ix2 t 0) = max (I (ix2 t 0)) (Finset.univ.fold max ⊥ fun s => D (ix2 t s)) := by
  pointwise [peaks]
  rw [AttnProof.bot_word]

/-- The exponents with which the frames read the carried state. -/
theorem outer_at (B : FVec Ideal S64x1 .f32) (mp : FVec Ideal S1x1 .f32) (t : Fin 64) : outer B mp (ix2 t 0) = B (ix2 t 0) + mp (ix2 0 0) := by
  pointwise [outer]

/-- The weights of the carried state. -/
theorem carries_at (I T : FVec Ideal S64x1 .f32) (t : Fin 64) : carries I T (ix2 t 0) = Ideal.exp (I (ix2 t 0) - T (ix2 t 0)) := by
  pointwise [carries]

/-- The weights of the frames. -/
theorem weights_at (D : FVec Ideal S64x64 .f32) (T : FVec Ideal S64x1 .f32) (q k : FVec Ideal S1x64x256 .bf16) (t s : Fin 64) :
    weights D T q k (ix2 t s) = Ideal.exp (D (ix2 t s) - T (ix2 t 0)) * ∑ d, q (ix3 0 t d) * k (ix3 0 s d) := by
  pointwise [weights, k0_pay8, k0_pay9]

/-- The weighted values. -/
theorem nums_at (w : FVec Ideal S64x1 .f32) (W : FVec Ideal S64x64 .f32) (q v : FVec Ideal S1x64x256 .bf16) (C : FVec Ideal S1x1x256x256 .f32) (t : Fin 64) (e : Fin 256) :
    nums w W q v C (ix2 t e) = w (ix2 t 0) * (∑ d, q (ix3 0 t d) * C (ix4 0 0 e d)) + ∑ s, W (ix2 t s) * v (ix3 0 s e) := by
  pointwise [nums, k0_pay8, k0_pay10, k0_pay21]

/-- The carried part of the weights' sums. -/
theorem reads_at (w : FVec Ideal S64x1 .f32) (q : FVec Ideal S1x64x256 .bf16) (N : FVec Ideal S1x1x256 .f32) (t : Fin 64) :
    reads w q N (ix2 t 0) = w (ix2 t 0) * ∑ d, q (ix3 0 t d) * N (ix3 0 0 d) := by
  pointwise [reads, k0_pay8, k0_pay22]

/-- The head's result, from its weights. -/
theorem out_at (T : FVec Ideal S64x1 .f32) (W : FVec Ideal S64x64 .f32) (A : FVec Ideal S64x256 .f32) (R : FVec Ideal S64x1 .f32) (nw : FVec Ideal S1x256 .f32)
    (sg : FVec Ideal S1x64x256 .bf16) (f : Fin 256 → EReal) (t : Fin 64)
    (hf : ∀ e, A (ix2 t e) * Ideal.div 1 (max (max (R (ix2 t 0) + ∑ s, W (ix2 t s)) (-(R (ix2 t 0) + ∑ s, W (ix2 t s)))) (Ideal.exp (-T (ix2 t 0)))) = f e) (e : Fin 256) :
    k0_pay25 T W A R nw sg (ix3 0 t e) = sg (ix3 0 t e) * (normed f e * nw (ix2 0 e)) := by
  have hf' : ∀ e, A (ix2 t e) * Ideal.div 1 (max (FloatOps.absf (F := Ideal) (φ := .f32) (R (ix2 t 0) + ∑ s, W (ix2 t s))) (Ideal.exp (0 - T (ix2 t 0)))) = f e := fun e => by
    rw [zero_sub]; exact hf e
  pointwise [k0_pay25]
  simp only [hf']
  rfl

/-- The new matrix, from its weights. -/
theorem c_at (k v : FVec Ideal S1x64x256 .bf16) (igc B : FVec Ideal S64x1 .f32) (C : FVec Ideal S1x1x256x256 .f32) (T : FVec Ideal S64x1 .f32) (mp : FVec Ideal S1x1 .f32) (e d : Fin 256) :
    k0_pay31 (k0_pay9 k) (k0_pay10 v) igc B (k0_pay21 C) (k0_pay26 T) (k0_pay27 B) (k0_pay28 B mp) (ix4 0 0 e d)
      = Ideal.exp (B (ix2 63 0) + mp (ix2 0 0) - T (ix2 63 0)) * C (ix4 0 0 e d)
        + ∑ s, Ideal.exp (B (ix2 63 0) - B (ix2 s 0) + igc (ix2 s 0) - T (ix2 63 0)) * v (ix3 0 s e) * k (ix3 0 s d) := by
  pointwise [k0_pay31, k0_pay29, k0_pay30, k0_pay26, k0_pay27, k0_pay28, k0_pay9, k0_pay10, k0_pay21]

/-- The new normaliser, from its weights. -/
theorem n_at (k : FVec Ideal S1x64x256 .bf16) (igc B : FVec Ideal S64x1 .f32) (N : FVec Ideal S1x1x256 .f32) (T : FVec Ideal S64x1 .f32) (mp : FVec Ideal S1x1 .f32) (d : Fin 256) :
    k0_pay32 (k0_pay9 k) igc B (k0_pay22 N) (k0_pay26 T) (k0_pay27 B) (k0_pay28 B mp) (ix3 0 0 d)
      = Ideal.exp (B (ix2 63 0) + mp (ix2 0 0) - T (ix2 63 0)) * N (ix3 0 0 d)
        + ∑ s, Ideal.exp (B (ix2 63 0) - B (ix2 s 0) + igc (ix2 s 0) - T (ix2 63 0)) * k (ix3 0 s d) := by
  pointwise [k0_pay32, k0_pay29, k0_pay30, k0_pay26, k0_pay27, k0_pay28, k0_pay9, k0_pay22]

/-- The carried exponents with one lane replaced. -/
theorem headM_at (h : BitVec 32) (T : FVec Ideal S64x1 .f32) (r : FVec Ideal S1x128 .f32) (l : Fin 128) :
    headM h T r (ix2 0 l) = if BitVec.ofNat 32 (l : ℕ) = h then T (ix2 63 0) else r (ix2 0 l) := by
  pointwise [headM, k0_pay26]
  rw [eq_word, pick]

/-- A lane of the carried exponents. -/
theorem lane_at (h : Fin 128) (M : FVec Ideal S1x1x128 .f32) : lane (BitVec.ofNat 32 (h : ℕ)) M (ix2 0 0) = M (ix3 0 0 h) := by
  pointwise [lane, k0_pay7]
  rw [Finset.sum_eq_single h]
  · rw [eq_word, if_pos rfl]; rfl
  · intro x _ hx
    rw [eq_word, if_neg (fun e => hx (Fin.ext ?_))]
    · rfl
    · have := congrArg BitVec.toNat e
      rw [BitVec.toNat_ofNat, BitVec.toNat_ofNat, Nat.mod_eq_of_lt (by omega), Nat.mod_eq_of_lt (by omega)] at this
      exact this
  · intro hx; exact absurd (Finset.mem_univ _) hx

/-- What the kernel's columns hold of a head. -/
structure Holds (H : Head) (igr lfr : FVec Ideal S1x64 .f32) (lfc : FVec Ideal S64x1 .f32) (mp : FVec Ideal S1x1 .f32) : Prop where
  ig : ∀ s, igr (ix2 0 s) = H.ig s
  lf : ∀ s, lfr (ix2 0 s) = H.lf s
  lf' : ∀ s, lfc (ix2 s 0) = H.lf s
  mp : mp (ix2 0 0) = H.mp

section
variable {H : Head} {igr lfr : FVec Ideal S1x64 .f32} {lfc : FVec Ideal S64x1 .f32} {mp : FVec Ideal S1x1 .f32} (h : Holds H igr lfr lfc mp)
include h

/-- The exponents with which the frames read the carried state. -/
theorem Holds.outer (t : Fin 64) : outer (sums lfr) mp (ix2 t 0) = H.inter t := by
  rw [outer_at, sums_at lfr H h.lf, h.mp]; rfl

/-- The largest exponents. -/
theorem Holds.tops (t : Fin 64) : tops igr lfr lfc mp (ix2 t 0) = H.top t := by
  unfold MlstmProof.tops
  rw [peaks_at, h.outer]
  simp only [inner_at igr lfr lfc H h.ig h.lf h.lf']
  rfl

/-- The weights of the carried state. -/
theorem Holds.carries (t : Fin 64) : carries (MlstmProof.outer (sums lfr) mp) (MlstmProof.tops igr lfr lfc mp) (ix2 t 0) = H.carry t := by
  rw [carries_at, h.outer, h.tops]; rfl

/-- The weights of the frames. -/
theorem Holds.weights (q k : FVec Ideal S1x64x256 .bf16) (hq : ∀ t d, q (ix3 0 t d) = H.q t d) (hk : ∀ t d, k (ix3 0 t d) = H.k t d) (t s : Fin 64) :
    weights (inner igr lfr lfc) (MlstmProof.tops igr lfr lfc mp) q k (ix2 t s) = H.weight t s := by
  rw [weights_at, h.tops, inner_at igr lfr lfc H h.ig h.lf h.lf']
  simp only [hq, hk]
  rfl

/-- The head's result. -/
theorem Holds.out (hH : H.Finite) (q k v : FVec Ideal S1x64x256 .bf16) (C : FVec Ideal S1x1x256x256 .f32) (N : FVec Ideal S1x1x256 .f32) (nw : FVec Ideal S1x256 .f32)
    (sg : FVec Ideal S1x64x256 .bf16) (hq : ∀ t d, q (ix3 0 t d) = H.q t d) (hk : ∀ t d, k (ix3 0 t d) = H.k t d) (hv : ∀ t d, v (ix3 0 t d) = H.v t d)
    (hC : ∀ e d, C (ix4 0 0 e d) = H.C e d) (hN : ∀ d, N (ix3 0 0 d) = H.n d) (t : Fin 64) (e : Fin 256) :
    headOut igr lfr lfc mp q k v C N nw sg (ix3 0 t e) = sg (ix3 0 t e) * (normed (H.mixed t) e * nw (ix2 0 e)) := by
  unfold headOut
  refine out_at _ _ _ _ _ _ (H.mixed t) t (fun e => ?_) e
  rw [nums_at, reads_at, h.carries, h.tops]
  simp only [h.weights q k hq hk, hq, hv, hC, hN]
  exact Head.mul_inv_den hH t e

/-- The head's new matrix. -/
theorem Holds.C (igc : FVec Ideal S64x1 .f32) (hi : ∀ s, igc (ix2 s 0) = H.ig s) (k v : FVec Ideal S1x64x256 .bf16) (C : FVec Ideal S1x1x256x256 .f32)
    (hk : ∀ t d, k (ix3 0 t d) = H.k t d) (hv : ∀ t d, v (ix3 0 t d) = H.v t d) (hC : ∀ e d, C (ix4 0 0 e d) = H.C e d) (e d : Fin 256) :
    headC igc igr lfr lfc mp k v C (ix4 0 0 e d) = H.newC e d := by
  unfold headC
  rw [c_at, h.tops, h.mp]
  simp only [sums_at lfr H h.lf, hi, hk, hv, hC]
  rfl

/-- The head's new normaliser. -/
theorem Holds.N (igc : FVec Ideal S64x1 .f32) (hi : ∀ s, igc (ix2 s 0) = H.ig s) (k : FVec Ideal S1x64x256 .bf16) (N : FVec Ideal S1x1x256 .f32)
    (hk : ∀ t d, k (ix3 0 t d) = H.k t d) (hN : ∀ d, N (ix3 0 0 d) = H.n d) (d : Fin 256) :
    headN igc igr lfr lfc mp k N (ix3 0 0 d) = H.newN d := by
  unfold headN
  rw [n_at, h.tops, h.mp]
  simp only [sums_at lfr H h.lf, hi, hk, hN]
  rfl

end

end Cert.MlstmProof

end
-- ==== Proof.MlstmRows.lean ====
/- What each store of the mLSTM kernel writes, as one head's arithmetic over the columns of its inputs. -/
module

public import proofs.«01_k».proof.Proof.MlstmKernel

@[expose] public section

set_option maxRecDepth 16384

noncomputable section

namespace Cert.MlstmProof

open Idealize.ShloMosaic Idealize.ShloMosaic.TcCoe Idealize.SL.Sem
open Cert.MlstmIdeal Cert.MlstmIdeal.Gen

/-- The input gates of head 0, as a row. -/
def igRow0 (G : FVec Ideal S1x64x128 .f32) : FVec Ideal S1x64 .f32 := extractStridedSlice S1x64 ![0, 0] (k0_pay5 G) slices_S128x128_o0_0_S1x64

/-- The forget gates' logarithms of head 0, as a row. -/
def lfRow0 (G : FVec Ideal S1x64x128 .f32) : FVec Ideal S1x64 .f32 := extractStridedSlice S1x64 ![4, 0] (k0_pay5 G) slices_S128x128_o4_0_S1x64

/-- The input gates of head 0, as a column. -/
def igCol0 (G : FVec Ideal S1x64x128 .f32) : FVec Ideal S64x1 .f32 := extractStridedSlice S64x1 ![0, 0] (k0_pay4 G) slices_S64x128_o0_0_S64x1

/-- The forget gates' logarithms of head 0, as a column. -/
def lfCol0 (G : FVec Ideal S1x64x128 .f32) : FVec Ideal S64x1 .f32 := extractStridedSlice S64x1 ![0, 4] (k0_pay4 G) slices_S64x128_o0_4_S64x1

/-- The columns of head 0 hold its gates and its carried exponent. -/
theorem held0 (H : Head) (G : FVec Ideal S1x64x128 .f32) (M : FVec Ideal S1x1x128 .f32) (hi : ∀ t, G (ix3 0 t 0) = H.ig t) (hl : ∀ t, G (ix3 0 t 4) = H.lf t) (hm : M (ix3 0 0 0) = H.mp) :
    Holds H (igRow0 G) (lfRow0 G) (lfCol0 G) (lane 0#32 M) where
  ig s := by
    refine Eq.trans ?_ (hi s)
    pointwise [igRow0, k0_pay5, k0_pay4]
  lf s := by
    refine Eq.trans ?_ (hl s)
    pointwise [lfRow0, k0_pay5, k0_pay4]
  lf' s := by
    refine Eq.trans ?_ (hl s)
    pointwise [lfCol0, k0_pay4]
  mp := (lane_at 0 M).trans hm

/-- The input gates of head 0, down the column. -/
theorem igCol0_at (H : Head) (G : FVec Ideal S1x64x128 .f32) (hi : ∀ t, G (ix3 0 t 0) = H.ig t) (s : Fin 64) : igCol0 G (ix2 s 0) = H.ig s := by
  refine Eq.trans ?_ (hi s)
  pointwise [igCol0, k0_pay4]

/-- The input gates of head 1, as a row. -/
def igRow1 (G : FVec Ideal S1x64x128 .f32) : FVec Ideal S1x64 .f32 := extractStridedSlice S1x64 ![1, 0] (k0_pay5 G) slices_S128x128_o1_0_S1x64

/-- The forget gates' logarithms of head 1, as a row. -/
def lfRow1 (G : FVec Ideal S1x64x128 .f32) : FVec Ideal S1x64 .f32 := extractStridedSlice S1x64 ![5, 0] (k0_pay5 G) slices_S128x128_o5_0_S1x64

/-- The input gates of head 1, as a column. -/
def igCol1 (G : FVec Ideal S1x64x128 .f32) : FVec Ideal S64x1 .f32 := extractStridedSlice S64x1 ![0, 1] (k0_pay4 G) slices_S64x128_o0_1_S64x1

/-- The forget gates' logarithms of head 1, as a column. -/
def lfCol1 (G : FVec Ideal S1x64x128 .f32) : FVec Ideal S64x1 .f32 := extractStridedSlice S64x1 ![0, 5] (k0_pay4 G) slices_S64x128_o0_5_S64x1

/-- The columns of head 1 hold its gates and its carried exponent. -/
theorem held1 (H : Head) (G : FVec Ideal S1x64x128 .f32) (M : FVec Ideal S1x1x128 .f32) (hi : ∀ t, G (ix3 0 t 1) = H.ig t) (hl : ∀ t, G (ix3 0 t 5) = H.lf t) (hm : M (ix3 0 0 1) = H.mp) :
    Holds H (igRow1 G) (lfRow1 G) (lfCol1 G) (lane 1#32 M) where
  ig s := by
    refine Eq.trans ?_ (hi s)
    pointwise [igRow1, k0_pay5, k0_pay4]
  lf s := by
    refine Eq.trans ?_ (hl s)
    pointwise [lfRow1, k0_pay5, k0_pay4]
  lf' s := by
    refine Eq.trans ?_ (hl s)
    pointwise [lfCol1, k0_pay4]
  mp := (lane_at 1 M).trans hm

/-- The input gates of head 1, down the column. -/
theorem igCol1_at (H : Head) (G : FVec Ideal S1x64x128 .f32) (hi : ∀ t, G (ix3 0 t 1) = H.ig t) (s : Fin 64) : igCol1 G (ix2 s 0) = H.ig s := by
  refine Eq.trans ?_ (hi s)
  pointwise [igCol1, k0_pay4]

/-- The input gates of head 2, as a row. -/
def igRow2 (G : FVec Ideal S1x64x128 .f32) : FVec Ideal S1x64 .f32 := extractStridedSlice S1x64 ![2, 0] (k0_pay5 G) slices_S128x128_o2_0_S1x64

/-- The forget gates' logarithms of head 2, as a row. -/
def lfRow2 (G : FVec Ideal S1x64x128 .f32) : FVec Ideal S1x64 .f32 := extractStridedSlice S1x64 ![6, 0] (k0_pay5 G) slices_S128x128_o6_0_S1x64

/-- The input gates of head 2, as a column. -/
def igCol2 (G : FVec Ideal S1x64x128 .f32) : FVec Ideal S64x1 .f32 := extractStridedSlice S64x1 ![0, 2] (k0_pay4 G) slices_S64x128_o0_2_S64x1

/-- The forget gates' logarithms of head 2, as a column. -/
def lfCol2 (G : FVec Ideal S1x64x128 .f32) : FVec Ideal S64x1 .f32 := extractStridedSlice S64x1 ![0, 6] (k0_pay4 G) slices_S64x128_o0_6_S64x1

/-- The columns of head 2 hold its gates and its carried exponent. -/
theorem held2 (H : Head) (G : FVec Ideal S1x64x128 .f32) (M : FVec Ideal S1x1x128 .f32) (hi : ∀ t, G (ix3 0 t 2) = H.ig t) (hl : ∀ t, G (ix3 0 t 6) = H.lf t) (hm : M (ix3 0 0 2) = H.mp) :
    Holds H (igRow2 G) (lfRow2 G) (lfCol2 G) (lane 2#32 M) where
  ig s := by
    refine Eq.trans ?_ (hi s)
    pointwise [igRow2, k0_pay5, k0_pay4]
  lf s := by
    refine Eq.trans ?_ (hl s)
    pointwise [lfRow2, k0_pay5, k0_pay4]
  lf' s := by
    refine Eq.trans ?_ (hl s)
    pointwise [lfCol2, k0_pay4]
  mp := (lane_at 2 M).trans hm

/-- The input gates of head 2, down the column. -/
theorem igCol2_at (H : Head) (G : FVec Ideal S1x64x128 .f32) (hi : ∀ t, G (ix3 0 t 2) = H.ig t) (s : Fin 64) : igCol2 G (ix2 s 0) = H.ig s := by
  refine Eq.trans ?_ (hi s)
  pointwise [igCol2, k0_pay4]

/-- The input gates of head 3, as a row. -/
def igRow3 (G : FVec Ideal S1x64x128 .f32) : FVec Ideal S1x64 .f32 := extractStridedSlice S1x64 ![3, 0] (k0_pay5 G) slices_S128x128_o3_0_S1x64

/-- The forget gates' logarithms of head 3, as a row. -/
def lfRow3 (G : FVec Ideal S1x64x128 .f32) : FVec Ideal S1x64 .f32 := extractStridedSlice S1x64 ![7, 0] (k0_pay5 G) slices_S128x128_o7_0_S1x64

/-- The input gates of head 3, as a column. -/
def igCol3 (G : FVec Ideal S1x64x128 .f32) : FVec Ideal S64x1 .f32 := extractStridedSlice S64x1 ![0, 3] (k0_pay4 G) slices_S64x128_o0_3_S64x1

/-- The forget gates' logarithms of head 3, as a column. -/
def lfCol3 (G : FVec Ideal S1x64x128 .f32) : FVec Ideal S64x1 .f32 := extractStridedSlice S64x1 ![0, 7] (k0_pay4 G) slices_S64x128_o0_7_S64x1

/-- The columns of head 3 hold its gates and its carried exponent. -/
theorem held3 (H : Head) (G : FVec Ideal S1x64x128 .f32) (M : FVec Ideal S1x1x128 .f32) (hi : ∀ t, G (ix3 0 t 3) = H.ig t) (hl : ∀ t, G (ix3 0 t 7) = H.lf t) (hm : M (ix3 0 0 3) = H.mp) :
    Holds H (igRow3 G) (lfRow3 G) (lfCol3 G) (lane 3#32 M) where
  ig s := by
    refine Eq.trans ?_ (hi s)
    pointwise [igRow3, k0_pay5, k0_pay4]
  lf s := by
    refine Eq.trans ?_ (hl s)
    pointwise [lfRow3, k0_pay5, k0_pay4]
  lf' s := by
    refine Eq.trans ?_ (hl s)
    pointwise [lfCol3, k0_pay4]
  mp := (lane_at 3 M).trans hm

/-- The input gates of head 3, down the column. -/
theorem igCol3_at (H : Head) (G : FVec Ideal S1x64x128 .f32) (hi : ∀ t, G (ix3 0 t 3) = H.ig t) (s : Fin 64) : igCol3 G (ix2 s 0) = H.ig s := by
  refine Eq.trans ?_ (hi s)
  pointwise [igCol3, k0_pay4]

/-- What the store of head 3 of row 1 writes of the results. -/
theorem out13 (Q : FVec Ideal S1x64x256 .bf16) (K : FVec Ideal S1x64x256 .bf16) (V : FVec Ideal S1x64x256 .bf16) (C : FVec Ideal S1x1x256x256 .f32) (N : FVec Ideal S1x1x256 .f32) (G : FVec Ideal S1x64x128 .f32) (M : FVec Ideal S1x1x128 .f32) (W : FVec Ideal S1x256 .f32) (Y : FVec Ideal S1x64x256 .bf16) :
    k0_pay209 (k0_pay206 k0_pay108 (k0_pay190 Q) (k0_pay191 K) (k0_pay192 V) (k0_pay194 (k0_pay107 G)) (k0_pay195 (k0_pay107 G) k0_pay108) (k0_pay196 (k0_pay106 G) (iota Kind.tc S64x64 32 [0] iota_S64x64_d0_w32) (iota Kind.tc S64x64 32 [1] iota_S64x64_d1_w32)) (k0_pay197 (iota Kind.tc S1x128 32 [1] iota_S1x128_d1_w32) (k0_pay109 M)) C) (k0_pay207 k0_pay108 (k0_pay190 Q) (k0_pay191 K) (k0_pay194 (k0_pay107 G)) (k0_pay195 (k0_pay107 G) k0_pay108) (k0_pay196 (k0_pay106 G) (iota Kind.tc S64x64 32 [0] iota_S64x64_d0_w32) (iota Kind.tc S64x64 32 [1] iota_S64x64_d1_w32)) (k0_pay197 (iota Kind.tc S1x128 32 [1] iota_S1x128_d1_w32) (k0_pay109 M)) N) (k0_pay208 k0_pay108 (k0_pay194 (k0_pay107 G)) (k0_pay195 (k0_pay107 G) k0_pay108) (k0_pay196 (k0_pay106 G) (iota Kind.tc S64x64 32 [0] iota_S64x64_d0_w32) (iota Kind.tc S64x64 32 [1] iota_S64x64_d1_w32)) (k0_pay197 (iota Kind.tc S1x128 32 [1] iota_S1x128_d1_w32) (k0_pay109 M))) W Y
      = headOut (igRow3 G) (lfRow3 G) (lfCol3 G) (lane 3#32 M) Q K V C N W Y := rfl

/-- What the store of head 2 of row 1 writes of the results. -/
theorem out12 (Q : FVec Ideal S1x64x256 .bf16) (K : FVec Ideal S1x64x256 .bf16) (V : FVec Ideal S1x64x256 .bf16) (C : FVec Ideal S1x1x256x256 .f32) (N : FVec Ideal S1x1x256 .f32) (G : FVec Ideal S1x64x128 .f32) (M : FVec Ideal S1x1x128 .f32) (W : FVec Ideal S1x256 .f32) (Y : FVec Ideal S1x64x256 .bf16) :
    k0_pay179 (k0_pay176 (k0_pay163 Q) (k0_pay164 K) (k0_pay165 V) (k0_pay171 (k0_pay106 G) (k0_pay107 G) (iota Kind.tc S64x64 32 [0] iota_S64x64_d0_w32) (iota Kind.tc S64x64 32 [1] iota_S64x64_d1_w32) k0_pay108 (iota Kind.tc S1x128 32 [1] iota_S1x128_d1_w32) (k0_pay109 M)) (k0_pay172 (k0_pay106 G) (k0_pay107 G) (iota Kind.tc S64x64 32 [0] iota_S64x64_d0_w32) (iota Kind.tc S64x64 32 [1] iota_S64x64_d1_w32) k0_pay108 (iota Kind.tc S1x128 32 [1] iota_S1x128_d1_w32) (k0_pay109 M)) (k0_pay173 (k0_pay106 G) (k0_pay107 G) (iota Kind.tc S64x64 32 [0] iota_S64x64_d0_w32) (iota Kind.tc S64x64 32 [1] iota_S64x64_d1_w32) k0_pay108 (iota Kind.tc S1x128 32 [1] iota_S1x128_d1_w32) (k0_pay109 M)) C N) (k0_pay177 (k0_pay163 Q) (k0_pay164 K) (k0_pay165 V) (k0_pay171 (k0_pay106 G) (k0_pay107 G) (iota Kind.tc S64x64 32 [0] iota_S64x64_d0_w32) (iota Kind.tc S64x64 32 [1] iota_S64x64_d1_w32) k0_pay108 (iota Kind.tc S1x128 32 [1] iota_S1x128_d1_w32) (k0_pay109 M)) (k0_pay172 (k0_pay106 G) (k0_pay107 G) (iota Kind.tc S64x64 32 [0] iota_S64x64_d0_w32) (iota Kind.tc S64x64 32 [1] iota_S64x64_d1_w32) k0_pay108 (iota Kind.tc S1x128 32 [1] iota_S1x128_d1_w32) (k0_pay109 M)) (k0_pay173 (k0_pay106 G) (k0_pay107 G) (iota Kind.tc S64x64 32 [0] iota_S64x64_d0_w32) (iota Kind.tc S64x64 32 [1] iota_S64x64_d1_w32) k0_pay108 (iota Kind.tc S1x128 32 [1] iota_S1x128_d1_w32) (k0_pay109 M)) C N) k0_pay178 W Y
      = headOut (igRow2 G) (lfRow2 G) (lfCol2 G) (lane 2#32 M) Q K V C N W Y := rfl

/-- What the store of head 1 of row 1 writes of the results. -/
theorem out11 (Q : FVec Ideal S1x64x256 .bf16) (K : FVec Ideal S1x64x256 .bf16) (V : FVec Ideal S1x64x256 .bf16) (C : FVec Ideal S1x1x256x256 .f32) (N : FVec Ideal S1x1x256 .f32) (G : FVec Ideal S1x64x128 .f32) (M : FVec Ideal S1x1x128 .f32) (W : FVec Ideal S1x256 .f32) (Y : FVec Ideal S1x64x256 .bf16) :
    k0_pay155 (k0_pay154 (k0_pay138 V) (k0_pay147 (iota Kind.tc S64x64 32 [0] iota_S64x64_d0_w32) (iota Kind.tc S64x64 32 [1] iota_S64x64_d1_w32) k0_pay108 (iota Kind.tc S1x128 32 [1] iota_S1x128_d1_w32) (k0_pay109 M) (k0_pay140 (k0_pay106 G)) (k0_pay141 (k0_pay107 G)) (k0_pay142 (k0_pay107 G) k0_pay108)) (k0_pay148 (iota Kind.tc S64x64 32 [0] iota_S64x64_d0_w32) (iota Kind.tc S64x64 32 [1] iota_S64x64_d1_w32) k0_pay108 (iota Kind.tc S1x128 32 [1] iota_S1x128_d1_w32) (k0_pay109 M) (k0_pay140 (k0_pay106 G)) (k0_pay141 (k0_pay107 G)) (k0_pay142 (k0_pay107 G) k0_pay108)) (k0_pay149 (iota Kind.tc S64x64 32 [0] iota_S64x64_d0_w32) (iota Kind.tc S64x64 32 [1] iota_S64x64_d1_w32) k0_pay108 (iota Kind.tc S1x128 32 [1] iota_S1x128_d1_w32) (k0_pay109 M) (k0_pay136 Q) (k0_pay137 K) (k0_pay140 (k0_pay106 G)) (k0_pay141 (k0_pay107 G)) (k0_pay142 (k0_pay107 G) k0_pay108)) (k0_pay151 N) (k0_pay152 (k0_pay136 Q)) (k0_pay153 (iota Kind.tc S64x64 32 [0] iota_S64x64_d0_w32) (iota Kind.tc S64x64 32 [1] iota_S64x64_d1_w32) k0_pay108 (iota Kind.tc S1x128 32 [1] iota_S1x128_d1_w32) (k0_pay109 M) (k0_pay136 Q) (k0_pay140 (k0_pay106 G)) (k0_pay141 (k0_pay107 G)) (k0_pay142 (k0_pay107 G) k0_pay108) C) W Y)
      = headOut (igRow1 G) (lfRow1 G) (lfCol1 G) (lane 1#32 M) Q K V C N W Y := rfl

/-- What the store of head 0 of row 1 writes of the results. -/
theorem out10 (Q : FVec Ideal S1x64x256 .bf16) (K : FVec Ideal S1x64x256 .bf16) (V : FVec Ideal S1x64x256 .bf16) (C : FVec Ideal S1x1x256x256 .f32) (N : FVec Ideal S1x1x256 .f32) (G : FVec Ideal S1x64x128 .f32) (M : FVec Ideal S1x1x128 .f32) (W : FVec Ideal S1x256 .f32) (Y : FVec Ideal S1x64x256 .bf16) :
    k0_pay127 (k0_pay125 k0_pay108 (k0_pay110 Q) (k0_pay111 K) (k0_pay112 V) (k0_pay114 G) (k0_pay115 G) (k0_pay116 G) (k0_pay117 M) C) (k0_pay126 k0_pay108 (k0_pay110 Q) (k0_pay111 K) (k0_pay114 G) (k0_pay115 G) (k0_pay116 G) (k0_pay117 M) N) (FloatOps.ofBits FTy.f32 1065353216#32) W Y
      = headOut (igRow0 G) (lfRow0 G) (lfCol0 G) (lane 0#32 M) Q K V C N W Y := rfl

/-- What the store of head 3 of row 0 writes of the results. -/
theorem out03 (Q : FVec Ideal S1x64x256 .bf16) (K : FVec Ideal S1x64x256 .bf16) (V : FVec Ideal S1x64x256 .bf16) (C : FVec Ideal S1x1x256x256 .f32) (N : FVec Ideal S1x1x256 .f32) (G : FVec Ideal S1x64x128 .f32) (M : FVec Ideal S1x1x128 .f32) (W : FVec Ideal S1x256 .f32) (Y : FVec Ideal S1x64x256 .bf16) :
    k0_pay98 (k0_pay91 k0_pay6 (iota Kind.tc S1x128 32 [1] iota_S1x128_d1_w32) (k0_pay7 M) (k0_pay84 (k0_pay5 G)) (k0_pay85 (k0_pay5 G) k0_pay6) (k0_pay86 (iota Kind.tc S64x64 32 [0] iota_S64x64_d0_w32) (iota Kind.tc S64x64 32 [1] iota_S64x64_d1_w32)) (FloatOps.ofBits (F := Ideal) FTy.f32 0#32) (k0_pay87 (k0_pay4 G))) (k0_pay92 k0_pay6 (iota Kind.tc S1x128 32 [1] iota_S1x128_d1_w32) (k0_pay7 M) (k0_pay84 (k0_pay5 G)) (k0_pay85 (k0_pay5 G) k0_pay6) (k0_pay86 (iota Kind.tc S64x64 32 [0] iota_S64x64_d0_w32) (iota Kind.tc S64x64 32 [1] iota_S64x64_d1_w32)) (FloatOps.ofBits (F := Ideal) FTy.f32 0#32) (k0_pay87 (k0_pay4 G))) (k0_pay93 k0_pay6 (iota Kind.tc S1x128 32 [1] iota_S1x128_d1_w32) (k0_pay7 M) (k0_pay80 Q) (k0_pay81 K) (k0_pay84 (k0_pay5 G)) (k0_pay85 (k0_pay5 G) k0_pay6) (k0_pay86 (iota Kind.tc S64x64 32 [0] iota_S64x64_d0_w32) (iota Kind.tc S64x64 32 [1] iota_S64x64_d1_w32)) (FloatOps.ofBits (F := Ideal) FTy.f32 0#32) (k0_pay87 (k0_pay4 G))) (k0_pay96 k0_pay6 (iota Kind.tc S1x128 32 [1] iota_S1x128_d1_w32) (k0_pay7 M) (k0_pay80 Q) (k0_pay81 K) (k0_pay82 V) (k0_pay84 (k0_pay5 G)) (k0_pay85 (k0_pay5 G) k0_pay6) (k0_pay86 (iota Kind.tc S64x64 32 [0] iota_S64x64_d0_w32) (iota Kind.tc S64x64 32 [1] iota_S64x64_d1_w32)) (FloatOps.ofBits (F := Ideal) FTy.f32 0#32) (k0_pay87 (k0_pay4 G)) C) (k0_pay97 (k0_pay80 Q) N) W Y
      = headOut (igRow3 G) (lfRow3 G) (lfCol3 G) (lane 3#32 M) Q K V C N W Y := rfl

/-- What the store of head 2 of row 0 writes of the results. -/
theorem out02 (Q : FVec Ideal S1x64x256 .bf16) (K : FVec Ideal S1x64x256 .bf16) (V : FVec Ideal S1x64x256 .bf16) (C : FVec Ideal S1x1x256x256 .f32) (N : FVec Ideal S1x1x256 .f32) (G : FVec Ideal S1x64x128 .f32) (M : FVec Ideal S1x1x128 .f32) (W : FVec Ideal S1x256 .f32) (Y : FVec Ideal S1x64x256 .bf16) :
    k0_pay71 (k0_pay69 k0_pay6 (k0_pay57 Q) (k0_pay58 K) (k0_pay59 V) (k0_pay63 (k0_pay5 G) k0_pay6 (iota Kind.tc S1x128 32 [1] iota_S1x128_d1_w32) (k0_pay7 M)) (k0_pay64 (k0_pay4 G) (k0_pay5 G) (iota Kind.tc S64x64 32 [0] iota_S64x64_d0_w32) (iota Kind.tc S64x64 32 [1] iota_S64x64_d1_w32) k0_pay6) C N) (k0_pay70 k0_pay6 (k0_pay57 Q) (k0_pay58 K) (k0_pay59 V) (k0_pay63 (k0_pay5 G) k0_pay6 (iota Kind.tc S1x128 32 [1] iota_S1x128_d1_w32) (k0_pay7 M)) (k0_pay64 (k0_pay4 G) (k0_pay5 G) (iota Kind.tc S64x64 32 [0] iota_S64x64_d0_w32) (iota Kind.tc S64x64 32 [1] iota_S64x64_d1_w32) k0_pay6) C N) W Y
      = headOut (igRow2 G) (lfRow2 G) (lfCol2 G) (lane 2#32 M) Q K V C N W Y := rfl

/-- What the store of head 1 of row 0 writes of the results. -/
theorem out01 (Q : FVec Ideal S1x64x256 .bf16) (K : FVec Ideal S1x64x256 .bf16) (V : FVec Ideal S1x64x256 .bf16) (C : FVec Ideal S1x1x256x256 .f32) (N : FVec Ideal S1x1x256 .f32) (G : FVec Ideal S1x64x128 .f32) (M : FVec Ideal S1x1x128 .f32) (W : FVec Ideal S1x256 .f32) (Y : FVec Ideal S1x64x256 .bf16) :
    k0_pay48 (k0_pay47 (k0_pay34 Q) (k0_pay36 V) (k0_pay42 (k0_pay4 G) (k0_pay5 G) (iota Kind.tc S64x64 32 [0] iota_S64x64_d0_w32) (iota Kind.tc S64x64 32 [1] iota_S64x64_d1_w32) k0_pay6 (iota Kind.tc S1x128 32 [1] iota_S1x128_d1_w32) (k0_pay7 M)) (k0_pay43 (k0_pay4 G) (k0_pay5 G) (iota Kind.tc S64x64 32 [0] iota_S64x64_d0_w32) (iota Kind.tc S64x64 32 [1] iota_S64x64_d1_w32) k0_pay6 (iota Kind.tc S1x128 32 [1] iota_S1x128_d1_w32) (k0_pay7 M)) (k0_pay44 (k0_pay4 G) (k0_pay5 G) (iota Kind.tc S64x64 32 [0] iota_S64x64_d0_w32) (iota Kind.tc S64x64 32 [1] iota_S64x64_d1_w32) k0_pay6 (iota Kind.tc S1x128 32 [1] iota_S1x128_d1_w32) (k0_pay7 M) (k0_pay34 Q) (k0_pay35 K)) (k0_pay45 C) N) W Y
      = headOut (igRow1 G) (lfRow1 G) (lfCol1 G) (lane 1#32 M) Q K V C N W Y := rfl

/-- What the store of head 0 of row 0 writes of the results. -/
theorem out00 (Q : FVec Ideal S1x64x256 .bf16) (K : FVec Ideal S1x64x256 .bf16) (V : FVec Ideal S1x64x256 .bf16) (C : FVec Ideal S1x1x256x256 .f32) (N : FVec Ideal S1x1x256 .f32) (G : FVec Ideal S1x64x128 .f32) (M : FVec Ideal S1x1x128 .f32) (W : FVec Ideal S1x256 .f32) (Y : FVec Ideal S1x64x256 .bf16) :
    k0_pay25 (k0_pay18 k0_pay6 (iota Kind.tc S1x128 32 [1] iota_S1x128_d1_w32) (k0_pay7 M) (k0_pay12 G) (k0_pay13 G) (k0_pay14 G)) (k0_pay20 k0_pay6 (iota Kind.tc S1x128 32 [1] iota_S1x128_d1_w32) (k0_pay7 M) (k0_pay8 Q) (k0_pay9 K) (k0_pay12 G) (k0_pay13 G) (k0_pay14 G)) (k0_pay23 k0_pay6 (iota Kind.tc S1x128 32 [1] iota_S1x128_d1_w32) (k0_pay7 M) (k0_pay8 Q) (k0_pay9 K) (k0_pay10 V) (k0_pay12 G) (k0_pay13 G) (k0_pay14 G) C) (k0_pay24 k0_pay6 (iota Kind.tc S1x128 32 [1] iota_S1x128_d1_w32) (k0_pay7 M) (k0_pay8 Q) (k0_pay12 G) (k0_pay13 G) (k0_pay14 G) N) W Y
      = headOut (igRow0 G) (lfRow0 G) (lfCol0 G) (lane 0#32 M) Q K V C N W Y := rfl

/-- What the store of head 3 of row 1 writes of the matrices. -/
theorem mat13 (K : FVec Ideal S1x64x256 .bf16) (V : FVec Ideal S1x64x256 .bf16) (C : FVec Ideal S1x1x256x256 .f32) (G : FVec Ideal S1x64x128 .f32) (M : FVec Ideal S1x1x128 .f32) :
    k0_pay214 (k0_pay191 K) (k0_pay192 V) (k0_pay204 C) (k0_pay212 (k0_pay195 (k0_pay107 G) k0_pay108) (k0_pay198 (k0_pay197 (iota Kind.tc S1x128 32 [1] iota_S1x128_d1_w32) (k0_pay109 M))) (k0_pay201 k0_pay108 (k0_pay194 (k0_pay107 G)) (k0_pay195 (k0_pay107 G) k0_pay108) (k0_pay196 (k0_pay106 G) (iota Kind.tc S64x64 32 [0] iota_S64x64_d0_w32) (iota Kind.tc S64x64 32 [1] iota_S64x64_d1_w32)) (k0_pay197 (iota Kind.tc S1x128 32 [1] iota_S1x128_d1_w32) (k0_pay109 M)))) (k0_pay213 (k0_pay193 (k0_pay106 G)) (k0_pay195 (k0_pay107 G) k0_pay108) (k0_pay201 k0_pay108 (k0_pay194 (k0_pay107 G)) (k0_pay195 (k0_pay107 G) k0_pay108) (k0_pay196 (k0_pay106 G) (iota Kind.tc S64x64 32 [0] iota_S64x64_d0_w32) (iota Kind.tc S64x64 32 [1] iota_S64x64_d1_w32)) (k0_pay197 (iota Kind.tc S1x128 32 [1] iota_S1x128_d1_w32) (k0_pay109 M))))
      = headC (igCol3 G) (igRow3 G) (lfRow3 G) (lfCol3 G) (lane 3#32 M) K V C := rfl

/-- What the store of head 2 of row 1 writes of the matrices. -/
theorem mat12 (K : FVec Ideal S1x64x256 .bf16) (V : FVec Ideal S1x64x256 .bf16) (C : FVec Ideal S1x1x256x256 .f32) (G : FVec Ideal S1x64x128 .f32) (M : FVec Ideal S1x1x128 .f32) :
    k0_pay184 (k0_pay164 K) (k0_pay165 V) (k0_pay166 (k0_pay106 G)) (k0_pay167 (k0_pay107 G) k0_pay108) (k0_pay168 (iota Kind.tc S1x128 32 [1] iota_S1x128_d1_w32) (k0_pay109 M)) (k0_pay171 (k0_pay106 G) (k0_pay107 G) (iota Kind.tc S64x64 32 [0] iota_S64x64_d0_w32) (iota Kind.tc S64x64 32 [1] iota_S64x64_d1_w32) k0_pay108 (iota Kind.tc S1x128 32 [1] iota_S1x128_d1_w32) (k0_pay109 M)) (k0_pay174 C)
      = headC (igCol2 G) (igRow2 G) (lfRow2 G) (lfCol2 G) (lane 2#32 M) K V C := rfl

/-- What the store of head 1 of row 1 writes of the matrices. -/
theorem mat11 (K : FVec Ideal S1x64x256 .bf16) (V : FVec Ideal S1x64x256 .bf16) (C : FVec Ideal S1x1x256x256 .f32) (G : FVec Ideal S1x64x128 .f32) (M : FVec Ideal S1x1x128 .f32) :
    k0_pay160 (k0_pay137 K) (k0_pay138 V) (k0_pay139 (k0_pay106 G)) (k0_pay143 (k0_pay142 (k0_pay107 G) k0_pay108)) (k0_pay144 (iota Kind.tc S1x128 32 [1] iota_S1x128_d1_w32) (k0_pay109 M)) (k0_pay147 (iota Kind.tc S64x64 32 [0] iota_S64x64_d0_w32) (iota Kind.tc S64x64 32 [1] iota_S64x64_d1_w32) k0_pay108 (iota Kind.tc S1x128 32 [1] iota_S1x128_d1_w32) (k0_pay109 M) (k0_pay140 (k0_pay106 G)) (k0_pay141 (k0_pay107 G)) (k0_pay142 (k0_pay107 G) k0_pay108)) (k0_pay150 C)
      = headC (igCol1 G) (igRow1 G) (lfRow1 G) (lfCol1 G) (lane 1#32 M) K V C := rfl

/-- What the store of head 0 of row 1 writes of the matrices. -/
theorem mat10 (K : FVec Ideal S1x64x256 .bf16) (V : FVec Ideal S1x64x256 .bf16) (C : FVec Ideal S1x1x256x256 .f32) (G : FVec Ideal S1x64x128 .f32) (M : FVec Ideal S1x1x128 .f32) :
    k0_pay133 (k0_pay111 K) (k0_pay123 C) (k0_pay130 (k0_pay115 G) (k0_pay117 M) (k0_pay120 k0_pay108 (k0_pay114 G) (k0_pay115 G) (k0_pay116 G) (k0_pay117 M))) (k0_pay132 (k0_pay112 V) (k0_pay113 G) (k0_pay115 G) (k0_pay120 k0_pay108 (k0_pay114 G) (k0_pay115 G) (k0_pay116 G) (k0_pay117 M)))
      = headC (igCol0 G) (igRow0 G) (lfRow0 G) (lfCol0 G) (lane 0#32 M) K V C := rfl

/-- What the store of head 3 of row 0 writes of the matrices. -/
theorem mat03 (K : FVec Ideal S1x64x256 .bf16) (V : FVec Ideal S1x64x256 .bf16) (C : FVec Ideal S1x1x256x256 .f32) (G : FVec Ideal S1x64x128 .f32) (M : FVec Ideal S1x1x128 .f32) :
    k0_pay103 (k0_pay81 K) (k0_pay82 V) (k0_pay83 (k0_pay4 G)) (k0_pay85 (k0_pay5 G) k0_pay6) (k0_pay88 (iota Kind.tc S1x128 32 [1] iota_S1x128_d1_w32) (k0_pay7 M)) (k0_pay91 k0_pay6 (iota Kind.tc S1x128 32 [1] iota_S1x128_d1_w32) (k0_pay7 M) (k0_pay84 (k0_pay5 G)) (k0_pay85 (k0_pay5 G) k0_pay6) (k0_pay86 (iota Kind.tc S64x64 32 [0] iota_S64x64_d0_w32) (iota Kind.tc S64x64 32 [1] iota_S64x64_d1_w32)) (FloatOps.ofBits (F := Ideal) FTy.f32 0#32) (k0_pay87 (k0_pay4 G))) (k0_pay94 C)
      = headC (igCol3 G) (igRow3 G) (lfRow3 G) (lfCol3 G) (lane 3#32 M) K V C := rfl

/-- What the store of head 2 of row 0 writes of the matrices. -/
theorem mat02 (K : FVec Ideal S1x64x256 .bf16) (V : FVec Ideal S1x64x256 .bf16) (C : FVec Ideal S1x1x256x256 .f32) (G : FVec Ideal S1x64x128 .f32) (M : FVec Ideal S1x1x128 .f32) :
    k0_pay77 (k0_pay76 (k0_pay58 K) (k0_pay59 V) (k0_pay60 (k0_pay4 G)) (k0_pay61 (k0_pay5 G) k0_pay6) (k0_pay62 (iota Kind.tc S1x128 32 [1] iota_S1x128_d1_w32) (k0_pay7 M)) (k0_pay66 k0_pay6 (k0_pay63 (k0_pay5 G) k0_pay6 (iota Kind.tc S1x128 32 [1] iota_S1x128_d1_w32) (k0_pay7 M)) (k0_pay64 (k0_pay4 G) (k0_pay5 G) (iota Kind.tc S64x64 32 [0] iota_S64x64_d0_w32) (iota Kind.tc S64x64 32 [1] iota_S64x64_d1_w32) k0_pay6)) (k0_pay67 C))
      = headC (igCol2 G) (igRow2 G) (lfRow2 G) (lfCol2 G) (lane 2#32 M) K V C := rfl

/-- What the store of head 1 of row 0 writes of the matrices. -/
theorem mat01 (K : FVec Ideal S1x64x256 .bf16) (V : FVec Ideal S1x64x256 .bf16) (C : FVec Ideal S1x1x256x256 .f32) (G : FVec Ideal S1x64x128 .f32) (M : FVec Ideal S1x1x128 .f32) :
    k0_pay53 (k0_pay35 K) (k0_pay36 V) (k0_pay37 (k0_pay4 G)) (k0_pay38 (k0_pay5 G) k0_pay6) (k0_pay39 (iota Kind.tc S1x128 32 [1] iota_S1x128_d1_w32) (k0_pay7 M)) (k0_pay42 (k0_pay4 G) (k0_pay5 G) (iota Kind.tc S64x64 32 [0] iota_S64x64_d0_w32) (iota Kind.tc S64x64 32 [1] iota_S64x64_d1_w32) k0_pay6 (iota Kind.tc S1x128 32 [1] iota_S1x128_d1_w32) (k0_pay7 M)) (k0_pay45 C)
      = headC (igCol1 G) (igRow1 G) (lfRow1 G) (lfCol1 G) (lane 1#32 M) K V C := rfl

/-- What the store of head 0 of row 0 writes of the matrices. -/
theorem mat00 (K : FVec Ideal S1x64x256 .bf16) (V : FVec Ideal S1x64x256 .bf16) (C : FVec Ideal S1x1x256x256 .f32) (G : FVec Ideal S1x64x128 .f32) (M : FVec Ideal S1x1x128 .f32) :
    k0_pay31 (k0_pay9 K) (k0_pay10 V) (k0_pay11 G) (k0_pay13 G) (k0_pay21 C) (k0_pay26 (k0_pay18 k0_pay6 (iota Kind.tc S1x128 32 [1] iota_S1x128_d1_w32) (k0_pay7 M) (k0_pay12 G) (k0_pay13 G) (k0_pay14 G))) (k0_pay27 (k0_pay13 G)) (k0_pay28 (k0_pay13 G) (k0_pay15 (iota Kind.tc S1x128 32 [1] iota_S1x128_d1_w32) (k0_pay7 M)))
      = headC (igCol0 G) (igRow0 G) (lfRow0 G) (lfCol0 G) (lane 0#32 M) K V C := rfl

/-- What the store of head 3 of row 1 writes of the normalisers. -/
theorem nor13 (K : FVec Ideal S1x64x256 .bf16) (N : FVec Ideal S1x1x256 .f32) (G : FVec Ideal S1x64x128 .f32) (M : FVec Ideal S1x1x128 .f32) :
    k0_pay215 (k0_pay191 K) (k0_pay205 N) (k0_pay212 (k0_pay195 (k0_pay107 G) k0_pay108) (k0_pay198 (k0_pay197 (iota Kind.tc S1x128 32 [1] iota_S1x128_d1_w32) (k0_pay109 M))) (k0_pay201 k0_pay108 (k0_pay194 (k0_pay107 G)) (k0_pay195 (k0_pay107 G) k0_pay108) (k0_pay196 (k0_pay106 G) (iota Kind.tc S64x64 32 [0] iota_S64x64_d0_w32) (iota Kind.tc S64x64 32 [1] iota_S64x64_d1_w32)) (k0_pay197 (iota Kind.tc S1x128 32 [1] iota_S1x128_d1_w32) (k0_pay109 M)))) (k0_pay213 (k0_pay193 (k0_pay106 G)) (k0_pay195 (k0_pay107 G) k0_pay108) (k0_pay201 k0_pay108 (k0_pay194 (k0_pay107 G)) (k0_pay195 (k0_pay107 G) k0_pay108) (k0_pay196 (k0_pay106 G) (iota Kind.tc S64x64 32 [0] iota_S64x64_d0_w32) (iota Kind.tc S64x64 32 [1] iota_S64x64_d1_w32)) (k0_pay197 (iota Kind.tc S1x128 32 [1] iota_S1x128_d1_w32) (k0_pay109 M))))
      = headN (igCol3 G) (igRow3 G) (lfRow3 G) (lfCol3 G) (lane 3#32 M) K N := rfl

/-- What the store of head 2 of row 1 writes of the normalisers. -/
theorem nor12 (K : FVec Ideal S1x64x256 .bf16) (N : FVec Ideal S1x1x256 .f32) (G : FVec Ideal S1x64x128 .f32) (M : FVec Ideal S1x1x128 .f32) :
    k0_pay188 (k0_pay185 (k0_pay167 (k0_pay107 G) k0_pay108) (k0_pay168 (iota Kind.tc S1x128 32 [1] iota_S1x128_d1_w32) (k0_pay109 M)) (k0_pay171 (k0_pay106 G) (k0_pay107 G) (iota Kind.tc S64x64 32 [0] iota_S64x64_d0_w32) (iota Kind.tc S64x64 32 [1] iota_S64x64_d1_w32) k0_pay108 (iota Kind.tc S1x128 32 [1] iota_S1x128_d1_w32) (k0_pay109 M)) (k0_pay175 N)) (k0_pay186 (k0_pay164 K)) (k0_pay187 (k0_pay166 (k0_pay106 G)) (k0_pay167 (k0_pay107 G) k0_pay108) (k0_pay171 (k0_pay106 G) (k0_pay107 G) (iota Kind.tc S64x64 32 [0] iota_S64x64_d0_w32) (iota Kind.tc S64x64 32 [1] iota_S64x64_d1_w32) k0_pay108 (iota Kind.tc S1x128 32 [1] iota_S1x128_d1_w32) (k0_pay109 M)))
      = headN (igCol2 G) (igRow2 G) (lfRow2 G) (lfCol2 G) (lane 2#32 M) K N := rfl

/-- What the store of head 1 of row 1 writes of the normalisers. -/
theorem nor11 (K : FVec Ideal S1x64x256 .bf16) (N : FVec Ideal S1x1x256 .f32) (G : FVec Ideal S1x64x128 .f32) (M : FVec Ideal S1x1x128 .f32) :
    k0_pay161 (k0_pay137 K) (k0_pay139 (k0_pay106 G)) (k0_pay143 (k0_pay142 (k0_pay107 G) k0_pay108)) (k0_pay144 (iota Kind.tc S1x128 32 [1] iota_S1x128_d1_w32) (k0_pay109 M)) (k0_pay147 (iota Kind.tc S64x64 32 [0] iota_S64x64_d0_w32) (iota Kind.tc S64x64 32 [1] iota_S64x64_d1_w32) k0_pay108 (iota Kind.tc S1x128 32 [1] iota_S1x128_d1_w32) (k0_pay109 M) (k0_pay140 (k0_pay106 G)) (k0_pay141 (k0_pay107 G)) (k0_pay142 (k0_pay107 G) k0_pay108)) (k0_pay151 N)
      = headN (igCol1 G) (igRow1 G) (lfRow1 G) (lfCol1 G) (lane 1#32 M) K N := rfl

/-- What the store of head 0 of row 1 writes of the normalisers. -/
theorem nor10 (K : FVec Ideal S1x64x256 .bf16) (N : FVec Ideal S1x1x256 .f32) (G : FVec Ideal S1x64x128 .f32) (M : FVec Ideal S1x1x128 .f32) :
    k0_pay134 (k0_pay111 K) (k0_pay124 N) (k0_pay130 (k0_pay115 G) (k0_pay117 M) (k0_pay120 k0_pay108 (k0_pay114 G) (k0_pay115 G) (k0_pay116 G) (k0_pay117 M))) (k0_pay131 (k0_pay113 G) (k0_pay115 G) (k0_pay120 k0_pay108 (k0_pay114 G) (k0_pay115 G) (k0_pay116 G) (k0_pay117 M)))
      = headN (igCol0 G) (igRow0 G) (lfRow0 G) (lfCol0 G) (lane 0#32 M) K N := rfl

/-- What the store of head 3 of row 0 writes of the normalisers. -/
theorem nor03 (K : FVec Ideal S1x64x256 .bf16) (N : FVec Ideal S1x1x256 .f32) (G : FVec Ideal S1x64x128 .f32) (M : FVec Ideal S1x1x128 .f32) :
    k0_pay104 (k0_pay81 K) (k0_pay83 (k0_pay4 G)) (k0_pay85 (k0_pay5 G) k0_pay6) (k0_pay88 (iota Kind.tc S1x128 32 [1] iota_S1x128_d1_w32) (k0_pay7 M)) (k0_pay91 k0_pay6 (iota Kind.tc S1x128 32 [1] iota_S1x128_d1_w32) (k0_pay7 M) (k0_pay84 (k0_pay5 G)) (k0_pay85 (k0_pay5 G) k0_pay6) (k0_pay86 (iota Kind.tc S64x64 32 [0] iota_S64x64_d0_w32) (iota Kind.tc S64x64 32 [1] iota_S64x64_d1_w32)) (FloatOps.ofBits (F := Ideal) FTy.f32 0#32) (k0_pay87 (k0_pay4 G))) (k0_pay95 N)
      = headN (igCol3 G) (igRow3 G) (lfRow3 G) (lfCol3 G) (lane 3#32 M) K N := rfl

/-- What the store of head 2 of row 0 writes of the normalisers. -/
theorem nor02 (K : FVec Ideal S1x64x256 .bf16) (N : FVec Ideal S1x1x256 .f32) (G : FVec Ideal S1x64x128 .f32) (M : FVec Ideal S1x1x128 .f32) :
    k0_pay78 (k0_pay58 K) (k0_pay68 N) (k0_pay74 (k0_pay61 (k0_pay5 G) k0_pay6) (k0_pay62 (iota Kind.tc S1x128 32 [1] iota_S1x128_d1_w32) (k0_pay7 M)) (k0_pay66 k0_pay6 (k0_pay63 (k0_pay5 G) k0_pay6 (iota Kind.tc S1x128 32 [1] iota_S1x128_d1_w32) (k0_pay7 M)) (k0_pay64 (k0_pay4 G) (k0_pay5 G) (iota Kind.tc S64x64 32 [0] iota_S64x64_d0_w32) (iota Kind.tc S64x64 32 [1] iota_S64x64_d1_w32) k0_pay6))) (k0_pay75 (k0_pay60 (k0_pay4 G)) (k0_pay61 (k0_pay5 G) k0_pay6) (k0_pay66 k0_pay6 (k0_pay63 (k0_pay5 G) k0_pay6 (iota Kind.tc S1x128 32 [1] iota_S1x128_d1_w32) (k0_pay7 M)) (k0_pay64 (k0_pay4 G) (k0_pay5 G) (iota Kind.tc S64x64 32 [0] iota_S64x64_d0_w32) (iota Kind.tc S64x64 32 [1] iota_S64x64_d1_w32) k0_pay6)))
      = headN (igCol2 G) (igRow2 G) (lfRow2 G) (lfCol2 G) (lane 2#32 M) K N := rfl

/-- What the store of head 1 of row 0 writes of the normalisers. -/
theorem nor01 (K : FVec Ideal S1x64x256 .bf16) (N : FVec Ideal S1x1x256 .f32) (G : FVec Ideal S1x64x128 .f32) (M : FVec Ideal S1x1x128 .f32) :
    k0_pay55 (k0_pay54 (k0_pay35 K) (k0_pay37 (k0_pay4 G)) (k0_pay38 (k0_pay5 G) k0_pay6) (k0_pay39 (iota Kind.tc S1x128 32 [1] iota_S1x128_d1_w32) (k0_pay7 M)) (k0_pay42 (k0_pay4 G) (k0_pay5 G) (iota Kind.tc S64x64 32 [0] iota_S64x64_d0_w32) (iota Kind.tc S64x64 32 [1] iota_S64x64_d1_w32) k0_pay6 (iota Kind.tc S1x128 32 [1] iota_S1x128_d1_w32) (k0_pay7 M)) (k0_pay46 N))
      = headN (igCol1 G) (igRow1 G) (lfRow1 G) (lfCol1 G) (lane 1#32 M) K N := rfl

/-- What the store of head 0 of row 0 writes of the normalisers. -/
theorem nor00 (K : FVec Ideal S1x64x256 .bf16) (N : FVec Ideal S1x1x256 .f32) (G : FVec Ideal S1x64x128 .f32) (M : FVec Ideal S1x1x128 .f32) :
    k0_pay32 (k0_pay9 K) (k0_pay11 G) (k0_pay13 G) (k0_pay22 N) (k0_pay26 (k0_pay18 k0_pay6 (iota Kind.tc S1x128 32 [1] iota_S1x128_d1_w32) (k0_pay7 M) (k0_pay12 G) (k0_pay13 G) (k0_pay14 G))) (k0_pay27 (k0_pay13 G)) (k0_pay28 (k0_pay13 G) (k0_pay15 (iota Kind.tc S1x128 32 [1] iota_S1x128_d1_w32) (k0_pay7 M)))
      = headN (igCol0 G) (igRow0 G) (lfRow0 G) (lfCol0 G) (lane 0#32 M) K N := rfl

/-- What the store of row 1 writes of the exponents. -/
theorem exps1 (G : FVec Ideal S1x64x128 .f32) (M : FVec Ideal S1x1x128 .f32) :
    k0_pay1 (iota Kind.tc S1x128 32 [1] iota_S1x128_d1_w32) (k0_pay189 (iota Kind.tc S1x128 32 [1] iota_S1x128_d1_w32) (k0_pay162 (iota Kind.tc S1x128 32 [1] iota_S1x128_d1_w32) (k0_pay135 (iota Kind.tc S1x128 32 [1] iota_S1x128_d1_w32) (k0_pay109 M) (k0_pay128 (k0_pay120 k0_pay108 (k0_pay114 G) (k0_pay115 G) (k0_pay116 G) (k0_pay117 M)))) (k0_pay147 (iota Kind.tc S64x64 32 [0] iota_S64x64_d0_w32) (iota Kind.tc S64x64 32 [1] iota_S64x64_d1_w32) k0_pay108 (iota Kind.tc S1x128 32 [1] iota_S1x128_d1_w32) (k0_pay109 M) (k0_pay140 (k0_pay106 G)) (k0_pay141 (k0_pay107 G)) (k0_pay142 (k0_pay107 G) k0_pay108))) (k0_pay180 (k0_pay171 (k0_pay106 G) (k0_pay107 G) (iota Kind.tc S64x64 32 [0] iota_S64x64_d0_w32) (iota Kind.tc S64x64 32 [1] iota_S64x64_d1_w32) k0_pay108 (iota Kind.tc S1x128 32 [1] iota_S1x128_d1_w32) (k0_pay109 M)))) (k0_pay210 (k0_pay201 k0_pay108 (k0_pay194 (k0_pay107 G)) (k0_pay195 (k0_pay107 G) k0_pay108) (k0_pay196 (k0_pay106 G) (iota Kind.tc S64x64 32 [0] iota_S64x64_d0_w32) (iota Kind.tc S64x64 32 [1] iota_S64x64_d1_w32)) (k0_pay197 (iota Kind.tc S1x128 32 [1] iota_S1x128_d1_w32) (k0_pay109 M))))
      = shapeCast S1x1x128 (headM 3#32 (MlstmProof.tops (igRow3 G) (lfRow3 G) (lfCol3 G) (lane 3#32 M)) (headM 2#32 (MlstmProof.tops (igRow2 G) (lfRow2 G) (lfCol2 G) (lane 2#32 M)) (headM 1#32 (MlstmProof.tops (igRow1 G) (lfRow1 G) (lfCol1 G) (lane 1#32 M)) (headM 0#32 (MlstmProof.tops (igRow0 G) (lfRow0 G) (lfCol0 G) (lane 0#32 M)) (k0_pay7 M))))) shapeCasts_S1x128_S1x1x128 := rfl

/-- What the store of row 0 writes of the exponents. -/
theorem exps0 (G : FVec Ideal S1x64x128 .f32) (M : FVec Ideal S1x1x128 .f32) :
    k0_pay105 (iota Kind.tc S1x128 32 [1] iota_S1x128_d1_w32) (k0_pay79 (iota Kind.tc S1x128 32 [1] iota_S1x128_d1_w32) (k0_pay56 (iota Kind.tc S1x128 32 [1] iota_S1x128_d1_w32) (k0_pay33 (iota Kind.tc S1x128 32 [1] iota_S1x128_d1_w32) (k0_pay7 M) (k0_pay26 (k0_pay18 k0_pay6 (iota Kind.tc S1x128 32 [1] iota_S1x128_d1_w32) (k0_pay7 M) (k0_pay12 G) (k0_pay13 G) (k0_pay14 G)))) (k0_pay49 (k0_pay42 (k0_pay4 G) (k0_pay5 G) (iota Kind.tc S64x64 32 [0] iota_S64x64_d0_w32) (iota Kind.tc S64x64 32 [1] iota_S64x64_d1_w32) k0_pay6 (iota Kind.tc S1x128 32 [1] iota_S1x128_d1_w32) (k0_pay7 M)))) (k0_pay72 (k0_pay66 k0_pay6 (k0_pay63 (k0_pay5 G) k0_pay6 (iota Kind.tc S1x128 32 [1] iota_S1x128_d1_w32) (k0_pay7 M)) (k0_pay64 (k0_pay4 G) (k0_pay5 G) (iota Kind.tc S64x64 32 [0] iota_S64x64_d0_w32) (iota Kind.tc S64x64 32 [1] iota_S64x64_d1_w32) k0_pay6)))) (k0_pay91 k0_pay6 (iota Kind.tc S1x128 32 [1] iota_S1x128_d1_w32) (k0_pay7 M) (k0_pay84 (k0_pay5 G)) (k0_pay85 (k0_pay5 G) k0_pay6) (k0_pay86 (iota Kind.tc S64x64 32 [0] iota_S64x64_d0_w32) (iota Kind.tc S64x64 32 [1] iota_S64x64_d1_w32)) (FloatOps.ofBits (F := Ideal) FTy.f32 0#32) (k0_pay87 (k0_pay4 G)))
      = shapeCast S1x1x128 (headM 3#32 (MlstmProof.tops (igRow3 G) (lfRow3 G) (lfCol3 G) (lane 3#32 M)) (headM 2#32 (MlstmProof.tops (igRow2 G) (lfRow2 G) (lfCol2 G) (lane 2#32 M)) (headM 1#32 (MlstmProof.tops (igRow1 G) (lfRow1 G) (lfCol1 G) (lane 1#32 M)) (headM 0#32 (MlstmProof.tops (igRow0 G) (lfRow0 G) (lfCol0 G) (lane 0#32 M)) (k0_pay7 M))))) shapeCasts_S1x128_S1x1x128 := rfl

end Cert.MlstmProof

end
-- ==== Proof.MlstmWin.lean ====
/- What the mLSTM kernel loads at a point, as entries of its arguments. -/
module

public import proofs.«01_k».proof.Proof.MlstmRows
public import proofs.«01_k».proof.Proof.Gen.MlstmIdeal.Value
public import Idealize.ShloMosaic.Lib.Pipeline.ValueKit
public import Idealize.ShloMosaic.Lib.Pointwise
public import Idealize.ShloMosaic.Lib.StableHlo.RunRead

@[expose] public section

set_option maxRecDepth 16384

noncomputable section

namespace Cert.MlstmProof

open Idealize.ShloMosaic Idealize.ShloMosaic.TcCoe Idealize.SL.Sem
open Cert.MlstmIdeal Cert.MlstmIdeal.Gen

/-- The windows' places at a point. -/
theorem idx : ∀ t : Fin cfg0.N, win0_0.index t = ![t.val, 0, 0] ∧ win0_1.index t = ![t.val, 0, 0] ∧ win0_2.index t = ![t.val, 0, 0]
    ∧ win0_3.index t = ![0, 0] ∧ win0_4.index t = ![t.val, 0, 0, 0] ∧ win0_5.index t = ![t.val, 0, 0] ∧ win0_6.index t = ![t.val, 0, 0]
    ∧ win0_7.index t = ![t.val, 0, 0] ∧ win0_8.index t = ![t.val, 0, 0, 0] ∧ win0_9.index t = ![t.val, 0, 0] ∧ win0_10.index t = ![t.val, 0, 0] :=
  (by decide +kernel : ∀ t : Fin grid0.N, _)

variable (m : (ℓ : Loc nD τ sig) → Buf (Elt Ideal) ℓ) (c : Dev nD) (t : Fin cfg0.N)

/-- A load of a block of three axes at an entry. -/
theorem ld3 {α : EltTy} {n0 n1 n2 k0 k1 k2 : ℕ} (X : (⟨3, ![n0, n1, n2]⟩ : Shape).Idx → Elt Ideal α) (o0 o1 o2 : ℕ) (inb) (i : Fin k0) (j : Fin k1) (l : Fin k2)
    (i' : Fin n0) (j' : Fin n1) (l' : Fin n2) (hi : (i' : ℕ) = o0 + (i : ℕ)) (hj : (j' : ℕ) = o1 + (j : ℕ)) (hl : (l' : ℕ) = o2 + (l : ℕ)) :
    View.ld X (Rect.unit ![o0, o1, o2] ![k0, k1, k2] inb) (ix3 i j l) = X (ix3 i' j' l') := by
  refine congrArg X (funext fun a => Fin.ext ?_)
  match a with
  | 0 => show o0 + 1 * (i : ℕ) = (i' : ℕ); omega
  | 1 => show o1 + 1 * (j : ℕ) = (j' : ℕ); omega
  | 2 => show o2 + 1 * (l : ℕ) = (l' : ℕ); omega

/-- A load of a block of four axes at an entry. -/
theorem ld4 {α : EltTy} {n0 n1 n2 n3 k0 k1 k2 k3 : ℕ} (X : (⟨4, ![n0, n1, n2, n3]⟩ : Shape).Idx → Elt Ideal α) (o0 o1 o2 o3 : ℕ) (inb) (i : Fin k0) (j : Fin k1) (l : Fin k2) (p : Fin k3)
    (i' : Fin n0) (j' : Fin n1) (l' : Fin n2) (p' : Fin n3) (hi : (i' : ℕ) = o0 + (i : ℕ)) (hj : (j' : ℕ) = o1 + (j : ℕ)) (hl : (l' : ℕ) = o2 + (l : ℕ)) (hp : (p' : ℕ) = o3 + (p : ℕ)) :
    View.ld X (Rect.unit ![o0, o1, o2, o3] ![k0, k1, k2, k3] inb) (ix4 i j l p) = X (ix4 i' j' l' p') := by
  refine congrArg X (funext fun a => Fin.ext ?_)
  match a with
  | 0 => show o0 + 1 * (i : ℕ) = (i' : ℕ); omega
  | 1 => show o1 + 1 * (j : ℕ) = (j' : ℕ); omega
  | 2 => show o2 + 1 * (l : ℕ) = (l' : ℕ); omega
  | 3 => show o3 + 1 * (p : ℕ) = (p' : ℕ); omega

/-- A load of the projections. -/
theorem qkv_ld (b o : ℕ) (hb : b < 2) (inb) (r : Fin 16) (hr : (r : ℕ) = t.val * 2 + b) (i : Fin 64) (d : Fin 256) (l : Fin 3072) (hl : (l : ℕ) = o + (d : ℕ)) :
    View.ld (iblk m c 0 t) (Rect.unit ![b, 0, o] ![1, 64, 256] inb) (ix3 0 i d) = m ((c : Thread nD τ).loc main_arg0) (ix3 r i l) := by
  refine (ld3 (iblk m c 0 t) b 0 o inb 0 i d ⟨b, hb⟩ i l rfl (Nat.zero_add _).symm hl).trans ?_
  blk_ext [iblk, V, idx t]

/-- A load of the gates. -/
theorem gates_ld (b : ℕ) (hb : b < 2) (inb) (r : Fin 16) (hr : (r : ℕ) = t.val * 2 + b) (i : Fin 64) (l : Fin 128) :
    View.ld (iblk m c 1 t) (Rect.unit ![b, 0, 0] ![1, 64, 128] inb) (ix3 0 i l) = m ((c : Thread nD τ).loc main_arg1) (ix3 r i l) := by
  refine (ld3 (iblk m c 1 t) b 0 0 inb 0 i l ⟨b, hb⟩ i l rfl (Nat.zero_add _).symm (Nat.zero_add _).symm).trans ?_
  blk_ext [iblk, V, idx t]

/-- A load of the output gates. -/
theorem sig_ld (b o : ℕ) (hb : b < 2) (inb) (r : Fin 16) (hr : (r : ℕ) = t.val * 2 + b) (i : Fin 64) (d : Fin 256) (l : Fin 3072) (hl : (l : ℕ) = o + (d : ℕ)) (ho : o ≤ 768) :
    View.ld (iblk m c 2 t) (Rect.unit ![b, 0, o] ![1, 64, 256] inb) (ix3 0 i d) = m ((c : Thread nD τ).loc main_arg2) (ix3 r i l) := by
  refine (ld3 (iblk m c 2 t) b 0 o inb 0 i d ⟨b, hb⟩ i ⟨(l : ℕ), by omega⟩ rfl (Nat.zero_add _).symm hl).trans ?_
  blk_ext [iblk, V, idx t]

/-- A load of the carried matrices. -/
theorem c_ld (b o : ℕ) (hb : b < 2) (inb) (r : Fin 16) (hr : (r : ℕ) = t.val * 2 + b) (h : Fin 4) (hh : (h : ℕ) = o) (e d : Fin 256) :
    View.ld (iblk m c 4 t) (Rect.unit ![b, o, 0, 0] ![1, 1, 256, 256] inb) (ix4 0 0 e d) = m ((c : Thread nD τ).loc main_arg4) (ix4 r h e d) := by
  refine (ld4 (iblk m c 4 t) b o 0 0 inb 0 0 e d ⟨b, hb⟩ h e d rfl hh (Nat.zero_add _).symm (Nat.zero_add _).symm).trans ?_
  blk_ext [iblk, V, idx t]

/-- The carried normalisers as the launch reads them. -/
abbrev nRows (X : FVec Ideal S16x4x256 .f32) : FVec Ideal S16x1x1024 .f32 := shapeCast S16x1x1024 X shapeCasts_S16x4x256_S16x1x1024

/-- The carried exponents as the launch reads them, behind zeros. -/
abbrev mRows (X : FVec Ideal S16x4 .f32) : FVec Ideal S16x1x128 .f32 :=
  shapeCast S16x1x128 (pad S16x128 ![0, 0] ![0, 124] ![0, 0] X (sitofp .f32 (constantI S_ 32 0#32)) pads_S16x4_S16x128_000_01240 h_S_) shapeCasts_S16x128_S16x1x128

/-- The scales as the launch reads them. -/
abbrev wRow (X : FVec Ideal S4x256 .f32) : FVec Ideal S1x1024 .f32 := shapeCast S1x1024 X shapeCasts_S4x256_S1x1024

/-- The carried normalisers. -/
theorem n_eq : V m c main_v0 = nRows (m ((c : Thread nD τ).loc main_arg5)) := rfl

/-- The carried exponents. -/
theorem m_eq : V m c main_v2 = mRows (m ((c : Thread nD τ).loc main_arg6)) := rfl

/-- The scales. -/
theorem w_eq : V m c main_v3 = wRow (m ((c : Thread nD τ).loc main_arg3)) := rfl

/-- A carried normaliser among the launch's. -/
theorem nRows_at (X : FVec Ideal S16x4x256 .f32) (r : Fin 16) (h : Fin 4) (d : Fin 256) (l : Fin 1024) (hl : (l : ℕ) = (h : ℕ) * 256 + (d : ℕ)) : nRows X (ix3 r 0 l) = X (ix3 r h d) := by
  have hb : (h : ℕ) * 256 + (d : ℕ) < 1024 := by omega
  rw [show l = (⟨(h : ℕ) * 256 + (d : ℕ), hb⟩ : Fin 1024) from Fin.ext hl]
  pointwise [nRows]

/-- A scale among the launch's. -/
theorem wRow_at (X : FVec Ideal S4x256 .f32) (h : Fin 4) (d : Fin 256) (l : Fin 1024) (hl : (l : ℕ) = (h : ℕ) * 256 + (d : ℕ)) : wRow X (ix2 0 l) = X (ix2 h d) := by
  have hb : (h : ℕ) * 256 + (d : ℕ) < 1024 := by omega
  rw [show l = (⟨(h : ℕ) * 256 + (d : ℕ), hb⟩ : Fin 1024) from Fin.ext hl]
  pointwise [wRow]

/-- A carried exponent among the launch's, zero past the heads. -/
theorem mRows_at (X : FVec Ideal S16x4 .f32) (r : Fin 16) (l : Fin 128) : mRows X (ix3 r 0 l) = if h : (l : ℕ) < 4 then X (ix2 r ⟨(l : ℕ), h⟩) else 0 := by
  pointwise [mRows]
  split_ifs with h1
  · rfl
  · show (((0#32 : BitVec 32).toInt : ℝ) : EReal) = 0
    simp

/-- The block of normalisers. -/
theorem n_blk (b : Fin 2) (l : Fin 1024) (r : Fin 16) (hr : (r : ℕ) = t.val * 2 + (b : ℕ)) : iblk m c 5 t (ix3 b 0 l) = nRows (m ((c : Thread nD τ).loc main_arg5)) (ix3 r 0 l) := by
  rw [← n_eq m c]
  blk_ext [iblk, idx t]

/-- The block of exponents. -/
theorem m_blk (b : Fin 2) (l : Fin 128) (r : Fin 16) (hr : (r : ℕ) = t.val * 2 + (b : ℕ)) : iblk m c 6 t (ix3 b 0 l) = mRows (m ((c : Thread nD τ).loc main_arg6)) (ix3 r 0 l) := by
  rw [← m_eq m c]
  blk_ext [iblk, idx t]

/-- The block of scales. -/
theorem w_blk (l : Fin 1024) : iblk m c 3 t (ix2 0 l) = wRow (m ((c : Thread nD τ).loc main_arg3)) (ix2 0 l) := by
  rw [← w_eq m c]
  blk_ext [iblk, idx t]

/-- A load of the carried normalisers. -/
theorem n_ld (b o : ℕ) (hb : b < 2) (inb) (r : Fin 16) (hr : (r : ℕ) = t.val * 2 + b) (h : Fin 4) (hh : (h : ℕ) * 256 = o) (d : Fin 256) :
    View.ld (k0_pay2 (iblk m c 5 t)) (Rect.unit ![b, 0, o] ![1, 1, 256] inb) (ix3 0 0 d) = m ((c : Thread nD τ).loc main_arg5) (ix3 r h d) := by
  have hl : (h : ℕ) * 256 + (d : ℕ) < 1024 := by omega
  refine (ld3 (α := .f32) (k0_pay2 (iblk m c 5 t)) b 0 o inb 0 0 d ⟨b, hb⟩ 0 ⟨(h : ℕ) * 256 + (d : ℕ), hl⟩ rfl rfl (by show (h : ℕ) * 256 + (d : ℕ) = o + (d : ℕ); omega)).trans ?_
  refine Eq.trans ?_ (nRows_at _ r h d ⟨(h : ℕ) * 256 + (d : ℕ), hl⟩ rfl)
  refine Eq.trans ?_ (n_blk m c t ⟨b, hb⟩ _ r hr)
  pointwise [k0_pay2]

/-- A load of the carried exponents. -/
theorem m_ld (b : ℕ) (hb : b < 2) (inb) (r : Fin 16) (hr : (r : ℕ) = t.val * 2 + b) (l : Fin 128) :
    View.ld (k0_pay3 (iblk m c 6 t)) (Rect.unit ![b, 0, 0] ![1, 1, 128] inb) (ix3 0 0 l) = if h : (l : ℕ) < 4 then m ((c : Thread nD τ).loc main_arg6) (ix2 r ⟨(l : ℕ), h⟩) else (0 : EReal) := by
  refine (ld3 (α := .f32) (k0_pay3 (iblk m c 6 t)) b 0 0 inb 0 0 l ⟨b, hb⟩ 0 l rfl rfl (Nat.zero_add _).symm).trans ?_
  refine Eq.trans ?_ (mRows_at _ r l)
  refine Eq.trans ?_ (m_blk m c t ⟨b, hb⟩ _ r hr)
  pointwise [k0_pay3]

/-- A load of the scales. -/
theorem w_ld (o : ℕ) (inb) (h : Fin 4) (hh : (h : ℕ) * 256 = o) (d : Fin 256) :
    View.ld (iblk m c 3 t) (Rect.unit ![0, o] ![1, 256] inb) (ix2 0 d) = m ((c : Thread nD τ).loc main_arg3) (ix2 h d) := by
  have hl : (h : ℕ) * 256 + (d : ℕ) < 1024 := by omega
  refine Eq.trans ?_ (wRow_at _ h d ⟨(h : ℕ) * 256 + (d : ℕ), hl⟩ rfl)
  refine Eq.trans ?_ (w_blk m c t _)
  refine congrArg (iblk m c 3 t) (funext fun a => Fin.ext ?_)
  match a with
  | 0 => rfl
  | 1 => show o + 1 * (d : ℕ) = (h : ℕ) * 256 + (d : ℕ); omega

end Cert.MlstmProof

end
-- ==== Proof.MlstmRef.lean ====
/- The reference's mLSTM over one chunk, entry by entry. -/
module

public import proofs.«01_k».proof.Defs
public import proofs.«01_k».proof.Proof.Gen.MlstmRefIdeal.Run
public import proofs.«01_k».proof.Proof.MlstmMath
public import Idealize.ShloMosaic.Lib.Pointwise
public import Idealize.ShloMosaic.Lib.Pipeline.ValueKit

@[expose] public section

set_option maxRecDepth 16384

noncomputable section

namespace Cert.MlstmProof

open Idealize.ShloMosaic Idealize.ShloMosaic.TcCoe Idealize.SL.Sem
open Cert.MlstmRefIdeal Cert.MlstmRefIdeal.Gen Cert.MlstmRefIdeal.Value

/-- The head `h` of row `r`, from the projections, the gates and the carried state. -/
def head (Q : FVec Ideal S16x64x3072 .bf16) (G : FVec Ideal S16x64x128 .f32) (C : FVec Ideal S16x4x256x256 .f32) (N : FVec Ideal S16x4x256 .f32)
    (M : FVec Ideal S16x4 .f32) (r : Fin 16) (h : Fin 4) : Head where
  ig t := G (ix3 r t ⟨(h : ℕ), by omega⟩)
  lf t := G (ix3 r t ⟨4 + (h : ℕ), by omega⟩)
  mp := M (ix2 r h)
  q t d := Q (ix3 r t ⟨(h : ℕ) * 256 + (d : ℕ), by omega⟩)
  k t d := Q (ix3 r t ⟨1024 + ((h : ℕ) * 256 + (d : ℕ)), by omega⟩)
  v t d := Q (ix3 r t ⟨2048 + ((h : ℕ) * 256 + (d : ℕ)), by omega⟩)
  C e d := C (ix4 r h e d)
  n d := N (ix3 r h d)

/-- A fold that adds is a sum. -/
theorem fold_sum {ι : Type} (l : List ι) (f : ι → EReal) (v : EReal) : l.foldl (fun r i => r + f i) v = v + (l.map f).sum := by
  induction l generalizing v with
  | nil => simp
  | cons i l ih => rw [List.foldl_cons, ih, List.map_cons, List.sum_cons, add_assoc]

/-- A running sum along the middle of three axes. -/
theorem running {A B D P : ℕ} (hP : P + 1 = B) (x : FVec Ideal ⟨3, ![A, B, D]⟩ .f32) (v : FVec Ideal S_ .f32) (hv : ∀ i, v i = 0)
    (hr : (⟨3, ![A, B, D]⟩ : Shape).ReduceWindows ![1, B, 1] ![1, 1, 1] ![0, P, 0] ![0, 0, 0] ⟨3, ![A, B, D]⟩) (hp : 0 < S_.numel) (a : Fin A) (t : Fin B) (d : Fin D) :
    Host.reduceWindowAdd ![1, B, 1] ![1, 1, 1] ![0, P, 0] ![0, 0, 0] x v hr hp (ix3 a t d) = ∑ s : Fin B, if s ≤ t then x (ix3 a s d) else 0 := by
  show (List.finRange (⟨3, ![1, B, 1]⟩ : Shape).numel).foldl (fun r n => r + _) _ = _
  rw [fold_sum, hv, zero_add, ← List.ofFn_eq_map, List.sum_ofFn,
    ← Equiv.sum_comp (⟨3, ![1, B, 1]⟩ : Shape).rowMajor]
  simp only [Equiv.symm_apply_apply]
  rw [sum_idx3, Fin.sum_univ_one]
  simp only [Fin.sum_univ_one]
  rw [← Finset.sum_filter_add_sum_filter_not Finset.univ (fun p : Fin B => P ≤ (t : ℕ) + (p : ℕ))]
  rw [← Finset.sum_filter (fun s : Fin B => s ≤ t)]
  refine (congrArg₂ (· + ·) (?_ : _ = ∑ s ∈ Finset.univ.filter (fun s : Fin B => s ≤ t), x (ix3 a s d)) (?_ : _ = (0 : EReal))).trans (add_zero _)
  · refine Finset.sum_bij' (fun p _ => ⟨(t : ℕ) + (p : ℕ) - P, by omega⟩) (fun s _ => ⟨P + (s : ℕ) - (t : ℕ), ?_⟩) ?_ ?_ ?_ ?_ ?_
    · have := (Finset.mem_filter.mp ‹_›).2
      have h1 : (s : ℕ) ≤ (t : ℕ) := this
      omega
    · intro p hp'
      have h1 : P ≤ (t : ℕ) + (p : ℕ) := (Finset.mem_filter.mp hp').2
      refine Finset.mem_filter.mpr ⟨Finset.mem_univ _, ?_⟩
      show (t : ℕ) + (p : ℕ) - P ≤ (t : ℕ)
      omega
    · intro s hs
      have h1 : (s : ℕ) ≤ (t : ℕ) := (Finset.mem_filter.mp hs).2
      refine Finset.mem_filter.mpr ⟨Finset.mem_univ _, ?_⟩
      show P ≤ (t : ℕ) + (P + (s : ℕ) - (t : ℕ))
      omega
    · intro p hp'
      have h1 : P ≤ (t : ℕ) + (p : ℕ) := (Finset.mem_filter.mp hp').2
      refine Fin.ext ?_
      show P + ((t : ℕ) + (p : ℕ) - P) - (t : ℕ) = (p : ℕ)
      omega
    · intro s hs
      have h1 : (s : ℕ) ≤ (t : ℕ) := (Finset.mem_filter.mp hs).2
      refine Fin.ext ?_
      show (t : ℕ) + (P + (s : ℕ) - (t : ℕ)) - P = (s : ℕ)
      omega
    · intro p hp'
      have h1 : P ≤ (t : ℕ) + (p : ℕ) := (Finset.mem_filter.mp hp').2
      refine (dif_pos fun z => ?_).trans (congrArg x (funext fun z => ?_))
      · match z with
        | 0 => exact ⟨Nat.zero_le _, show (a : ℕ) * 1 + 0 - 0 < A by omega⟩
        | 1 => exact ⟨show P ≤ (t : ℕ) * 1 + (p : ℕ) by omega, show (t : ℕ) * 1 + (p : ℕ) - P < B by omega⟩
        | 2 => exact ⟨Nat.zero_le _, show (d : ℕ) * 1 + 0 - 0 < D by omega⟩
      · match z with
        | 0 => exact Fin.ext (show (a : ℕ) * 1 + 0 - 0 = (a : ℕ) by omega)
        | 1 => exact Fin.ext (show (t : ℕ) * 1 + (p : ℕ) - P = (t : ℕ) + (p : ℕ) - P by omega)
        | 2 => exact Fin.ext (show (d : ℕ) * 1 + 0 - 0 = (d : ℕ) by omega)
  · refine Finset.sum_eq_zero fun p hp' => dif_neg fun h => ?_
    have h1 : ¬ P ≤ (t : ℕ) + (p : ℕ) := (Finset.mem_filter.mp hp').2
    have h2 : P ≤ (t : ℕ) * 1 + (p : ℕ) := (h 1).1
    omega

/-- A maximum along the third of four axes, at an entry. -/
theorem reduce_max {n0 n1 n2 n3 : ℕ} (v : FVec Ideal ⟨4, ![n0, n1, n2, n3]⟩ .f32) (c : FVec Ideal S_ .f32)
    (hr : (⟨4, ![n0, n1, n2, n3]⟩ : Shape).ReducesTo [2] ⟨3, ![n0, n1, n3]⟩) (hp : 0 < S_.numel) (a : Fin n0) (b : Fin n1) (i : Fin n3) :
    Host.reduce FloatOps.maximumf v c hr hp (ix3 a b i) = Finset.univ.fold max (c (Shape.Idx.first hp)) fun k : Fin n2 => v (ix4 a b k i) := by
  pointwise

variable (V0 : Valuation τ sig (Elt Ideal))

/-- The head of a row, from the reference's arguments. -/
def argHead (r : Fin 16) (h : Fin 4) : Head :=
  head (V0 (Proc.devRef .tc main_arg0)) (V0 (Proc.devRef .tc main_arg1)) (V0 (Proc.devRef .tc main_arg4)) (V0 (Proc.devRef .tc main_arg5)) (V0 (Proc.devRef .tc main_arg6)) r h

/-- The queries. -/
theorem v2_at (r : Fin 16) (t : Fin 64) (h : Fin 4) (d : Fin 256) : res_main_v2 V0 (ix4 r t h d) = (argHead V0 r h).q t d := by
  pointwise [res_main_v2]
  rfl

/-- The keys. -/
theorem v5_at (r : Fin 16) (t : Fin 64) (h : Fin 4) (d : Fin 256) : res_main_v5 V0 (ix4 r t h d) = (argHead V0 r h).k t d := by
  pointwise [res_main_v5]
  rfl

/-- The values. -/
theorem v8_at (r : Fin 16) (t : Fin 64) (h : Fin 4) (d : Fin 256) : res_main_v8 V0 (ix4 r t h d) = (argHead V0 r h).v t d := by
  pointwise [res_main_v8]
  rfl

/-- The input gates. -/
theorem v9_at (r : Fin 16) (t : Fin 64) (h : Fin 4) : res_main_v9 V0 (ix3 r t h) = (argHead V0 r h).ig t := by
  pointwise [res_main_v9]
  rfl

/-- The sums of the forget gates' logarithms. -/
theorem v11_at (r : Fin 16) (t : Fin 64) (h : Fin 4) : res_main_v11 V0 (ix3 r t h) = (argHead V0 r h).b t := by
  unfold res_main_v11
  refine (running (P := 63) rfl _ _ (fun i => ?_) _ _ r t h).trans ?_
  · pointwise
  · unfold Head.b
    refine Finset.sum_congr rfl fun s _ => ?_
    refine congrArg (fun z => if s ≤ t then z else 0) ?_
    pointwise
    rfl

/-- The exponents with which the frames read the carried state. -/
theorem v14_at (r : Fin 16) (t : Fin 64) (h : Fin 4) : res_main_v14 V0 (ix3 r t h) = (argHead V0 r h).inter t := by
  pointwise [res_main_v14]
  rw [v11_at]
  rfl

/-- Which frames a frame reads, as the reference states it. -/
theorem before : ∀ t s : Fin 64, (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)) : IVec S64x64 1) (ix2 t s) = if s ≤ t then 1#1 else 0#1 := by
  decide +kernel

/-- A word of one bit that states a fact chooses by it. -/
theorem choose (p : Prop) [Decidable p] (x y : EReal) : Scalar.select (if p then 1#1 else 0#1) x y = if p then x else y := by
  by_cases h : p
  · rw [if_pos h, if_pos h]; rfl
  · rw [if_neg h, if_neg h]; rfl

/-- The exponents with which the frames read one another. -/
theorem v26_at (r : Fin 16) (t s : Fin 64) (h : Fin 4) : res_main_v26 V0 (ix4 r t s h) = (argHead V0 r h).intra t s := by
  show Scalar.select ((select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)) : IVec S64x64 1) _) _ _ = _
  refine (congrArg (fun w => Scalar.select w _ _) (Eq.trans (congrArg _ (show _ = ix2 t s from ?_)) (before t s))).trans ((choose _ _ _).trans ?_)
  · blk_ext
    all_goals rfl
  · unfold Head.intra
    refine congrArg₂ (fun y z => if s ≤ t then y else z) ?_ ?_
    · pointwise
      rw [v11_at, v11_at, v9_at]
    · pointwise
      exact AttnProof.bot_word

/-- The frames' largest exponents. -/
theorem v28_at (r : Fin 16) (t : Fin 64) (h : Fin 4) : res_main_v28 V0 (ix3 r t h) = (argHead V0 r h).top t := by
  unfold res_main_v28
  refine congrArg₂ (max : EReal → EReal → EReal) (v14_at V0 r t h) ((reduce_max _ _ _ _ r t h).trans ?_)
  simp only [v26_at]
  exact congrArg (fun z => Finset.fold max z _ _) AttnProof.bot_word

/-- The frames' weights of the carried state. -/
theorem v30_at (r : Fin 16) (t : Fin 64) (h : Fin 4) : res_main_v30 V0 (ix3 r t h) = (argHead V0 r h).carry t := by
  pointwise [res_main_v30]
  rw [v14_at, v28_at]
  rfl

/-- The frames' weights. -/
theorem v37_at (r : Fin 16) (t s : Fin 64) (h : Fin 4) : res_main_v37 V0 (ix4 r t s h) = (argHead V0 r h).weight t s := by
  pointwise [res_main_v37]
  simp only [v26_at, v28_at, v5_at, v2_at]
  unfold Head.weight
  exact congrArg _ (Finset.sum_congr rfl fun d _ => mul_comm _ _)

/-- What the heads give. -/
theorem v57_at (r : Fin 16) (t : Fin 64) (h : Fin 4) (e : Fin 256) : res_main_v57 V0 (ix4 r t h e) = (argHead V0 r h).mixed t e := by
  pointwise [res_main_v57]
  simp only [v30_at, v28_at, v2_at, v8_at, v37_at]
  rw [Finset.sum_congr rfl fun x _ => mul_comm ((argHead V0 r h).v x e) _]
  rfl

/-- The largest exponents of the last frame. -/
theorem v59_at (r : Fin 16) (h : Fin 4) : res_main_v59 V0 (ix2 r h) = (argHead V0 r h).top 63 := by
  pointwise [res_main_v59]
  exact v28_at V0 r 63 h

/-- What is left of the carried state. -/
theorem v64_at (r : Fin 16) (h : Fin 4) : res_main_v64 V0 (ix2 r h) = (argHead V0 r h).gain := by
  pointwise [res_main_v64]
  rw [v59_at, v11_at]
  rfl

/-- The frames' shares of the new state. -/
theorem v72_at (r : Fin 16) (t : Fin 64) (h : Fin 4) : res_main_v72 V0 (ix3 r t h) = (argHead V0 r h).push t := by
  pointwise [res_main_v72]
  rw [v59_at, v9_at, v11_at, v11_at]
  rfl

/-- The means of the heads' results. -/
theorem v89_at (r : Fin 16) (t : Fin 64) (h : Fin 4) : res_main_v89 V0 (ix4 r t h 0) = mean ((argHead V0 r h).mixed t) := by
  pointwise [res_main_v89]
  simp only [v57_at]
  rfl

/-- The heads' results less the means. -/
theorem v91_at (r : Fin 16) (t : Fin 64) (h : Fin 4) (e : Fin 256) : res_main_v91 V0 (ix4 r t h e) = (argHead V0 r h).mixed t e - mean ((argHead V0 r h).mixed t) := by
  pointwise [res_main_v91]
  rw [v57_at, v89_at]

/-- The gated, normalised results. -/
def gated : FVec Ideal S16x64x1024 .bf16 :=
  truncf .bf16 (mulf (extf .f32 (extractStridedSlice S16x64x1024 ![0, 0, 0] (V0 (Proc.devRef .tc main_arg2)) slices_S16x64x3072_S16x64x1024_0_0_0) bitsLt_bf16_f32) (shapeCast _ (mulf (mulf (subf (res_main_v57 V0) (broadcastInDim S16x64x4x256 ![0, 1, 2, 3] bcast_S16x64x4x1_S16x64x4x256_0_1_2_3 (res_main_v89 V0))) (broadcastInDim S16x64x4x256 ![0, 1, 2, 3] bcast_S16x64x4x1_S16x64x4x256_0_1_2_3 (Host.rsqrt (addf (Host.divf (broadcastInDim S16x64x4x1 ![0, 1, 2] bcast_S16x64x4_S16x64x4x1_0_1_2 (Host.reduceAdd (mulf (res_main_v91 V0) (res_main_v91 V0)) (constant S_ .f32 0x00000000#32) reducesTo_S16x64x4x256_S16x64x4_d3 h_S_)) (broadcastInDim S16x64x4x1 ![] bcast_S_S16x64x4x1 (constant S_ .f32 0x43800000#32))) (broadcastInDim S16x64x4x1 ![] bcast_S_S16x64x4x1 (constant S_ .f32 0x3727C5AC#32)))))) (broadcastInDim S16x64x4x256 ![0, 1, 2, 3] bcast_S1x1x4x256_S16x64x4x256_0_1_2_3 (broadcastInDim S1x1x4x256 ![2, 3] bcast_S4x256_S1x1x4x256_2_3 (V0 (Proc.devRef .tc main_arg3))))) shapeCasts_S16x64x4x256_S16x64x1024)) bitsLt_bf16_f32

/-- The new matrices. -/
def matrices : FVec Ideal S16x4x256x256 .f32 :=
  addf (mulf (broadcastInDim S16x4x256x256 ![0, 1, 2, 3] bcast_S16x4x1x1_S16x4x256x256_0_1_2_3 (broadcastInDim S16x4x1x1 ![0, 1] bcast_S16x4_S16x4x1x1_0_1 (res_main_v64 V0))) (V0 (Proc.devRef .tc main_arg4))) (Host.dotGeneral (φ₁ := .f32) (φ₂ := .f32) dot_S16x64x4x256_S16x64x4x256_S16x4x256x256_1_1_3_3_02_02 none (mulf (broadcastInDim S16x64x4x256 ![0, 1, 2, 3] bcast_S16x64x4x1_S16x64x4x256_0_1_2_3 (broadcastInDim S16x64x4x1 ![0, 1, 2] bcast_S16x64x4_S16x64x4x1_0_1_2 (res_main_v72 V0))) (res_main_v8 V0)) (res_main_v5 V0))

/-- The new normalisers. -/
def normalisers : FVec Ideal S16x1x1024 .f32 :=
  shapeCast _ (addf (mulf (broadcastInDim S16x4x256 ![0, 1, 2] bcast_S16x4x1_S16x4x256_0_1_2 (broadcastInDim S16x4x1 ![0, 1] bcast_S16x4_S16x4x1_0_1 (res_main_v64 V0))) (V0 (Proc.devRef .tc main_arg5))) (Host.dotGeneral (φ₁ := .f32) (φ₂ := .f32) dot_S16x64x4_S16x64x4x256_S16x4x256_1_1_n_3_02_02 none (res_main_v72 V0) (res_main_v5 V0))) shapeCasts_S16x4x256_S16x1x1024

/-- The new exponents, in the first lanes. -/
def exponents : FVec Ideal S16x1x128 .f32 :=
  shapeCast _ (pad S16x128 ![0, 0] ![0, 124] ![0, 0] (res_main_v59 V0) (sitofp .f32 (constantI S_ 32 0#32)) pads_S16x4_S16x128_000_01240 h_S_) shapeCasts_S16x128_S16x1x128

/-- The output gate. -/
def gate (x : FVec Ideal S16x64x3072 .bf16) : FVec Ideal S16x64x3072 .bf16 := x

/-- The scale of the normalisation. -/
def scale (x : FVec Ideal S4x256 .f32) : FVec Ideal S4x256 .f32 := x

/-- A gated, normalised result. -/
theorem gated_at (r : Fin 16) (t : Fin 64) (h : Fin 4) (e : Fin 256) : gated V0 (ix3 r t ⟨(h : ℕ) * 256 + (e : ℕ), by omega⟩)
    = gate (V0 (Proc.devRef .tc main_arg2)) (ix3 r t ⟨(h : ℕ) * 256 + (e : ℕ), by omega⟩) * (normed ((argHead V0 r h).mixed t) e * scale (V0 (Proc.devRef .tc main_arg3)) (ix2 h e)) := by
  pointwise [gated]
  simp only [v57_at, v91_at, v89_at]
  rfl

/-- A new matrix. -/
theorem matrices_at (r : Fin 16) (h : Fin 4) (e d : Fin 256) : matrices V0 (ix4 r h e d) = (argHead V0 r h).newC e d := by
  pointwise [matrices]
  simp only [v64_at, v72_at, v8_at, v5_at]
  rfl

/-- A new normaliser. -/
theorem normalisers_at (r : Fin 16) (h : Fin 4) (d : Fin 256) : normalisers V0 (ix3 r 0 ⟨(h : ℕ) * 256 + (d : ℕ), by omega⟩) = (argHead V0 r h).newN d := by
  pointwise [normalisers]
  simp only [v64_at, v72_at, v5_at]
  rfl

/-- A new exponent. -/
theorem exponents_at (r : Fin 16) (l : Fin 128) : exponents V0 (ix3 r 0 l) = if h : (l : ℕ) < 4 then (argHead V0 r ⟨l, h⟩).top 63 else 0 := by
  pointwise [exponents]
  split_ifs with h1 h2 h2
  · exact v59_at V0 r ⟨(l : ℕ), h2⟩
  · have h3 : ((l : ℕ) - 0) / (0 + 1) < 4 := (h1 1).2.2
    omega
  · refine absurd (fun a => ?_) h1
    match a with
    | 0 => exact ⟨Nat.zero_le _, show ((r : ℕ) - 0) % (0 + 1) = 0 by omega, show ((r : ℕ) - 0) / (0 + 1) < 16 by omega⟩
    | 1 => exact ⟨Nat.zero_le _, show ((l : ℕ) - 0) % (0 + 1) = 0 by omega, show ((l : ℕ) - 0) / (0 + 1) < 4 by omega⟩
  · show (((0#32 : BitVec 32).toInt : ℝ) : EReal) = 0
    simp

end Cert.MlstmProof

end
-- ==== Proof.MlstmParts.lean ====
/- What the mLSTM kernel's stores write at a point, in terms of its arguments: one head at a time. -/
module

public import proofs.«01_k».proof.Proof.MlstmWin
public import proofs.«01_k».proof.Proof.MlstmRef

@[expose] public section

set_option maxRecDepth 16384

noncomputable section

namespace Cert.MlstmProof

open Idealize.ShloMosaic Idealize.ShloMosaic.TcCoe Idealize.SL.Sem
open Cert.MlstmIdeal Cert.MlstmIdeal.Gen

variable (m : (ℓ : Loc nD τ sig) → Buf (Elt Ideal) ℓ) (c : Dev nD) (t : Fin cfg0.N)

/-- The head of the launch's arguments. -/
abbrev hd (r : Fin 16) (h : Fin 4) : Head :=
  head (m ((c : Thread nD τ).loc main_arg0)) (m ((c : Thread nD τ).loc main_arg1)) (m ((c : Thread nD τ).loc main_arg4)) (m ((c : Thread nD τ).loc main_arg5)) (m ((c : Thread nD τ).loc main_arg6)) r h

/-- The columns of head 0 at a point. -/
theorem at0 (b : ℕ) (hb : b < 2) (r : Fin 16) (hr : (r : ℕ) = t.val * 2 + b) (iG iM) : Holds (hd m c r 0) (igRow0 (View.ld (iblk m c 1 t) (Rect.unit ![b, 0, 0] ![1, 64, 128] iG))) (lfRow0 (View.ld (iblk m c 1 t) (Rect.unit ![b, 0, 0] ![1, 64, 128] iG))) (lfCol0 (View.ld (iblk m c 1 t) (Rect.unit ![b, 0, 0] ![1, 64, 128] iG))) (lane 0#32 (View.ld (Val := Elt Ideal) (e' := .f32) (k0_pay3 (iblk m c 6 t)) (Rect.unit ![b, 0, 0] ![1, 1, 128] iM))) :=
  held0 _ _ _ (fun s => gates_ld m c t b hb _ r hr s 0) (fun s => gates_ld m c t b hb _ r hr s 4) (m_ld m c t b hb _ r hr 0)

/-- The outputs of head 0 at a point. -/
theorem outAt0 (b : ℕ) (hb : b < 2) (r : Fin 16) (hr : (r : ℕ) = t.val * 2 + b) (iG iM iQ iK iV iC iN iW iY) (hF : (hd m c r 0).Finite) (i : Fin 64) (e : Fin 256) (l : Fin 3072) (hl : (l : ℕ) = 0 + (e : ℕ)) :
    headOut (igRow0 (View.ld (iblk m c 1 t) (Rect.unit ![b, 0, 0] ![1, 64, 128] iG))) (lfRow0 (View.ld (iblk m c 1 t) (Rect.unit ![b, 0, 0] ![1, 64, 128] iG))) (lfCol0 (View.ld (iblk m c 1 t) (Rect.unit ![b, 0, 0] ![1, 64, 128] iG))) (lane 0#32 (View.ld (Val := Elt Ideal) (e' := .f32) (k0_pay3 (iblk m c 6 t)) (Rect.unit ![b, 0, 0] ![1, 1, 128] iM))) (View.ld (iblk m c 0 t) (Rect.unit ![b, 0, 0] ![1, 64, 256] iQ)) (View.ld (iblk m c 0 t) (Rect.unit ![b, 0, 1024] ![1, 64, 256] iK)) (View.ld (iblk m c 0 t) (Rect.unit ![b, 0, 2048] ![1, 64, 256] iV)) (View.ld (iblk m c 4 t) (Rect.unit ![b, 0, 0, 0] ![1, 1, 256, 256] iC)) (View.ld (Val := Elt Ideal) (e' := .f32) (k0_pay2 (iblk m c 5 t)) (Rect.unit ![b, 0, 0] ![1, 1, 256] iN)) (View.ld (iblk m c 3 t) (Rect.unit ![0, 0] ![1, 256] iW)) (View.ld (iblk m c 2 t) (Rect.unit ![b, 0, 0] ![1, 64, 256] iY)) (ix3 0 i e)
      = gate (m ((c : Thread nD τ).loc main_arg2)) (ix3 r i l) * (normed ((hd m c r 0).mixed i) e * scale (m ((c : Thread nD τ).loc main_arg3)) (ix2 0 e)) := by
  refine (Holds.out (at0 m c t b hb r hr iG iM) hF _ _ _ _ _ _ _ (fun i d => qkv_ld m c t b 0 hb _ r hr i d _ (by show 0 * 256 + (d : ℕ) = 0 + (d : ℕ); omega)) (fun i d => qkv_ld m c t b 1024 hb _ r hr i d _ (by show 1024 + (0 * 256 + (d : ℕ)) = 1024 + (d : ℕ); omega)) (fun i d => qkv_ld m c t b 2048 hb _ r hr i d _ (by show 2048 + (0 * 256 + (d : ℕ)) = 2048 + (d : ℕ); omega)) (fun e d => c_ld m c t b 0 hb _ r hr 0 rfl e d) (fun d => n_ld m c t b 0 hb _ r hr 0 rfl d) i e).trans ?_
  exact congrArg₂ (fun a b : EReal => a * (normed ((hd m c r 0).mixed i) e * b)) (sig_ld m c t b 0 hb iY r hr i e l hl (by omega)) (w_ld m c t 0 iW 0 rfl e)

/-- The new matrix of head 0 at a point. -/
theorem matAt0 (b : ℕ) (hb : b < 2) (r : Fin 16) (hr : (r : ℕ) = t.val * 2 + b) (iG iM iK iV iC) (e d : Fin 256) :
    headC (igCol0 (View.ld (iblk m c 1 t) (Rect.unit ![b, 0, 0] ![1, 64, 128] iG))) (igRow0 (View.ld (iblk m c 1 t) (Rect.unit ![b, 0, 0] ![1, 64, 128] iG))) (lfRow0 (View.ld (iblk m c 1 t) (Rect.unit ![b, 0, 0] ![1, 64, 128] iG))) (lfCol0 (View.ld (iblk m c 1 t) (Rect.unit ![b, 0, 0] ![1, 64, 128] iG))) (lane 0#32 (View.ld (Val := Elt Ideal) (e' := .f32) (k0_pay3 (iblk m c 6 t)) (Rect.unit ![b, 0, 0] ![1, 1, 128] iM))) (View.ld (iblk m c 0 t) (Rect.unit ![b, 0, 1024] ![1, 64, 256] iK)) (View.ld (iblk m c 0 t) (Rect.unit ![b, 0, 2048] ![1, 64, 256] iV)) (View.ld (iblk m c 4 t) (Rect.unit ![b, 0, 0, 0] ![1, 1, 256, 256] iC)) (ix4 0 0 e d) = (hd m c r 0).newC e d :=
  Holds.C (at0 m c t b hb r hr iG iM) _ (igCol0_at _ _ (fun s => gates_ld m c t b hb _ r hr s 0)) _ _ _ (fun i d => qkv_ld m c t b 1024 hb _ r hr i d _ (by show 1024 + (0 * 256 + (d : ℕ)) = 1024 + (d : ℕ); omega)) (fun i d => qkv_ld m c t b 2048 hb _ r hr i d _ (by show 2048 + (0 * 256 + (d : ℕ)) = 2048 + (d : ℕ); omega)) (fun e d => c_ld m c t b 0 hb _ r hr 0 rfl e d) e d

/-- The new normaliser of head 0 at a point. -/
theorem norAt0 (b : ℕ) (hb : b < 2) (r : Fin 16) (hr : (r : ℕ) = t.val * 2 + b) (iG iM iK iN) (d : Fin 256) :
    headN (igCol0 (View.ld (iblk m c 1 t) (Rect.unit ![b, 0, 0] ![1, 64, 128] iG))) (igRow0 (View.ld (iblk m c 1 t) (Rect.unit ![b, 0, 0] ![1, 64, 128] iG))) (lfRow0 (View.ld (iblk m c 1 t) (Rect.unit ![b, 0, 0] ![1, 64, 128] iG))) (lfCol0 (View.ld (iblk m c 1 t) (Rect.unit ![b, 0, 0] ![1, 64, 128] iG))) (lane 0#32 (View.ld (Val := Elt Ideal) (e' := .f32) (k0_pay3 (iblk m c 6 t)) (Rect.unit ![b, 0, 0] ![1, 1, 128] iM))) (View.ld (iblk m c 0 t) (Rect.unit ![b, 0, 1024] ![1, 64, 256] iK)) (View.ld (Val := Elt Ideal) (e' := .f32) (k0_pay2 (iblk m c 5 t)) (Rect.unit ![b, 0, 0] ![1, 1, 256] iN)) (ix3 0 0 d) = (hd m c r 0).newN d :=
  Holds.N (at0 m c t b hb r hr iG iM) _ (igCol0_at _ _ (fun s => gates_ld m c t b hb _ r hr s 0)) _ _ (fun i d => qkv_ld m c t b 1024 hb _ r hr i d _ (by show 1024 + (0 * 256 + (d : ℕ)) = 1024 + (d : ℕ); omega)) (fun d => n_ld m c t b 0 hb _ r hr 0 rfl d) d

/-- The columns of head 1 at a point. -/
theorem at1 (b : ℕ) (hb : b < 2) (r : Fin 16) (hr : (r : ℕ) = t.val * 2 + b) (iG iM) : Holds (hd m c r 1) (igRow1 (View.ld (iblk m c 1 t) (Rect.unit ![b, 0, 0] ![1, 64, 128] iG))) (lfRow1 (View.ld (iblk m c 1 t) (Rect.unit ![b, 0, 0] ![1, 64, 128] iG))) (lfCol1 (View.ld (iblk m c 1 t) (Rect.unit ![b, 0, 0] ![1, 64, 128] iG))) (lane 1#32 (View.ld (Val := Elt Ideal) (e' := .f32) (k0_pay3 (iblk m c 6 t)) (Rect.unit ![b, 0, 0] ![1, 1, 128] iM))) :=
  held1 _ _ _ (fun s => gates_ld m c t b hb _ r hr s 1) (fun s => gates_ld m c t b hb _ r hr s 5) (m_ld m c t b hb _ r hr 1)

/-- The outputs of head 1 at a point. -/
theorem outAt1 (b : ℕ) (hb : b < 2) (r : Fin 16) (hr : (r : ℕ) = t.val * 2 + b) (iG iM iQ iK iV iC iN iW iY) (hF : (hd m c r 1).Finite) (i : Fin 64) (e : Fin 256) (l : Fin 3072) (hl : (l : ℕ) = 256 + (e : ℕ)) :
    headOut (igRow1 (View.ld (iblk m c 1 t) (Rect.unit ![b, 0, 0] ![1, 64, 128] iG))) (lfRow1 (View.ld (iblk m c 1 t) (Rect.unit ![b, 0, 0] ![1, 64, 128] iG))) (lfCol1 (View.ld (iblk m c 1 t) (Rect.unit ![b, 0, 0] ![1, 64, 128] iG))) (lane 1#32 (View.ld (Val := Elt Ideal) (e' := .f32) (k0_pay3 (iblk m c 6 t)) (Rect.unit ![b, 0, 0] ![1, 1, 128] iM))) (View.ld (iblk m c 0 t) (Rect.unit ![b, 0, 256] ![1, 64, 256] iQ)) (View.ld (iblk m c 0 t) (Rect.unit ![b, 0, 1280] ![1, 64, 256] iK)) (View.ld (iblk m c 0 t) (Rect.unit ![b, 0, 2304] ![1, 64, 256] iV)) (View.ld (iblk m c 4 t) (Rect.unit ![b, 1, 0, 0] ![1, 1, 256, 256] iC)) (View.ld (Val := Elt Ideal) (e' := .f32) (k0_pay2 (iblk m c 5 t)) (Rect.unit ![b, 0, 256] ![1, 1, 256] iN)) (View.ld (iblk m c 3 t) (Rect.unit ![0, 256] ![1, 256] iW)) (View.ld (iblk m c 2 t) (Rect.unit ![b, 0, 256] ![1, 64, 256] iY)) (ix3 0 i e)
      = gate (m ((c : Thread nD τ).loc main_arg2)) (ix3 r i l) * (normed ((hd m c r 1).mixed i) e * scale (m ((c : Thread nD τ).loc main_arg3)) (ix2 1 e)) := by
  refine (Holds.out (at1 m c t b hb r hr iG iM) hF _ _ _ _ _ _ _ (fun i d => qkv_ld m c t b 256 hb _ r hr i d _ (by show 1 * 256 + (d : ℕ) = 256 + (d : ℕ); omega)) (fun i d => qkv_ld m c t b 1280 hb _ r hr i d _ (by show 1024 + (1 * 256 + (d : ℕ)) = 1280 + (d : ℕ); omega)) (fun i d => qkv_ld m c t b 2304 hb _ r hr i d _ (by show 2048 + (1 * 256 + (d : ℕ)) = 2304 + (d : ℕ); omega)) (fun e d => c_ld m c t b 1 hb _ r hr 1 rfl e d) (fun d => n_ld m c t b 256 hb _ r hr 1 rfl d) i e).trans ?_
  exact congrArg₂ (fun a b : EReal => a * (normed ((hd m c r 1).mixed i) e * b)) (sig_ld m c t b 256 hb iY r hr i e l hl (by omega)) (w_ld m c t 256 iW 1 rfl e)

/-- The new matrix of head 1 at a point. -/
theorem matAt1 (b : ℕ) (hb : b < 2) (r : Fin 16) (hr : (r : ℕ) = t.val * 2 + b) (iG iM iK iV iC) (e d : Fin 256) :
    headC (igCol1 (View.ld (iblk m c 1 t) (Rect.unit ![b, 0, 0] ![1, 64, 128] iG))) (igRow1 (View.ld (iblk m c 1 t) (Rect.unit ![b, 0, 0] ![1, 64, 128] iG))) (lfRow1 (View.ld (iblk m c 1 t) (Rect.unit ![b, 0, 0] ![1, 64, 128] iG))) (lfCol1 (View.ld (iblk m c 1 t) (Rect.unit ![b, 0, 0] ![1, 64, 128] iG))) (lane 1#32 (View.ld (Val := Elt Ideal) (e' := .f32) (k0_pay3 (iblk m c 6 t)) (Rect.unit ![b, 0, 0] ![1, 1, 128] iM))) (View.ld (iblk m c 0 t) (Rect.unit ![b, 0, 1280] ![1, 64, 256] iK)) (View.ld (iblk m c 0 t) (Rect.unit ![b, 0, 2304] ![1, 64, 256] iV)) (View.ld (iblk m c 4 t) (Rect.unit ![b, 1, 0, 0] ![1, 1, 256, 256] iC)) (ix4 0 0 e d) = (hd m c r 1).newC e d :=
  Holds.C (at1 m c t b hb r hr iG iM) _ (igCol1_at _ _ (fun s => gates_ld m c t b hb _ r hr s 1)) _ _ _ (fun i d => qkv_ld m c t b 1280 hb _ r hr i d _ (by show 1024 + (1 * 256 + (d : ℕ)) = 1280 + (d : ℕ); omega)) (fun i d => qkv_ld m c t b 2304 hb _ r hr i d _ (by show 2048 + (1 * 256 + (d : ℕ)) = 2304 + (d : ℕ); omega)) (fun e d => c_ld m c t b 1 hb _ r hr 1 rfl e d) e d

/-- The new normaliser of head 1 at a point. -/
theorem norAt1 (b : ℕ) (hb : b < 2) (r : Fin 16) (hr : (r : ℕ) = t.val * 2 + b) (iG iM iK iN) (d : Fin 256) :
    headN (igCol1 (View.ld (iblk m c 1 t) (Rect.unit ![b, 0, 0] ![1, 64, 128] iG))) (igRow1 (View.ld (iblk m c 1 t) (Rect.unit ![b, 0, 0] ![1, 64, 128] iG))) (lfRow1 (View.ld (iblk m c 1 t) (Rect.unit ![b, 0, 0] ![1, 64, 128] iG))) (lfCol1 (View.ld (iblk m c 1 t) (Rect.unit ![b, 0, 0] ![1, 64, 128] iG))) (lane 1#32 (View.ld (Val := Elt Ideal) (e' := .f32) (k0_pay3 (iblk m c 6 t)) (Rect.unit ![b, 0, 0] ![1, 1, 128] iM))) (View.ld (iblk m c 0 t) (Rect.unit ![b, 0, 1280] ![1, 64, 256] iK)) (View.ld (Val := Elt Ideal) (e' := .f32) (k0_pay2 (iblk m c 5 t)) (Rect.unit ![b, 0, 256] ![1, 1, 256] iN)) (ix3 0 0 d) = (hd m c r 1).newN d :=
  Holds.N (at1 m c t b hb r hr iG iM) _ (igCol1_at _ _ (fun s => gates_ld m c t b hb _ r hr s 1)) _ _ (fun i d => qkv_ld m c t b 1280 hb _ r hr i d _ (by show 1024 + (1 * 256 + (d : ℕ)) = 1280 + (d : ℕ); omega)) (fun d => n_ld m c t b 256 hb _ r hr 1 rfl d) d

/-- The columns of head 2 at a point. -/
theorem at2 (b : ℕ) (hb : b < 2) (r : Fin 16) (hr : (r : ℕ) = t.val * 2 + b) (iG iM) : Holds (hd m c r 2) (igRow2 (View.ld (iblk m c 1 t) (Rect.unit ![b, 0, 0] ![1, 64, 128] iG))) (lfRow2 (View.ld (iblk m c 1 t) (Rect.unit ![b, 0, 0] ![1, 64, 128] iG))) (lfCol2 (View.ld (iblk m c 1 t) (Rect.unit ![b, 0, 0] ![1, 64, 128] iG))) (lane 2#32 (View.ld (Val := Elt Ideal) (e' := .f32) (k0_pay3 (iblk m c 6 t)) (Rect.unit ![b, 0, 0] ![1, 1, 128] iM))) :=
  held2 _ _ _ (fun s => gates_ld m c t b hb _ r hr s 2) (fun s => gates_ld m c t b hb _ r hr s 6) (m_ld m c t b hb _ r hr 2)

/-- The outputs of head 2 at a point. -/
theorem outAt2 (b : ℕ) (hb : b < 2) (r : Fin 16) (hr : (r : ℕ) = t.val * 2 + b) (iG iM iQ iK iV iC iN iW iY) (hF : (hd m c r 2).Finite) (i : Fin 64) (e : Fin 256) (l : Fin 3072) (hl : (l : ℕ) = 512 + (e : ℕ)) :
    headOut (igRow2 (View.ld (iblk m c 1 t) (Rect.unit ![b, 0, 0] ![1, 64, 128] iG))) (lfRow2 (View.ld (iblk m c 1 t) (Rect.unit ![b, 0, 0] ![1, 64, 128] iG))) (lfCol2 (View.ld (iblk m c 1 t) (Rect.unit ![b, 0, 0] ![1, 64, 128] iG))) (lane 2#32 (View.ld (Val := Elt Ideal) (e' := .f32) (k0_pay3 (iblk m c 6 t)) (Rect.unit ![b, 0, 0] ![1, 1, 128] iM))) (View.ld (iblk m c 0 t) (Rect.unit ![b, 0, 512] ![1, 64, 256] iQ)) (View.ld (iblk m c 0 t) (Rect.unit ![b, 0, 1536] ![1, 64, 256] iK)) (View.ld (iblk m c 0 t) (Rect.unit ![b, 0, 2560] ![1, 64, 256] iV)) (View.ld (iblk m c 4 t) (Rect.unit ![b, 2, 0, 0] ![1, 1, 256, 256] iC)) (View.ld (Val := Elt Ideal) (e' := .f32) (k0_pay2 (iblk m c 5 t)) (Rect.unit ![b, 0, 512] ![1, 1, 256] iN)) (View.ld (iblk m c 3 t) (Rect.unit ![0, 512] ![1, 256] iW)) (View.ld (iblk m c 2 t) (Rect.unit ![b, 0, 512] ![1, 64, 256] iY)) (ix3 0 i e)
      = gate (m ((c : Thread nD τ).loc main_arg2)) (ix3 r i l) * (normed ((hd m c r 2).mixed i) e * scale (m ((c : Thread nD τ).loc main_arg3)) (ix2 2 e)) := by
  refine (Holds.out (at2 m c t b hb r hr iG iM) hF _ _ _ _ _ _ _ (fun i d => qkv_ld m c t b 512 hb _ r hr i d _ (by show 2 * 256 + (d : ℕ) = 512 + (d : ℕ); omega)) (fun i d => qkv_ld m c t b 1536 hb _ r hr i d _ (by show 1024 + (2 * 256 + (d : ℕ)) = 1536 + (d : ℕ); omega)) (fun i d => qkv_ld m c t b 2560 hb _ r hr i d _ (by show 2048 + (2 * 256 + (d : ℕ)) = 2560 + (d : ℕ); omega)) (fun e d => c_ld m c t b 2 hb _ r hr 2 rfl e d) (fun d => n_ld m c t b 512 hb _ r hr 2 rfl d) i e).trans ?_
  exact congrArg₂ (fun a b : EReal => a * (normed ((hd m c r 2).mixed i) e * b)) (sig_ld m c t b 512 hb iY r hr i e l hl (by omega)) (w_ld m c t 512 iW 2 rfl e)

/-- The new matrix of head 2 at a point. -/
theorem matAt2 (b : ℕ) (hb : b < 2) (r : Fin 16) (hr : (r : ℕ) = t.val * 2 + b) (iG iM iK iV iC) (e d : Fin 256) :
    headC (igCol2 (View.ld (iblk m c 1 t) (Rect.unit ![b, 0, 0] ![1, 64, 128] iG))) (igRow2 (View.ld (iblk m c 1 t) (Rect.unit ![b, 0, 0] ![1, 64, 128] iG))) (lfRow2 (View.ld (iblk m c 1 t) (Rect.unit ![b, 0, 0] ![1, 64, 128] iG))) (lfCol2 (View.ld (iblk m c 1 t) (Rect.unit ![b, 0, 0] ![1, 64, 128] iG))) (lane 2#32 (View.ld (Val := Elt Ideal) (e' := .f32) (k0_pay3 (iblk m c 6 t)) (Rect.unit ![b, 0, 0] ![1, 1, 128] iM))) (View.ld (iblk m c 0 t) (Rect.unit ![b, 0, 1536] ![1, 64, 256] iK)) (View.ld (iblk m c 0 t) (Rect.unit ![b, 0, 2560] ![1, 64, 256] iV)) (View.ld (iblk m c 4 t) (Rect.unit ![b, 2, 0, 0] ![1, 1, 256, 256] iC)) (ix4 0 0 e d) = (hd m c r 2).newC e d :=
  Holds.C (at2 m c t b hb r hr iG iM) _ (igCol2_at _ _ (fun s => gates_ld m c t b hb _ r hr s 2)) _ _ _ (fun i d => qkv_ld m c t b 1536 hb _ r hr i d _ (by show 1024 + (2 * 256 + (d : ℕ)) = 1536 + (d : ℕ); omega)) (fun i d => qkv_ld m c t b 2560 hb _ r hr i d _ (by show 2048 + (2 * 256 + (d : ℕ)) = 2560 + (d : ℕ); omega)) (fun e d => c_ld m c t b 2 hb _ r hr 2 rfl e d) e d

/-- The new normaliser of head 2 at a point. -/
theorem norAt2 (b : ℕ) (hb : b < 2) (r : Fin 16) (hr : (r : ℕ) = t.val * 2 + b) (iG iM iK iN) (d : Fin 256) :
    headN (igCol2 (View.ld (iblk m c 1 t) (Rect.unit ![b, 0, 0] ![1, 64, 128] iG))) (igRow2 (View.ld (iblk m c 1 t) (Rect.unit ![b, 0, 0] ![1, 64, 128] iG))) (lfRow2 (View.ld (iblk m c 1 t) (Rect.unit ![b, 0, 0] ![1, 64, 128] iG))) (lfCol2 (View.ld (iblk m c 1 t) (Rect.unit ![b, 0, 0] ![1, 64, 128] iG))) (lane 2#32 (View.ld (Val := Elt Ideal) (e' := .f32) (k0_pay3 (iblk m c 6 t)) (Rect.unit ![b, 0, 0] ![1, 1, 128] iM))) (View.ld (iblk m c 0 t) (Rect.unit ![b, 0, 1536] ![1, 64, 256] iK)) (View.ld (Val := Elt Ideal) (e' := .f32) (k0_pay2 (iblk m c 5 t)) (Rect.unit ![b, 0, 512] ![1, 1, 256] iN)) (ix3 0 0 d) = (hd m c r 2).newN d :=
  Holds.N (at2 m c t b hb r hr iG iM) _ (igCol2_at _ _ (fun s => gates_ld m c t b hb _ r hr s 2)) _ _ (fun i d => qkv_ld m c t b 1536 hb _ r hr i d _ (by show 1024 + (2 * 256 + (d : ℕ)) = 1536 + (d : ℕ); omega)) (fun d => n_ld m c t b 512 hb _ r hr 2 rfl d) d

/-- The columns of head 3 at a point. -/
theorem at3 (b : ℕ) (hb : b < 2) (r : Fin 16) (hr : (r : ℕ) = t.val * 2 + b) (iG iM) : Holds (hd m c r 3) (igRow3 (View.ld (iblk m c 1 t) (Rect.unit ![b, 0, 0] ![1, 64, 128] iG))) (lfRow3 (View.ld (iblk m c 1 t) (Rect.unit ![b, 0, 0] ![1, 64, 128] iG))) (lfCol3 (View.ld (iblk m c 1 t) (Rect.unit ![b, 0, 0] ![1, 64, 128] iG))) (lane 3#32 (View.ld (Val := Elt Ideal) (e' := .f32) (k0_pay3 (iblk m c 6 t)) (Rect.unit ![b, 0, 0] ![1, 1, 128] iM))) :=
  held3 _ _ _ (fun s => gates_ld m c t b hb _ r hr s 3) (fun s => gates_ld m c t b hb _ r hr s 7) (m_ld m c t b hb _ r hr 3)

/-- The outputs of head 3 at a point. -/
theorem outAt3 (b : ℕ) (hb : b < 2) (r : Fin 16) (hr : (r : ℕ) = t.val * 2 + b) (iG iM iQ iK iV iC iN iW iY) (hF : (hd m c r 3).Finite) (i : Fin 64) (e : Fin 256) (l : Fin 3072) (hl : (l : ℕ) = 768 + (e : ℕ)) :
    headOut (igRow3 (View.ld (iblk m c 1 t) (Rect.unit ![b, 0, 0] ![1, 64, 128] iG))) (lfRow3 (View.ld (iblk m c 1 t) (Rect.unit ![b, 0, 0] ![1, 64, 128] iG))) (lfCol3 (View.ld (iblk m c 1 t) (Rect.unit ![b, 0, 0] ![1, 64, 128] iG))) (lane 3#32 (View.ld (Val := Elt Ideal) (e' := .f32) (k0_pay3 (iblk m c 6 t)) (Rect.unit ![b, 0, 0] ![1, 1, 128] iM))) (View.ld (iblk m c 0 t) (Rect.unit ![b, 0, 768] ![1, 64, 256] iQ)) (View.ld (iblk m c 0 t) (Rect.unit ![b, 0, 1792] ![1, 64, 256] iK)) (View.ld (iblk m c 0 t) (Rect.unit ![b, 0, 2816] ![1, 64, 256] iV)) (View.ld (iblk m c 4 t) (Rect.unit ![b, 3, 0, 0] ![1, 1, 256, 256] iC)) (View.ld (Val := Elt Ideal) (e' := .f32) (k0_pay2 (iblk m c 5 t)) (Rect.unit ![b, 0, 768] ![1, 1, 256] iN)) (View.ld (iblk m c 3 t) (Rect.unit ![0, 768] ![1, 256] iW)) (View.ld (iblk m c 2 t) (Rect.unit ![b, 0, 768] ![1, 64, 256] iY)) (ix3 0 i e)
      = gate (m ((c : Thread nD τ).loc main_arg2)) (ix3 r i l) * (normed ((hd m c r 3).mixed i) e * scale (m ((c : Thread nD τ).loc main_arg3)) (ix2 3 e)) := by
  refine (Holds.out (at3 m c t b hb r hr iG iM) hF _ _ _ _ _ _ _ (fun i d => qkv_ld m c t b 768 hb _ r hr i d _ (by show 3 * 256 + (d : ℕ) = 768 + (d : ℕ); omega)) (fun i d => qkv_ld m c t b 1792 hb _ r hr i d _ (by show 1024 + (3 * 256 + (d : ℕ)) = 1792 + (d : ℕ); omega)) (fun i d => qkv_ld m c t b 2816 hb _ r hr i d _ (by show 2048 + (3 * 256 + (d : ℕ)) = 2816 + (d : ℕ); omega)) (fun e d => c_ld m c t b 3 hb _ r hr 3 rfl e d) (fun d => n_ld m c t b 768 hb _ r hr 3 rfl d) i e).trans ?_
  exact congrArg₂ (fun a b : EReal => a * (normed ((hd m c r 3).mixed i) e * b)) (sig_ld m c t b 768 hb iY r hr i e l hl (by omega)) (w_ld m c t 768 iW 3 rfl e)

/-- The new matrix of head 3 at a point. -/
theorem matAt3 (b : ℕ) (hb : b < 2) (r : Fin 16) (hr : (r : ℕ) = t.val * 2 + b) (iG iM iK iV iC) (e d : Fin 256) :
    headC (igCol3 (View.ld (iblk m c 1 t) (Rect.unit ![b, 0, 0] ![1, 64, 128] iG))) (igRow3 (View.ld (iblk m c 1 t) (Rect.unit ![b, 0, 0] ![1, 64, 128] iG))) (lfRow3 (View.ld (iblk m c 1 t) (Rect.unit ![b, 0, 0] ![1, 64, 128] iG))) (lfCol3 (View.ld (iblk m c 1 t) (Rect.unit ![b, 0, 0] ![1, 64, 128] iG))) (lane 3#32 (View.ld (Val := Elt Ideal) (e' := .f32) (k0_pay3 (iblk m c 6 t)) (Rect.unit ![b, 0, 0] ![1, 1, 128] iM))) (View.ld (iblk m c 0 t) (Rect.unit ![b, 0, 1792] ![1, 64, 256] iK)) (View.ld (iblk m c 0 t) (Rect.unit ![b, 0, 2816] ![1, 64, 256] iV)) (View.ld (iblk m c 4 t) (Rect.unit ![b, 3, 0, 0] ![1, 1, 256, 256] iC)) (ix4 0 0 e d) = (hd m c r 3).newC e d :=
  Holds.C (at3 m c t b hb r hr iG iM) _ (igCol3_at _ _ (fun s => gates_ld m c t b hb _ r hr s 3)) _ _ _ (fun i d => qkv_ld m c t b 1792 hb _ r hr i d _ (by show 1024 + (3 * 256 + (d : ℕ)) = 1792 + (d : ℕ); omega)) (fun i d => qkv_ld m c t b 2816 hb _ r hr i d _ (by show 2048 + (3 * 256 + (d : ℕ)) = 2816 + (d : ℕ); omega)) (fun e d => c_ld m c t b 3 hb _ r hr 3 rfl e d) e d

/-- The new normaliser of head 3 at a point. -/
theorem norAt3 (b : ℕ) (hb : b < 2) (r : Fin 16) (hr : (r : ℕ) = t.val * 2 + b) (iG iM iK iN) (d : Fin 256) :
    headN (igCol3 (View.ld (iblk m c 1 t) (Rect.unit ![b, 0, 0] ![1, 64, 128] iG))) (igRow3 (View.ld (iblk m c 1 t) (Rect.unit ![b, 0, 0] ![1, 64, 128] iG))) (lfRow3 (View.ld (iblk m c 1 t) (Rect.unit ![b, 0, 0] ![1, 64, 128] iG))) (lfCol3 (View.ld (iblk m c 1 t) (Rect.unit ![b, 0, 0] ![1, 64, 128] iG))) (lane 3#32 (View.ld (Val := Elt Ideal) (e' := .f32) (k0_pay3 (iblk m c 6 t)) (Rect.unit ![b, 0, 0] ![1, 1, 128] iM))) (View.ld (iblk m c 0 t) (Rect.unit ![b, 0, 1792] ![1, 64, 256] iK)) (View.ld (Val := Elt Ideal) (e' := .f32) (k0_pay2 (iblk m c 5 t)) (Rect.unit ![b, 0, 768] ![1, 1, 256] iN)) (ix3 0 0 d) = (hd m c r 3).newN d :=
  Holds.N (at3 m c t b hb r hr iG iM) _ (igCol3_at _ _ (fun s => gates_ld m c t b hb _ r hr s 3)) _ _ (fun i d => qkv_ld m c t b 1792 hb _ r hr i d _ (by show 1024 + (3 * 256 + (d : ℕ)) = 1792 + (d : ℕ); omega)) (fun d => n_ld m c t b 768 hb _ r hr 3 rfl d) d

/-- Two small words are equal when their numbers are. -/
theorem word_eq (l : Fin 128) (k : ℕ) (hk : k < 128) : (BitVec.ofNat 32 (l : ℕ) = BitVec.ofNat 32 k) ↔ (l : ℕ) = k := by
  constructor
  · intro h
    have h' := congrArg BitVec.toNat h
    simp only [BitVec.toNat_ofNat] at h'
    have := l.isLt
    omega
  · intro h
    rw [h]

/-- The new exponents of a row at a point. -/
theorem expsAt (b : ℕ) (hb : b < 2) (r : Fin 16) (hr : (r : ℕ) = t.val * 2 + b) (iG iM) (l : Fin 128) :
    shapeCast S1x1x128 (headM 3#32 (MlstmProof.tops (igRow3 (View.ld (iblk m c 1 t) (Rect.unit ![b, 0, 0] ![1, 64, 128] iG))) (lfRow3 (View.ld (iblk m c 1 t) (Rect.unit ![b, 0, 0] ![1, 64, 128] iG))) (lfCol3 (View.ld (iblk m c 1 t) (Rect.unit ![b, 0, 0] ![1, 64, 128] iG))) (lane 3#32 (View.ld (Val := Elt Ideal) (e' := .f32) (k0_pay3 (iblk m c 6 t)) (Rect.unit ![b, 0, 0] ![1, 1, 128] iM)))) (headM 2#32 (MlstmProof.tops (igRow2 (View.ld (iblk m c 1 t) (Rect.unit ![b, 0, 0] ![1, 64, 128] iG))) (lfRow2 (View.ld (iblk m c 1 t) (Rect.unit ![b, 0, 0] ![1, 64, 128] iG))) (lfCol2 (View.ld (iblk m c 1 t) (Rect.unit ![b, 0, 0] ![1, 64, 128] iG))) (lane 2#32 (View.ld (Val := Elt Ideal) (e' := .f32) (k0_pay3 (iblk m c 6 t)) (Rect.unit ![b, 0, 0] ![1, 1, 128] iM)))) (headM 1#32 (MlstmProof.tops (igRow1 (View.ld (iblk m c 1 t) (Rect.unit ![b, 0, 0] ![1, 64, 128] iG))) (lfRow1 (View.ld (iblk m c 1 t) (Rect.unit ![b, 0, 0] ![1, 64, 128] iG))) (lfCol1 (View.ld (iblk m c 1 t) (Rect.unit ![b, 0, 0] ![1, 64, 128] iG))) (lane 1#32 (View.ld (Val := Elt Ideal) (e' := .f32) (k0_pay3 (iblk m c 6 t)) (Rect.unit ![b, 0, 0] ![1, 1, 128] iM)))) (headM 0#32 (MlstmProof.tops (igRow0 (View.ld (iblk m c 1 t) (Rect.unit ![b, 0, 0] ![1, 64, 128] iG))) (lfRow0 (View.ld (iblk m c 1 t) (Rect.unit ![b, 0, 0] ![1, 64, 128] iG))) (lfCol0 (View.ld (iblk m c 1 t) (Rect.unit ![b, 0, 0] ![1, 64, 128] iG))) (lane 0#32 (View.ld (Val := Elt Ideal) (e' := .f32) (k0_pay3 (iblk m c 6 t)) (Rect.unit ![b, 0, 0] ![1, 1, 128] iM)))) (k0_pay7 (View.ld (Val := Elt Ideal) (e' := .f32) (k0_pay3 (iblk m c 6 t)) (Rect.unit ![b, 0, 0] ![1, 1, 128] iM))))))) shapeCasts_S1x128_S1x1x128 (ix3 0 0 l) = if h : (l : ℕ) < 4 then (hd m c r ⟨(l : ℕ), h⟩).top 63 else 0 := by
  refine Eq.trans (b := (headM 3#32 (MlstmProof.tops (igRow3 (View.ld (iblk m c 1 t) (Rect.unit ![b, 0, 0] ![1, 64, 128] iG))) (lfRow3 (View.ld (iblk m c 1 t) (Rect.unit ![b, 0, 0] ![1, 64, 128] iG))) (lfCol3 (View.ld (iblk m c 1 t) (Rect.unit ![b, 0, 0] ![1, 64, 128] iG))) (lane 3#32 (View.ld (Val := Elt Ideal) (e' := .f32) (k0_pay3 (iblk m c 6 t)) (Rect.unit ![b, 0, 0] ![1, 1, 128] iM)))) (headM 2#32 (MlstmProof.tops (igRow2 (View.ld (iblk m c 1 t) (Rect.unit ![b, 0, 0] ![1, 64, 128] iG))) (lfRow2 (View.ld (iblk m c 1 t) (Rect.unit ![b, 0, 0] ![1, 64, 128] iG))) (lfCol2 (View.ld (iblk m c 1 t) (Rect.unit ![b, 0, 0] ![1, 64, 128] iG))) (lane 2#32 (View.ld (Val := Elt Ideal) (e' := .f32) (k0_pay3 (iblk m c 6 t)) (Rect.unit ![b, 0, 0] ![1, 1, 128] iM)))) (headM 1#32 (MlstmProof.tops (igRow1 (View.ld (iblk m c 1 t) (Rect.unit ![b, 0, 0] ![1, 64, 128] iG))) (lfRow1 (View.ld (iblk m c 1 t) (Rect.unit ![b, 0, 0] ![1, 64, 128] iG))) (lfCol1 (View.ld (iblk m c 1 t) (Rect.unit ![b, 0, 0] ![1, 64, 128] iG))) (lane 1#32 (View.ld (Val := Elt Ideal) (e' := .f32) (k0_pay3 (iblk m c 6 t)) (Rect.unit ![b, 0, 0] ![1, 1, 128] iM)))) (headM 0#32 (MlstmProof.tops (igRow0 (View.ld (iblk m c 1 t) (Rect.unit ![b, 0, 0] ![1, 64, 128] iG))) (lfRow0 (View.ld (iblk m c 1 t) (Rect.unit ![b, 0, 0] ![1, 64, 128] iG))) (lfCol0 (View.ld (iblk m c 1 t) (Rect.unit ![b, 0, 0] ![1, 64, 128] iG))) (lane 0#32 (View.ld (Val := Elt Ideal) (e' := .f32) (k0_pay3 (iblk m c 6 t)) (Rect.unit ![b, 0, 0] ![1, 1, 128] iM)))) (k0_pay7 (View.ld (Val := Elt Ideal) (e' := .f32) (k0_pay3 (iblk m c 6 t)) (Rect.unit ![b, 0, 0] ![1, 1, 128] iM))))))) (ix2 0 l)) (by generalize (headM 3#32 (MlstmProof.tops (igRow3 (View.ld (iblk m c 1 t) (Rect.unit ![b, 0, 0] ![1, 64, 128] iG))) (lfRow3 (View.ld (iblk m c 1 t) (Rect.unit ![b, 0, 0] ![1, 64, 128] iG))) (lfCol3 (View.ld (iblk m c 1 t) (Rect.unit ![b, 0, 0] ![1, 64, 128] iG))) (lane 3#32 (View.ld (Val := Elt Ideal) (e' := .f32) (k0_pay3 (iblk m c 6 t)) (Rect.unit ![b, 0, 0] ![1, 1, 128] iM)))) (headM 2#32 (MlstmProof.tops (igRow2 (View.ld (iblk m c 1 t) (Rect.unit ![b, 0, 0] ![1, 64, 128] iG))) (lfRow2 (View.ld (iblk m c 1 t) (Rect.unit ![b, 0, 0] ![1, 64, 128] iG))) (lfCol2 (View.ld (iblk m c 1 t) (Rect.unit ![b, 0, 0] ![1, 64, 128] iG))) (lane 2#32 (View.ld (Val := Elt Ideal) (e' := .f32) (k0_pay3 (iblk m c 6 t)) (Rect.unit ![b, 0, 0] ![1, 1, 128] iM)))) (headM 1#32 (MlstmProof.tops (igRow1 (View.ld (iblk m c 1 t) (Rect.unit ![b, 0, 0] ![1, 64, 128] iG))) (lfRow1 (View.ld (iblk m c 1 t) (Rect.unit ![b, 0, 0] ![1, 64, 128] iG))) (lfCol1 (View.ld (iblk m c 1 t) (Rect.unit ![b, 0, 0] ![1, 64, 128] iG))) (lane 1#32 (View.ld (Val := Elt Ideal) (e' := .f32) (k0_pay3 (iblk m c 6 t)) (Rect.unit ![b, 0, 0] ![1, 1, 128] iM)))) (headM 0#32 (MlstmProof.tops (igRow0 (View.ld (iblk m c 1 t) (Rect.unit ![b, 0, 0] ![1, 64, 128] iG))) (lfRow0 (View.ld (iblk m c 1 t) (Rect.unit ![b, 0, 0] ![1, 64, 128] iG))) (lfCol0 (View.ld (iblk m c 1 t) (Rect.unit ![b, 0, 0] ![1, 64, 128] iG))) (lane 0#32 (View.ld (Val := Elt Ideal) (e' := .f32) (k0_pay3 (iblk m c 6 t)) (Rect.unit ![b, 0, 0] ![1, 1, 128] iM)))) (k0_pay7 (View.ld (Val := Elt Ideal) (e' := .f32) (k0_pay3 (iblk m c 6 t)) (Rect.unit ![b, 0, 0] ![1, 1, 128] iM))))))) = X; pointwise) ?_
  rw [headM_at, headM_at, headM_at, headM_at, Holds.tops (at0 m c t b hb r hr iG iM), Holds.tops (at1 m c t b hb r hr iG iM), Holds.tops (at2 m c t b hb r hr iG iM), Holds.tops (at3 m c t b hb r hr iG iM)]
  rw [if_congr (word_eq l 3 (by omega)) rfl rfl, if_congr (word_eq l 2 (by omega)) rfl rfl, if_congr (word_eq l 1 (by omega)) rfl rfl, if_congr (word_eq l 0 (by omega)) rfl rfl]
  by_cases h : (l : ℕ) < 4
  · rw [dif_pos h]
    have h' : (l : ℕ) = 0 ∨ (l : ℕ) = 1 ∨ (l : ℕ) = 2 ∨ (l : ℕ) = 3 := by omega
    obtain ⟨l, hl⟩ := l
    rcases h' with h' | h' | h' | h' <;> (dsimp only at h'; subst h'; rfl)
  · rw [dif_neg h, if_neg (by omega), if_neg (by omega), if_neg (by omega), if_neg (by omega)]
    refine Eq.trans ?_ ((m_ld m c t b hb iM r hr l).trans (dif_neg h))
    generalize (View.ld (Val := Elt Ideal) (e' := .f32) (k0_pay3 (iblk m c 6 t)) (Rect.unit ![b, 0, 0] ![1, 1, 128] iM)) = X
    pointwise [k0_pay7]

end Cert.MlstmProof

end
-- ==== Proof.MlstmOut.lean ====
/- The gated outputs that the mLSTM kernel leaves. -/
module

public import proofs.«01_k».proof.Proof.MlstmParts
public import Idealize.ShloMosaic.Lib.Pipeline.ReadBack

@[expose] public section

set_option maxRecDepth 16384

noncomputable section

namespace Cert.MlstmProof

open Idealize.ShloMosaic Idealize.ShloMosaic.TcCoe Idealize.SL.Sem
open Cert.MlstmIdeal Cert.MlstmIdeal.Gen

variable (m : (ℓ : Loc nD τ sig) → Buf (Elt Ideal) ℓ) (c : Dev nD)

set_option maxHeartbeats 1600000 in
/-- The gated outputs that the mLSTM kernel leaves. -/
theorem final_out (hF : ∀ r h, (hd m c r h).Finite) (G : FVec Ideal S16x64x1024 .bf16)
    (hG : ∀ (r : Fin 16) (i : Fin 64) (h : Fin 4) (e : Fin 256), G (ix3 r i ⟨(h : ℕ) * 256 + (e : ℕ), by omega⟩)
      = gate (m ((c : Thread nD τ).loc main_arg2)) (ix3 r i ⟨(h : ℕ) * 256 + (e : ℕ), by omega⟩) * (normed ((hd m c r h).mixed i) e * scale (m ((c : Thread nD τ).loc main_arg3)) (ix2 h e))) :
    (dats m 0 c).arrAt 7 (cfgs 0).N = G := by
  refine (dats m 0 c).arrAt_eq_of_covers 7 _ (by decide +kernel) fun t _ y => ?_
  have hN : t.val < 8 := t.isLt
  blk_simp
  rw [after0_7]
  unfold Gen.outsAt0
  frame_open
  simp (disch := decide) only [↓ View.readCov_skip, ↓ View.readCov_cons_toLoadRect, ↓ View.readCov_fill]
  frame_out
  canon_tiles x h
  case piece0 =>
    refine (congrFun (out13 _ _ _ _ _ _ _ _ _) x).trans ?_
    refine Eq.trans (congrArg _ (show x = ix3 0 ⟨(x 1 : ℕ), by omega⟩ ⟨(x 2 : ℕ), by omega⟩ from by blk_ext)) ?_
    refine (outAt3 m c t 1 (by omega) ⟨t.val * 2 + 1, by omega⟩ rfl _ _ _ _ _ _ _ _ _ (hF _ _) ⟨(x 1 : ℕ), by omega⟩ ⟨(x 2 : ℕ), by omega⟩ ⟨3 * 256 + (x 2 : ℕ), by omega⟩ (by show 3 * 256 + (x 2 : ℕ) = 768 + (x 2 : ℕ); omega)).trans ?_
    refine (hG ⟨t.val * 2 + 1, by omega⟩ ⟨(x 1 : ℕ), by omega⟩ 3 ⟨(x 2 : ℕ), by omega⟩).symm.trans (congrArg G ?_)
    blk_ext [idx t]
  case piece1 =>
    refine (congrFun (out12 _ _ _ _ _ _ _ _ _) x).trans ?_
    refine Eq.trans (congrArg _ (show x = ix3 0 ⟨(x 1 : ℕ), by omega⟩ ⟨(x 2 : ℕ), by omega⟩ from by blk_ext)) ?_
    refine (outAt2 m c t 1 (by omega) ⟨t.val * 2 + 1, by omega⟩ rfl _ _ _ _ _ _ _ _ _ (hF _ _) ⟨(x 1 : ℕ), by omega⟩ ⟨(x 2 : ℕ), by omega⟩ ⟨2 * 256 + (x 2 : ℕ), by omega⟩ (by show 2 * 256 + (x 2 : ℕ) = 512 + (x 2 : ℕ); omega)).trans ?_
    refine (hG ⟨t.val * 2 + 1, by omega⟩ ⟨(x 1 : ℕ), by omega⟩ 2 ⟨(x 2 : ℕ), by omega⟩).symm.trans (congrArg G ?_)
    blk_ext [idx t]
  case piece2 =>
    refine (congrFun (out11 _ _ _ _ _ _ _ _ _) x).trans ?_
    refine Eq.trans (congrArg _ (show x = ix3 0 ⟨(x 1 : ℕ), by omega⟩ ⟨(x 2 : ℕ), by omega⟩ from by blk_ext)) ?_
    refine (outAt1 m c t 1 (by omega) ⟨t.val * 2 + 1, by omega⟩ rfl _ _ _ _ _ _ _ _ _ (hF _ _) ⟨(x 1 : ℕ), by omega⟩ ⟨(x 2 : ℕ), by omega⟩ ⟨1 * 256 + (x 2 : ℕ), by omega⟩ (by show 1 * 256 + (x 2 : ℕ) = 256 + (x 2 : ℕ); omega)).trans ?_
    refine (hG ⟨t.val * 2 + 1, by omega⟩ ⟨(x 1 : ℕ), by omega⟩ 1 ⟨(x 2 : ℕ), by omega⟩).symm.trans (congrArg G ?_)
    blk_ext [idx t]
  case piece3 =>
    refine (congrFun (out10 _ _ _ _ _ _ _ _ _) x).trans ?_
    refine Eq.trans (congrArg _ (show x = ix3 0 ⟨(x 1 : ℕ), by omega⟩ ⟨(x 2 : ℕ), by omega⟩ from by blk_ext)) ?_
    refine (outAt0 m c t 1 (by omega) ⟨t.val * 2 + 1, by omega⟩ rfl _ _ _ _ _ _ _ _ _ (hF _ _) ⟨(x 1 : ℕ), by omega⟩ ⟨(x 2 : ℕ), by omega⟩ ⟨0 * 256 + (x 2 : ℕ), by omega⟩ (by show 0 * 256 + (x 2 : ℕ) = 0 + (x 2 : ℕ); omega)).trans ?_
    refine (hG ⟨t.val * 2 + 1, by omega⟩ ⟨(x 1 : ℕ), by omega⟩ 0 ⟨(x 2 : ℕ), by omega⟩).symm.trans (congrArg G ?_)
    blk_ext [idx t]
  case piece4 =>
    refine (congrFun (out03 _ _ _ _ _ _ _ _ _) x).trans ?_
    refine Eq.trans (congrArg _ (show x = ix3 0 ⟨(x 1 : ℕ), by omega⟩ ⟨(x 2 : ℕ), by omega⟩ from by blk_ext)) ?_
    refine (outAt3 m c t 0 (by omega) ⟨t.val * 2 + 0, by omega⟩ rfl _ _ _ _ _ _ _ _ _ (hF _ _) ⟨(x 1 : ℕ), by omega⟩ ⟨(x 2 : ℕ), by omega⟩ ⟨3 * 256 + (x 2 : ℕ), by omega⟩ (by show 3 * 256 + (x 2 : ℕ) = 768 + (x 2 : ℕ); omega)).trans ?_
    refine (hG ⟨t.val * 2 + 0, by omega⟩ ⟨(x 1 : ℕ), by omega⟩ 3 ⟨(x 2 : ℕ), by omega⟩).symm.trans (congrArg G ?_)
    blk_ext [idx t]
  case piece5 =>
    refine (congrFun (out02 _ _ _ _ _ _ _ _ _) x).trans ?_
    refine Eq.trans (congrArg _ (show x = ix3 0 ⟨(x 1 : ℕ), by omega⟩ ⟨(x 2 : ℕ), by omega⟩ from by blk_ext)) ?_
    refine (outAt2 m c t 0 (by omega) ⟨t.val * 2 + 0, by omega⟩ rfl _ _ _ _ _ _ _ _ _ (hF _ _) ⟨(x 1 : ℕ), by omega⟩ ⟨(x 2 : ℕ), by omega⟩ ⟨2 * 256 + (x 2 : ℕ), by omega⟩ (by show 2 * 256 + (x 2 : ℕ) = 512 + (x 2 : ℕ); omega)).trans ?_
    refine (hG ⟨t.val * 2 + 0, by omega⟩ ⟨(x 1 : ℕ), by omega⟩ 2 ⟨(x 2 : ℕ), by omega⟩).symm.trans (congrArg G ?_)
    blk_ext [idx t]
  case piece6 =>
    refine (congrFun (out01 _ _ _ _ _ _ _ _ _) x).trans ?_
    refine Eq.trans (congrArg _ (show x = ix3 0 ⟨(x 1 : ℕ), by omega⟩ ⟨(x 2 : ℕ), by omega⟩ from by blk_ext)) ?_
    refine (outAt1 m c t 0 (by omega) ⟨t.val * 2 + 0, by omega⟩ rfl _ _ _ _ _ _ _ _ _ (hF _ _) ⟨(x 1 : ℕ), by omega⟩ ⟨(x 2 : ℕ), by omega⟩ ⟨1 * 256 + (x 2 : ℕ), by omega⟩ (by show 1 * 256 + (x 2 : ℕ) = 256 + (x 2 : ℕ); omega)).trans ?_
    refine (hG ⟨t.val * 2 + 0, by omega⟩ ⟨(x 1 : ℕ), by omega⟩ 1 ⟨(x 2 : ℕ), by omega⟩).symm.trans (congrArg G ?_)
    blk_ext [idx t]
  case piece7 =>
    refine (congrFun (out00 _ _ _ _ _ _ _ _ _) x).trans ?_
    refine Eq.trans (congrArg _ (show x = ix3 0 ⟨(x 1 : ℕ), by omega⟩ ⟨(x 2 : ℕ), by omega⟩ from by blk_ext)) ?_
    refine (outAt0 m c t 0 (by omega) ⟨t.val * 2 + 0, by omega⟩ rfl _ _ _ _ _ _ _ _ _ (hF _ _) ⟨(x 1 : ℕ), by omega⟩ ⟨(x 2 : ℕ), by omega⟩ ⟨0 * 256 + (x 2 : ℕ), by omega⟩ (by show 0 * 256 + (x 2 : ℕ) = 0 + (x 2 : ℕ); omega)).trans ?_
    refine (hG ⟨t.val * 2 + 0, by omega⟩ ⟨(x 1 : ℕ), by omega⟩ 0 ⟨(x 2 : ℕ), by omega⟩).symm.trans (congrArg G ?_)
    blk_ext [idx t]

end Cert.MlstmProof

end
-- ==== Proof.MlstmMat.lean ====
/- The matrices that the mLSTM kernel leaves. -/
module

public import proofs.«01_k».proof.Proof.MlstmParts
public import Idealize.ShloMosaic.Lib.Pipeline.ReadBack

@[expose] public section

set_option maxRecDepth 16384

noncomputable section

namespace Cert.MlstmProof

open Idealize.ShloMosaic Idealize.ShloMosaic.TcCoe Idealize.SL.Sem
open Cert.MlstmIdeal Cert.MlstmIdeal.Gen

variable (m : (ℓ : Loc nD τ sig) → Buf (Elt Ideal) ℓ) (c : Dev nD)

set_option maxHeartbeats 1600000 in
/-- The matrices that the mLSTM kernel leaves. -/
theorem final_mat (G : FVec Ideal S16x4x256x256 .f32) (hG : ∀ (r : Fin 16) (h : Fin 4) (e d : Fin 256), G (ix4 r h e d) = (hd m c r h).newC e d) :
    (dats m 0 c).arrAt 8 (cfgs 0).N = G := by
  refine (dats m 0 c).arrAt_eq_of_covers 8 _ (by decide +kernel) fun t _ y => ?_
  have hN : t.val < 8 := t.isLt
  blk_simp
  rw [after0_8]
  unfold Gen.outsAt0
  frame_open
  simp (disch := decide) only [↓ View.readCov_skip, ↓ View.readCov_cons_toLoadRect, ↓ View.readCov_fill]
  frame_out
  refine View.canon_append_of_piecesOf (Val := Elt Ideal) (s := S2x4x256x256) (e := .f32) (fun y => G (((View.whole main_v4_1).slice (win0_8.rect t)).emb y)) [_] [_, _, _, _, _, _, _, _] ⟨?_, ?_, ?_, ?_, ?_, ?_, ?_, ?_, trivial⟩ y ?cover
  case cover => exact View.cover_of_tiled_head (S := S2x4x256x256) _ _ _ (by set_option maxRecDepth 1000000 in rfl) y
  · intro x
    have x2_lt : (x 2 : ℕ) < 256 := (x 2).isLt
    have x3_lt : (x 3 : ℕ) < 256 := (x 3).isLt
    refine (congrFun (mat13 _ _ _ _ _) x).trans ?_
    refine Eq.trans (congrArg _ (show x = ix4 0 0 ⟨(x 2 : ℕ), by omega⟩ ⟨(x 3 : ℕ), by omega⟩ from by blk_ext)) ?_
    refine (matAt3 m c t 1 (by omega) ⟨t.val * 2 + 1, by omega⟩ rfl _ _ _ _ _ ⟨(x 2 : ℕ), by omega⟩ ⟨(x 3 : ℕ), by omega⟩).trans ?_
    refine (hG ⟨t.val * 2 + 1, by omega⟩ 3 ⟨(x 2 : ℕ), by omega⟩ ⟨(x 3 : ℕ), by omega⟩).symm.trans (congrArg G ?_)
    blk_ext [idx t]
  · intro x
    have x2_lt : (x 2 : ℕ) < 256 := (x 2).isLt
    have x3_lt : (x 3 : ℕ) < 256 := (x 3).isLt
    refine (congrFun (mat12 _ _ _ _ _) x).trans ?_
    refine Eq.trans (congrArg _ (show x = ix4 0 0 ⟨(x 2 : ℕ), by omega⟩ ⟨(x 3 : ℕ), by omega⟩ from by blk_ext)) ?_
    refine (matAt2 m c t 1 (by omega) ⟨t.val * 2 + 1, by omega⟩ rfl _ _ _ _ _ ⟨(x 2 : ℕ), by omega⟩ ⟨(x 3 : ℕ), by omega⟩).trans ?_
    refine (hG ⟨t.val * 2 + 1, by omega⟩ 2 ⟨(x 2 : ℕ), by omega⟩ ⟨(x 3 : ℕ), by omega⟩).symm.trans (congrArg G ?_)
    blk_ext [idx t]
  · intro x
    have x2_lt : (x 2 : ℕ) < 256 := (x 2).isLt
    have x3_lt : (x 3 : ℕ) < 256 := (x 3).isLt
    refine (congrFun (mat11 _ _ _ _ _) x).trans ?_
    refine Eq.trans (congrArg _ (show x = ix4 0 0 ⟨(x 2 : ℕ), by omega⟩ ⟨(x 3 : ℕ), by omega⟩ from by blk_ext)) ?_
    refine (matAt1 m c t 1 (by omega) ⟨t.val * 2 + 1, by omega⟩ rfl _ _ _ _ _ ⟨(x 2 : ℕ), by omega⟩ ⟨(x 3 : ℕ), by omega⟩).trans ?_
    refine (hG ⟨t.val * 2 + 1, by omega⟩ 1 ⟨(x 2 : ℕ), by omega⟩ ⟨(x 3 : ℕ), by omega⟩).symm.trans (congrArg G ?_)
    blk_ext [idx t]
  · intro x
    have x2_lt : (x 2 : ℕ) < 256 := (x 2).isLt
    have x3_lt : (x 3 : ℕ) < 256 := (x 3).isLt
    refine (congrFun (mat10 _ _ _ _ _) x).trans ?_
    refine Eq.trans (congrArg _ (show x = ix4 0 0 ⟨(x 2 : ℕ), by omega⟩ ⟨(x 3 : ℕ), by omega⟩ from by blk_ext)) ?_
    refine (matAt0 m c t 1 (by omega) ⟨t.val * 2 + 1, by omega⟩ rfl _ _ _ _ _ ⟨(x 2 : ℕ), by omega⟩ ⟨(x 3 : ℕ), by omega⟩).trans ?_
    refine (hG ⟨t.val * 2 + 1, by omega⟩ 0 ⟨(x 2 : ℕ), by omega⟩ ⟨(x 3 : ℕ), by omega⟩).symm.trans (congrArg G ?_)
    blk_ext [idx t]
  · intro x
    have x2_lt : (x 2 : ℕ) < 256 := (x 2).isLt
    have x3_lt : (x 3 : ℕ) < 256 := (x 3).isLt
    refine (congrFun (mat03 _ _ _ _ _) x).trans ?_
    refine Eq.trans (congrArg _ (show x = ix4 0 0 ⟨(x 2 : ℕ), by omega⟩ ⟨(x 3 : ℕ), by omega⟩ from by blk_ext)) ?_
    refine (matAt3 m c t 0 (by omega) ⟨t.val * 2 + 0, by omega⟩ rfl _ _ _ _ _ ⟨(x 2 : ℕ), by omega⟩ ⟨(x 3 : ℕ), by omega⟩).trans ?_
    refine (hG ⟨t.val * 2 + 0, by omega⟩ 3 ⟨(x 2 : ℕ), by omega⟩ ⟨(x 3 : ℕ), by omega⟩).symm.trans (congrArg G ?_)
    blk_ext [idx t]
  · intro x
    have x2_lt : (x 2 : ℕ) < 256 := (x 2).isLt
    have x3_lt : (x 3 : ℕ) < 256 := (x 3).isLt
    refine (congrFun (mat02 _ _ _ _ _) x).trans ?_
    refine Eq.trans (congrArg _ (show x = ix4 0 0 ⟨(x 2 : ℕ), by omega⟩ ⟨(x 3 : ℕ), by omega⟩ from by blk_ext)) ?_
    refine (matAt2 m c t 0 (by omega) ⟨t.val * 2 + 0, by omega⟩ rfl _ _ _ _ _ ⟨(x 2 : ℕ), by omega⟩ ⟨(x 3 : ℕ), by omega⟩).trans ?_
    refine (hG ⟨t.val * 2 + 0, by omega⟩ 2 ⟨(x 2 : ℕ), by omega⟩ ⟨(x 3 : ℕ), by omega⟩).symm.trans (congrArg G ?_)
    blk_ext [idx t]
  · intro x
    have x2_lt : (x 2 : ℕ) < 256 := (x 2).isLt
    have x3_lt : (x 3 : ℕ) < 256 := (x 3).isLt
    refine (congrFun (mat01 _ _ _ _ _) x).trans ?_
    refine Eq.trans (congrArg _ (show x = ix4 0 0 ⟨(x 2 : ℕ), by omega⟩ ⟨(x 3 : ℕ), by omega⟩ from by blk_ext)) ?_
    refine (matAt1 m c t 0 (by omega) ⟨t.val * 2 + 0, by omega⟩ rfl _ _ _ _ _ ⟨(x 2 : ℕ), by omega⟩ ⟨(x 3 : ℕ), by omega⟩).trans ?_
    refine (hG ⟨t.val * 2 + 0, by omega⟩ 1 ⟨(x 2 : ℕ), by omega⟩ ⟨(x 3 : ℕ), by omega⟩).symm.trans (congrArg G ?_)
    blk_ext [idx t]
  · intro x
    have x2_lt : (x 2 : ℕ) < 256 := (x 2).isLt
    have x3_lt : (x 3 : ℕ) < 256 := (x 3).isLt
    refine (congrFun (mat00 _ _ _ _ _) x).trans ?_
    refine Eq.trans (congrArg _ (show x = ix4 0 0 ⟨(x 2 : ℕ), by omega⟩ ⟨(x 3 : ℕ), by omega⟩ from by blk_ext)) ?_
    refine (matAt0 m c t 0 (by omega) ⟨t.val * 2 + 0, by omega⟩ rfl _ _ _ _ _ ⟨(x 2 : ℕ), by omega⟩ ⟨(x 3 : ℕ), by omega⟩).trans ?_
    refine (hG ⟨t.val * 2 + 0, by omega⟩ 0 ⟨(x 2 : ℕ), by omega⟩ ⟨(x 3 : ℕ), by omega⟩).symm.trans (congrArg G ?_)
    blk_ext [idx t]

end Cert.MlstmProof

end
-- ==== Proof.MlstmNor.lean ====
/- The normalisers that the mLSTM kernel leaves. -/
module

public import proofs.«01_k».proof.Proof.MlstmParts
public import Idealize.ShloMosaic.Lib.Pipeline.ReadBack

@[expose] public section

set_option maxRecDepth 16384

noncomputable section

namespace Cert.MlstmProof

open Idealize.ShloMosaic Idealize.ShloMosaic.TcCoe Idealize.SL.Sem
open Cert.MlstmIdeal Cert.MlstmIdeal.Gen

variable (m : (ℓ : Loc nD τ sig) → Buf (Elt Ideal) ℓ) (c : Dev nD)

set_option maxHeartbeats 1600000 in
/-- The normalisers that the mLSTM kernel leaves. -/
theorem final_nor (G : FVec Ideal S16x1x1024 .f32) (hG : ∀ (r : Fin 16) (h : Fin 4) (d : Fin 256), G (ix3 r 0 ⟨(h : ℕ) * 256 + (d : ℕ), by omega⟩) = (hd m c r h).newN d) :
    (dats m 0 c).arrAt 9 (cfgs 0).N = G := by
  refine (dats m 0 c).arrAt_eq_of_covers 9 _ (by decide +kernel) fun t _ y => ?_
  have hN : t.val < 8 := t.isLt
  blk_simp
  rw [after0_9]
  unfold Gen.outsAt0
  frame_open
  simp (disch := decide) only [↓ View.readCov_skip, ↓ View.readCov_cons_toLoadRect, ↓ View.readCov_fill]
  frame_out
  refine View.canon_append_of_piecesOf (Val := Elt Ideal) (s := S2x1x1024) (e := .f32) (fun y => G (((View.whole main_v4_2).slice (win0_9.rect t)).emb y)) [_] [_, _, _, _, _, _, _, _] ⟨?_, ?_, ?_, ?_, ?_, ?_, ?_, ?_, trivial⟩ y ?cover
  case cover => exact View.cover_of_tiled_head (S := S2x1x1024) _ _ _ (by set_option maxRecDepth 1000000 in rfl) y
  · intro x
    have x2_lt : (x 2 : ℕ) < 256 := (x 2).isLt
    refine (congrFun (nor13 _ _ _ _) x).trans ?_
    refine Eq.trans (congrArg _ (show x = ix3 0 0 ⟨(x 2 : ℕ), by omega⟩ from by blk_ext)) ?_
    refine (norAt3 m c t 1 (by omega) ⟨t.val * 2 + 1, by omega⟩ rfl _ _ _ _ ⟨(x 2 : ℕ), by omega⟩).trans ?_
    refine (hG ⟨t.val * 2 + 1, by omega⟩ 3 ⟨(x 2 : ℕ), by omega⟩).symm.trans (congrArg G ?_)
    blk_ext [idx t]
  · intro x
    have x2_lt : (x 2 : ℕ) < 256 := (x 2).isLt
    refine (congrFun (nor12 _ _ _ _) x).trans ?_
    refine Eq.trans (congrArg _ (show x = ix3 0 0 ⟨(x 2 : ℕ), by omega⟩ from by blk_ext)) ?_
    refine (norAt2 m c t 1 (by omega) ⟨t.val * 2 + 1, by omega⟩ rfl _ _ _ _ ⟨(x 2 : ℕ), by omega⟩).trans ?_
    refine (hG ⟨t.val * 2 + 1, by omega⟩ 2 ⟨(x 2 : ℕ), by omega⟩).symm.trans (congrArg G ?_)
    blk_ext [idx t]
  · intro x
    have x2_lt : (x 2 : ℕ) < 256 := (x 2).isLt
    refine (congrFun (nor11 _ _ _ _) x).trans ?_
    refine Eq.trans (congrArg _ (show x = ix3 0 0 ⟨(x 2 : ℕ), by omega⟩ from by blk_ext)) ?_
    refine (norAt1 m c t 1 (by omega) ⟨t.val * 2 + 1, by omega⟩ rfl _ _ _ _ ⟨(x 2 : ℕ), by omega⟩).trans ?_
    refine (hG ⟨t.val * 2 + 1, by omega⟩ 1 ⟨(x 2 : ℕ), by omega⟩).symm.trans (congrArg G ?_)
    blk_ext [idx t]
  · intro x
    have x2_lt : (x 2 : ℕ) < 256 := (x 2).isLt
    refine (congrFun (nor10 _ _ _ _) x).trans ?_
    refine Eq.trans (congrArg _ (show x = ix3 0 0 ⟨(x 2 : ℕ), by omega⟩ from by blk_ext)) ?_
    refine (norAt0 m c t 1 (by omega) ⟨t.val * 2 + 1, by omega⟩ rfl _ _ _ _ ⟨(x 2 : ℕ), by omega⟩).trans ?_
    refine (hG ⟨t.val * 2 + 1, by omega⟩ 0 ⟨(x 2 : ℕ), by omega⟩).symm.trans (congrArg G ?_)
    blk_ext [idx t]
  · intro x
    have x2_lt : (x 2 : ℕ) < 256 := (x 2).isLt
    refine (congrFun (nor03 _ _ _ _) x).trans ?_
    refine Eq.trans (congrArg _ (show x = ix3 0 0 ⟨(x 2 : ℕ), by omega⟩ from by blk_ext)) ?_
    refine (norAt3 m c t 0 (by omega) ⟨t.val * 2 + 0, by omega⟩ rfl _ _ _ _ ⟨(x 2 : ℕ), by omega⟩).trans ?_
    refine (hG ⟨t.val * 2 + 0, by omega⟩ 3 ⟨(x 2 : ℕ), by omega⟩).symm.trans (congrArg G ?_)
    blk_ext [idx t]
  · intro x
    have x2_lt : (x 2 : ℕ) < 256 := (x 2).isLt
    refine (congrFun (nor02 _ _ _ _) x).trans ?_
    refine Eq.trans (congrArg _ (show x = ix3 0 0 ⟨(x 2 : ℕ), by omega⟩ from by blk_ext)) ?_
    refine (norAt2 m c t 0 (by omega) ⟨t.val * 2 + 0, by omega⟩ rfl _ _ _ _ ⟨(x 2 : ℕ), by omega⟩).trans ?_
    refine (hG ⟨t.val * 2 + 0, by omega⟩ 2 ⟨(x 2 : ℕ), by omega⟩).symm.trans (congrArg G ?_)
    blk_ext [idx t]
  · intro x
    have x2_lt : (x 2 : ℕ) < 256 := (x 2).isLt
    refine (congrFun (nor01 _ _ _ _) x).trans ?_
    refine Eq.trans (congrArg _ (show x = ix3 0 0 ⟨(x 2 : ℕ), by omega⟩ from by blk_ext)) ?_
    refine (norAt1 m c t 0 (by omega) ⟨t.val * 2 + 0, by omega⟩ rfl _ _ _ _ ⟨(x 2 : ℕ), by omega⟩).trans ?_
    refine (hG ⟨t.val * 2 + 0, by omega⟩ 1 ⟨(x 2 : ℕ), by omega⟩).symm.trans (congrArg G ?_)
    blk_ext [idx t]
  · intro x
    have x2_lt : (x 2 : ℕ) < 256 := (x 2).isLt
    refine (congrFun (nor00 _ _ _ _) x).trans ?_
    refine Eq.trans (congrArg _ (show x = ix3 0 0 ⟨(x 2 : ℕ), by omega⟩ from by blk_ext)) ?_
    refine (norAt0 m c t 0 (by omega) ⟨t.val * 2 + 0, by omega⟩ rfl _ _ _ _ ⟨(x 2 : ℕ), by omega⟩).trans ?_
    refine (hG ⟨t.val * 2 + 0, by omega⟩ 0 ⟨(x 2 : ℕ), by omega⟩).symm.trans (congrArg G ?_)
    blk_ext [idx t]

end Cert.MlstmProof

end
-- ==== Proof.MlstmExp.lean ====
/- The exponents that the mLSTM kernel leaves. -/
module

public import proofs.«01_k».proof.Proof.MlstmParts
public import Idealize.ShloMosaic.Lib.Pipeline.ReadBack

@[expose] public section

set_option maxRecDepth 16384

noncomputable section

namespace Cert.MlstmProof

open Idealize.ShloMosaic Idealize.ShloMosaic.TcCoe Idealize.SL.Sem
open Cert.MlstmIdeal Cert.MlstmIdeal.Gen

variable (m : (ℓ : Loc nD τ sig) → Buf (Elt Ideal) ℓ) (c : Dev nD)

set_option maxHeartbeats 1600000 in
/-- The exponents that the mLSTM kernel leaves. -/
theorem final_exp (G : FVec Ideal S16x1x128 .f32) (hG : ∀ (r : Fin 16) (l : Fin 128), G (ix3 r 0 l) = if h : (l : ℕ) < 4 then (hd m c r ⟨(l : ℕ), h⟩).top 63 else 0) :
    (dats m 0 c).arrAt 10 (cfgs 0).N = G := by
  refine (dats m 0 c).arrAt_eq_of_covers 10 _ (by decide +kernel) fun t _ y => ?_
  have hN : t.val < 8 := t.isLt
  blk_simp
  rw [after0_10]
  unfold Gen.outsAt0
  frame_open
  simp (disch := decide) only [↓ View.readCov_skip, ↓ View.readCov_cons_toLoadRect, ↓ View.readCov_fill]
  frame_out
  refine View.canon_append_of_piecesOf (Val := Elt Ideal) (s := S2x1x128) (e := .f32) (fun y => G (((View.whole main_v4_3).slice (win0_10.rect t)).emb y)) [_] [_, _] ⟨?_, ?_, trivial⟩ y ?cover
  case cover => exact View.cover_of_tiled_head (S := S2x1x128) _ _ _ (by set_option maxRecDepth 1000000 in rfl) y
  · intro x
    have x2_lt : (x 2 : ℕ) < 128 := (x 2).isLt
    refine (congrFun (exps1 _ _) x).trans ?_
    refine Eq.trans (congrArg _ (show x = ix3 0 0 ⟨(x 2 : ℕ), by omega⟩ from by blk_ext)) ?_
    refine (expsAt m c t 1 (by omega) ⟨t.val * 2 + 1, by omega⟩ rfl _ _ ⟨(x 2 : ℕ), by omega⟩).trans ?_
    refine (hG ⟨t.val * 2 + 1, by omega⟩ ⟨(x 2 : ℕ), by omega⟩).symm.trans (congrArg G ?_)
    blk_ext [idx t]
  · intro x
    have x2_lt : (x 2 : ℕ) < 128 := (x 2).isLt
    refine (congrFun (exps0 _ _) x).trans ?_
    refine Eq.trans (congrArg _ (show x = ix3 0 0 ⟨(x 2 : ℕ), by omega⟩ from by blk_ext)) ?_
    refine (expsAt m c t 0 (by omega) ⟨t.val * 2 + 0, by omega⟩ rfl _ _ ⟨(x 2 : ℕ), by omega⟩).trans ?_
    refine (hG ⟨t.val * 2 + 0, by omega⟩ ⟨(x 2 : ℕ), by omega⟩).symm.trans (congrArg G ?_)
    blk_ext [idx t]

end Cert.MlstmProof

end
-- ==== Proof.MlstmValue.lean ====
/- The mLSTM kernel's results are the reference's, on gates and carried exponents that are numbers. -/
module

public import proofs.«01_k».proof.Defs
public import proofs.«01_k».proof.Proof.Gen.MlstmIdeal.Value
public import proofs.«01_k».proof.Proof.Gen.MlstmRefIdeal.Run
public import proofs.«01_k».proof.Proof.Gen.Pre_mlstm_finite
public import proofs.«01_k».proof.Proof.AttnFinal
public import proofs.«01_k».proof.Proof.MlstmOut
public import proofs.«01_k».proof.Proof.MlstmMat
public import proofs.«01_k».proof.Proof.MlstmNor
public import proofs.«01_k».proof.Proof.MlstmExp
public import Idealize.ShloMosaic.Lib.StableHlo.RunRead
public import Idealize.ShloMosaic.Lib.Pipeline.ValueKit
public import Idealize.ShloMosaic.Lib.Claim

@[expose] public section

set_option maxRecDepth 16384

noncomputable section

namespace Cert.MlstmProof

open Idealize.ShloMosaic Idealize.ShloMosaic.TcCoe Idealize.SL.Sem
open Cert.MlstmIdeal Cert.MlstmIdeal.Gen

variable (m : (ℓ : Loc nD τ sig) → Buf (Elt Ideal) ℓ)

/-- The precondition says that the gates and the carried exponents of every head are numbers. -/
theorem finite (c : Dev nD) (h : Cert.Pre_MlstmIdeal_mlstm_finite m) (r : Fin 16) (k : Fin 4) : (hd m c r k).Finite := by
  have hc := congrFun (h c) ix0
  obtain ⟨h0, h1⟩ := IntOp.andi_eq_one.mp hc
  haveI : Subsingleton (Pre_mlstm_finite.S_).Idx := ⟨fun a b => funext fun d => d.elim0⟩
  have hg : ∀ i, AttnProof.Real' (m ((c : Thread nD τ).loc main_arg1) i) := AttnProof.real_of_all _ _ _ _ _ _ h0 fun i => rfl
  have hm : ∀ i, AttnProof.Real' (m ((c : Thread nD τ).loc main_arg6) i) := AttnProof.real_of_all _ _ _ _ _ _ h1 fun i => rfl
  exact ⟨fun t => hg _, fun t => hg _, hm _⟩

/-- The head that the reference reads is the kernel's when their arguments agree. -/
theorem argHead_eq (m' : (ℓ : Loc MlstmRefIdeal.nD MlstmRefIdeal.τ MlstmRefIdeal.sig) → Buf (Elt Ideal) ℓ) (c : Dev nD)
    (h0 : m' ((c.tc : Thread MlstmRefIdeal.nD MlstmRefIdeal.τ).loc MlstmRefIdeal.main_arg0) = m ((c.tc : Thread nD τ).loc main_arg0))
    (h1 : m' ((c.tc : Thread MlstmRefIdeal.nD MlstmRefIdeal.τ).loc MlstmRefIdeal.main_arg1) = m ((c.tc : Thread nD τ).loc main_arg1))
    (h4 : m' ((c.tc : Thread MlstmRefIdeal.nD MlstmRefIdeal.τ).loc MlstmRefIdeal.main_arg4) = m ((c.tc : Thread nD τ).loc main_arg4))
    (h5 : m' ((c.tc : Thread MlstmRefIdeal.nD MlstmRefIdeal.τ).loc MlstmRefIdeal.main_arg5) = m ((c.tc : Thread nD τ).loc main_arg5))
    (h6 : m' ((c.tc : Thread MlstmRefIdeal.nD MlstmRefIdeal.τ).loc MlstmRefIdeal.main_arg6) = m ((c.tc : Thread nD τ).loc main_arg6)) (r : Fin 16) (h : Fin 4) :
    argHead (StableHlo.launchContents m' c) r h = hd m c r h := by
  refine Eq.trans (b := head (m' ((c.tc : Thread MlstmRefIdeal.nD MlstmRefIdeal.τ).loc MlstmRefIdeal.main_arg0)) (m' ((c.tc : Thread MlstmRefIdeal.nD MlstmRefIdeal.τ).loc MlstmRefIdeal.main_arg1))
    (m' ((c.tc : Thread MlstmRefIdeal.nD MlstmRefIdeal.τ).loc MlstmRefIdeal.main_arg4)) (m' ((c.tc : Thread MlstmRefIdeal.nD MlstmRefIdeal.τ).loc MlstmRefIdeal.main_arg5))
    (m' ((c.tc : Thread MlstmRefIdeal.nD MlstmRefIdeal.τ).loc MlstmRefIdeal.main_arg6)) r h) rfl ?_
  rw [h0, h1, h4, h5, h6]

/-- The results of the kernel are the reference's. -/
theorem algebraic : Cert.algebraic_MlstmIdeal_MlstmRefIdeal_pre_mlstm_finite := by
  pair_intro
  · run_from Cert.MlstmIdeal.Gen.run_main m g
    all_goals
      simp only [hostOps0, hostOps0_1, hostOps0_2, List.flatten_cons, List.flatten_nil, List.cons_append, List.nil_append, List.append_nil]
      after_reads_simp
  · run_from Cert.MlstmRefIdeal.Value.run m' g'
    all_goals obtain ⟨h0, h1, h2, h3, h4, h5, h6⟩ := hagree c
    all_goals have hh := argHead_eq m m' c h0 h1 h4 h5 h6
    · refine Eq.trans ?_ (final_out m c (finite m c hpre) (gated (StableHlo.launchContents m' c)) fun r i h e => ?_).symm
      · rw [← h2, ← h3]
        rfl
      · refine (gated_at _ r i h e).trans ?_
        rw [hh]
        exact congrArg₂ (fun (a : FVec Ideal S16x64x3072 .bf16) (b : FVec Ideal S4x256 .f32) => gate a (ix3 r i ⟨(h : ℕ) * 256 + (e : ℕ), by omega⟩) * (normed ((hd m c r h).mixed i) e * scale b (ix2 h e))) h2 h3
    · refine Eq.trans ?_ (final_mat m c (matrices (StableHlo.launchContents m' c)) fun r h e d => ?_).symm
      · rw [← h4]
        rfl
      · rw [matrices_at, hh]
    · refine Eq.trans ?_ (final_nor m c (normalisers (StableHlo.launchContents m' c)) fun r h d => ?_).symm
      · rw [← h5]
        rfl
      · rw [normalisers_at, hh]
    · refine Eq.trans ?_ (final_exp m c (exponents (StableHlo.launchContents m' c)) fun r l => ?_).symm
      · rfl
      · rw [exponents_at]
        simp only [hh]

end Cert.MlstmProof

end
-- ==== Proof.lean ====
/- The claims, from the modules that prove them: the frames in `Frames`, each value claim in its own module. -/
module

public import proofs.«01_k».proof.Defs
public import proofs.«01_k».proof.Proof.Gen.Attn
public import proofs.«01_k».proof.Proof.Gen.AttnIdeal
public import proofs.«01_k».proof.Proof.Gen.AttnRefIdeal
public import proofs.«01_k».proof.Proof.Gen.Mqkv
public import proofs.«01_k».proof.Proof.Gen.MqkvIdeal
public import proofs.«01_k».proof.Proof.Gen.MqkvRefIdeal
public import proofs.«01_k».proof.Proof.Gen.Gates
public import proofs.«01_k».proof.Proof.Gen.GatesIdeal
public import proofs.«01_k».proof.Proof.Gen.GatesRefIdeal
public import proofs.«01_k».proof.Proof.Gen.Aqkv
public import proofs.«01_k».proof.Proof.Gen.AqkvIdeal
public import proofs.«01_k».proof.Proof.Gen.AqkvRefIdeal
public import proofs.«01_k».proof.Proof.Gen.Mix
public import proofs.«01_k».proof.Proof.Gen.MixIdeal
public import proofs.«01_k».proof.Proof.Gen.MixRefIdeal
public import proofs.«01_k».proof.Proof.Gen.Mlstm
public import proofs.«01_k».proof.Proof.Gen.MlstmIdeal
public import proofs.«01_k».proof.Proof.Gen.MlstmRefIdeal
public import proofs.«01_k».proof.Proof.Gen.Pre_attn_finite
public import proofs.«01_k».proof.Proof.Gen.Pre_mlstm_finite
public import proofs.«01_k».proof.Proof.Frames
public import proofs.«01_k».proof.Proof.AttnValue
public import proofs.«01_k».proof.Proof.MqkvValue
public import proofs.«01_k».proof.Proof.GatesValue
public import proofs.«01_k».proof.Proof.AqkvValue
public import proofs.«01_k».proof.Proof.MixValue
public import proofs.«01_k».proof.Proof.MlstmValue

@[expose] public section

noncomputable section

namespace Cert.Proof

/-- Every claim holds: the side conditions of the programs first, then each claim by name. -/
theorem claim : Cert.Claim :=
  ⟨Cert.Attn.Gen.facts,
   Cert.AttnIdeal.Gen.facts,
   Cert.AttnRefIdeal.Gen.facts,
   Cert.Mqkv.Gen.facts,
   Cert.MqkvIdeal.Gen.facts,
   Cert.MqkvRefIdeal.Gen.facts,
   Cert.Gates.Gen.facts,
   Cert.GatesIdeal.Gen.facts,
   Cert.GatesRefIdeal.Gen.facts,
   Cert.Aqkv.Gen.facts,
   Cert.AqkvIdeal.Gen.facts,
   Cert.AqkvRefIdeal.Gen.facts,
   Cert.Mix.Gen.facts,
   Cert.MixIdeal.Gen.facts,
   Cert.MixRefIdeal.Gen.facts,
   Cert.Mlstm.Gen.facts,
   Cert.MlstmIdeal.Gen.facts,
   Cert.MlstmRefIdeal.Gen.facts,
   Cert.Pre_attn_finite.Gen.facts,
   Cert.Pre_mlstm_finite.Gen.facts,
   Cert.Frames.attn,
   Cert.Frames.attn_ideal,
   Cert.Frames.attn_ideal_pre,
   Cert.Frames.attn_ref,
   Cert.Frames.attn_ref_pre,
   Cert.Frames.mqkv,
   Cert.Frames.mqkv_ideal,
   Cert.Frames.mqkv_ref,
   Cert.Frames.gates,
   Cert.Frames.gates_ideal,
   Cert.Frames.gates_ref,
   Cert.Frames.aqkv,
   Cert.Frames.aqkv_ideal,
   Cert.Frames.aqkv_ref,
   Cert.Frames.mix,
   Cert.Frames.mix_ideal,
   Cert.Frames.mix_ref,
   Cert.Frames.mlstm,
   Cert.Frames.mlstm_ideal,
   Cert.Frames.mlstm_ideal_pre,
   Cert.Frames.mlstm_ref,
   Cert.Frames.mlstm_ref_pre,
   Cert.Frames.attn_preserves,
   Cert.AttnProof.algebraic,
   Cert.Frames.mqkv_preserves,
   Cert.MqkvProof.algebraic,
   Cert.Frames.gates_preserves,
   Cert.GatesProof.algebraic,
   Cert.Frames.aqkv_preserves,
   Cert.AqkvProof.algebraic,
   Cert.Frames.mix_preserves,
   Cert.MixProof.algebraic,
   Cert.Frames.mlstm_preserves,
   Cert.MlstmProof.algebraic⟩

end Cert.Proof

end
